-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x32x96 : Shape := ⟨3, ![4, 32, 96]⟩
abbrev S4x32 : Shape := ⟨2, ![4, 32]⟩
abbrev S800x300x96 : Shape := ⟨3, ![800, 300, 96]⟩
abbrev S800x300 : Shape := ⟨2, ![800, 300]⟩
abbrev S800 : Shape := ⟨1, ![800]⟩
abbrev S4 : Shape := ⟨1, ![4]⟩
abbrev S4x200 : Shape := ⟨2, ![4, 200]⟩
abbrev S_ : Shape := ⟨0, ![]⟩

class Facts : Prop where
  bcast_S_S4x32 : S_.BroadcastsInDim S4x32 (![] : Fin 0 → Fin S4x32.rank)
  bcast_S_S4 : S_.BroadcastsInDim S4 (![] : Fin 0 → Fin S4.rank)

variable [Facts]

def fn {F : FTy → Type} [FloatOps F] (main_arg0 : FVec F S4x32x96 .fp8e4m3) (main_arg1 : FVec F S4x32 .f32) (main_arg2 : FVec F S800x300x96 .fp8e4m3) (main_arg3 : FVec F S800x300 .f32) (main_arg4 : IVec S800 32) (main_arg5 : IVec S4 32) (main_arg6 : FVec F S4x200 .f32) : IVec S4x32 1 × IVec S4 1 :=
  let main_cst : FVec F S_ .f32 := constant S_ .f32 0x00000000#32
  let main_v0 : FVec F S4x32 .f32 := broadcastInDim S4x32 ![] bcast_S_S4x32 main_cst
  let main_v1 : IVec S4x32 1 := cmpf .oge main_arg1 main_v0
  let main_c : IVec S_ 32 := constantI S_ 32 0#32
  let main_v2 : IVec S4 32 := broadcastInDim S4 ![] bcast_S_S4 main_c
  let main_v3 : IVec S4 1 := cmpi .sge main_arg5 main_v2
  let main_c_0 : IVec S_ 32 := constantI S_ 32 800#32
  let main_v4 : IVec S4 32 := broadcastInDim S4 ![] bcast_S_S4 main_c_0
  let main_v5 : IVec S4 1 := cmpi .slt main_arg5 main_v4
  let main_v6 : IVec S4 1 := andi main_v3 main_v5
  (main_v1, main_v6)
-- ==== Kernel.lean ====
abbrev S4x32x96 : Shape := ⟨3, ![4, 32, 96]⟩
abbrev S4x32 : Shape := ⟨2, ![4, 32]⟩
abbrev S800x300x96 : Shape := ⟨3, ![800, 300, 96]⟩
abbrev S800x300 : Shape := ⟨2, ![800, 300]⟩
abbrev S800 : Shape := ⟨1, ![800]⟩
abbrev S4 : Shape := ⟨1, ![4]⟩
abbrev S4x200 : Shape := ⟨2, ![4, 200]⟩
abbrev S300x96x800 : Shape := ⟨3, ![300, 96, 800]⟩
abbrev S300x800 : Shape := ⟨2, ![300, 800]⟩
abbrev S1x800 : Shape := ⟨2, ![1, 800]⟩
abbrev S4x800 : Shape := ⟨2, ![4, 800]⟩
abbrev S4x32x800 : Shape := ⟨3, ![4, 32, 800]⟩
abbrev S40x96x800 : Shape := ⟨3, ![40, 96, 800]⟩
abbrev S40x800 : Shape := ⟨2, ![40, 800]⟩
abbrev S128x800 : Shape := ⟨2, ![128, 800]⟩
abbrev S96x800 : Shape := ⟨2, ![96, 800]⟩
abbrev S128x96 : Shape := ⟨2, ![128, 96]⟩
abbrev S1x96x800 : Shape := ⟨3, ![1, 96, 800]⟩
abbrev S32x4 : Shape := ⟨2, ![32, 4]⟩
abbrev S32x1 : Shape := ⟨2, ![32, 1]⟩
abbrev S1x32x96 : Shape := ⟨3, ![1, 32, 96]⟩
abbrev S32x96 : Shape := ⟨2, ![32, 96]⟩
abbrev S1x256 : Shape := ⟨2, ![1, 256]⟩
abbrev S128x256 : Shape := ⟨2, ![128, 256]⟩
abbrev S1x96x256 : Shape := ⟨3, ![1, 96, 256]⟩
abbrev S96x256 : Shape := ⟨2, ![96, 256]⟩
abbrev S1x32 : Shape := ⟨2, ![1, 32]⟩
abbrev S128x32 : Shape := ⟨2, ![128, 32]⟩
abbrev S1x96x32 : Shape := ⟨3, ![1, 96, 32]⟩
abbrev S96x32 : Shape := ⟨2, ![96, 32]⟩
abbrev S32x800 : Shape := ⟨2, ![32, 800]⟩
abbrev S1x32x800 : Shape := ⟨3, ![1, 32, 800]⟩
abbrev S4x1 : Shape := ⟨2, ![4, 1]⟩
abbrev S1 : Shape := ⟨1, ![1]⟩
abbrev S1x1 : Shape := ⟨2, ![1, 1]⟩
abbrev S1x1x1 : Shape := ⟨3, ![1, 1, 1]⟩
abbrev S4x800x32 : Shape := ⟨3, ![4, 800, 32]⟩

abbrev nBuf : Space → Nat
  | .hbm => 15
  | .vmem => 14
  | .smem => 3
  | _ => 0

abbrev bufTy : (tb : Table) → Fin (tcTables nBuf tb) → BufTy
  | .hbm, ⟨0, _⟩ => ⟨S4x32x96, .fp8e4m3⟩
  | .hbm, ⟨1, _⟩ => ⟨S4x32, .f32⟩
  | .hbm, ⟨2, _⟩ => ⟨S800x300x96, .fp8e4m3⟩
  | .hbm, ⟨3, _⟩ => ⟨S800x300, .f32⟩
  | .hbm, ⟨4, _⟩ => ⟨S800, .i32⟩
  | .hbm, ⟨5, _⟩ => ⟨S4, .i32⟩
  | .hbm, ⟨6, _⟩ => ⟨S4x200, .f32⟩
  | .hbm, ⟨7, _⟩ => ⟨S300x96x800, .fp8e4m3⟩
  | .hbm, ⟨8, _⟩ => ⟨S300x800, .f32⟩
  | .hbm, ⟨9, _⟩ => ⟨S1x800, .i32⟩
  | .hbm, ⟨10, _⟩ => ⟨S4x800, .f32⟩
  | .hbm, ⟨11, _⟩ => ⟨S4, .f32⟩
  | .hbm, ⟨12, _⟩ => ⟨S4, .f32⟩
  | .hbm, ⟨13, _⟩ => ⟨S4x32x800, .f32⟩
  | .hbm, ⟨14, _⟩ => ⟨S4x800x32, .f32⟩
  | .local _ .vmem, ⟨0, _⟩ => ⟨S4x32x96, .fp8e4m3⟩
  | .local _ .vmem, ⟨1, _⟩ => ⟨S4x32, .f32⟩
  | .local _ .vmem, ⟨2, _⟩ => ⟨S40x96x800, .fp8e4m3⟩
  | .local _ .vmem, ⟨3, _⟩ => ⟨S40x96x800, .fp8e4m3⟩
  | .local _ .vmem, ⟨4, _⟩ => ⟨S40x800, .f32⟩
  | .local _ .vmem, ⟨5, _⟩ => ⟨S40x800, .f32⟩
  | .local _ .vmem, ⟨6, _⟩ => ⟨S1x800, .i32⟩
  | .local _ .vmem, ⟨7, _⟩ => ⟨S4x200, .f32⟩
  | .local _ .vmem, ⟨8, _⟩ => ⟨S4x800, .f32⟩
  | .local _ .vmem, ⟨9, _⟩ => ⟨S4x32x800, .f32⟩
  | .local _ .vmem, ⟨10, _⟩ => ⟨S128x800, .f32⟩
  | .local _ .vmem, ⟨11, _⟩ => ⟨S96x800, .fp8e4m3⟩
  | .local _ .vmem, ⟨12, _⟩ => ⟨S1x800, .f32⟩
  | .local _ .vmem, ⟨13, _⟩ => ⟨S128x96, .fp8e4m3⟩
  | .local _ .smem, ⟨0, _⟩ => ⟨S4, .i32⟩
  | .local _ .smem, ⟨1, _⟩ => ⟨S4, .f32⟩
  | .local _ .smem, ⟨2, _⟩ => ⟨S4, .f32⟩
  | _, _ => ⟨S4x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg10_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg5_0 : Ref sig .tc := ⟨.smem, 0, rfl⟩
abbrev cc0_stg8_0 : Ref sig .tc := ⟨.smem, 1, rfl⟩
abbrev cc0_stg9_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_1395 : BitVec 32 := 7#32
  let v2601 : BitVec 1 := Scalar.cmpi .eq arg0 c7_i32_1395
  let v2602 : BitVec 32 := Scalar.extui v2601
  let c0_i32_1396 : BitVec 32 := 0#32
  let v2603 : BitVec 1 := Scalar.cmpi .ne v2602 c0_i32_1396
  v2603

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x32x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S40x96x800 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x800 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S4 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x800 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x32x800 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4x32x96 : Shape := ⟨3, ![4, 32, 96]⟩
abbrev S4x32 : Shape := ⟨2, ![4, 32]⟩
abbrev S800x300x96 : Shape := ⟨3, ![800, 300, 96]⟩
abbrev S800x300 : Shape := ⟨2, ![800, 300]⟩
abbrev S800 : Shape := ⟨1, ![800]⟩
abbrev S4 : Shape := ⟨1, ![4]⟩
abbrev S4x200 : Shape := ⟨2, ![4, 200]⟩
abbrev S300 : Shape := ⟨1, ![300]⟩
abbrev S1x300 : Shape := ⟨2, ![1, 300]⟩
abbrev S800x1 : Shape := ⟨2, ![800, 1]⟩
abbrev S800x300x1x1 : Shape := ⟨4, ![800, 300, 1, 1]⟩
abbrev S800x300x4x32 : Shape := ⟨4, ![800, 300, 4, 32]⟩
abbrev S1x1x4x32 : Shape := ⟨4, ![1, 1, 4, 32]⟩
abbrev S_ : Shape := ⟨0, ![]⟩
abbrev S800x4x32 : Shape := ⟨3, ![800, 4, 32]⟩
abbrev S4x800x32 : Shape := ⟨3, ![4, 800, 32]⟩
abbrev S4x800 : Shape := ⟨2, ![4, 800]⟩
abbrev S4x1 : Shape := ⟨2, ![4, 1]⟩
abbrev S4x1x1 : Shape := ⟨3, ![4, 1, 1]⟩
abbrev S1 : Shape := ⟨1, ![1]⟩
abbrev S1x1x1 : Shape := ⟨3, ![1, 1, 1]⟩
abbrev S4x4x200 : Shape := ⟨3, ![4, 4, 200]⟩
abbrev S4x2 : Shape := ⟨2, ![4, 2]⟩

abbrev nBuf : Space → Nat
  | .hbm => 133
  | .vmem => 4
  | .smem => 0
  | _ => 0

abbrev hbmTy0_0 (i : Nat) : BufTy := match i % 128 with
  | 0 => ⟨S4x32x96, .fp8e4m3⟩
  | 1 => ⟨S4x32, .f32⟩
  | 2 => ⟨S800x300x96, .fp8e4m3⟩
  | 3 => ⟨S800x300, .f32⟩
  | 4 => ⟨S800, .i32⟩
  | 5 => ⟨S4, .i32⟩
  | 6 => ⟨S4x200, .f32⟩
  | 7 => ⟨S4x32x96, .f32⟩
  | 8 => ⟨S800x300x96, .f32⟩
  | 9 => ⟨S300, .i32⟩
  | 10 => ⟨S1x300, .i32⟩
  | 11 => ⟨S800x1, .i32⟩
  | 12 => ⟨S800x300, .i32⟩
  | 13 => ⟨S800x300, .i32⟩
  | 14 => ⟨S800x300, .i1⟩
  | 15 => ⟨S800x300x1x1, .i1⟩
  | 16 => ⟨S800x300x4x32, .f32⟩
  | 17 => ⟨S1x1x4x32, .f32⟩
  | 18 => ⟨S800x300x4x32, .f32⟩
  | 19 => ⟨S800x300x4x32, .f32⟩
  | 20 => ⟨S800x300x1x1, .f32⟩
  | 21 => ⟨S800x300x4x32, .f32⟩
  | 22 => ⟨S800x300x4x32, .f32⟩
  | 23 => ⟨S_, .f32⟩
  | 24 => ⟨S_, .f32⟩
  | 25 => ⟨S800x300x4x32, .i1⟩
  | 26 => ⟨S800x300x4x32, .f32⟩
  | 27 => ⟨S800x300x4x32, .f32⟩
  | 28 => ⟨S_, .f32⟩
  | 29 => ⟨S800x4x32, .f32⟩
  | 30 => ⟨S4x800x32, .f32⟩
  | 31 => ⟨S_, .f32⟩
  | 32 => ⟨S4x800, .f32⟩
  | 33 => ⟨S_, .f32⟩
  | 34 => ⟨S4, .f32⟩
  | 35 => ⟨S4x1, .f32⟩
  | 36 => ⟨S4x1, .f32⟩
  | 37 => ⟨S_, .f32⟩
  | 38 => ⟨S4x1, .f32⟩
  | 39 => ⟨S4x1, .i1⟩
  | 40 => ⟨S_, .f32⟩
  | 41 => ⟨S_, .f32⟩
  | 42 => ⟨S4x1, .f32⟩
  | 43 => ⟨S4x1, .f32⟩
  | 44 => ⟨S4x800, .f32⟩
  | 45 => ⟨S4x800, .f32⟩
  | 46 => ⟨S4x800, .f32⟩
  | 47 => ⟨S_, .f32⟩
  | 48 => ⟨S4, .f32⟩
  | 49 => ⟨S4, .f32⟩
  | 50 => ⟨S4, .f32⟩
  | 51 => ⟨S4, .f32⟩
  | 52 => ⟨S4x1, .i32⟩
  | 53 => ⟨S_, .i32⟩
  | 54 => ⟨S4x1, .i32⟩
  | 55 => ⟨S4x1, .i1⟩
  | 56 => ⟨S_, .i32⟩
  | 57 => ⟨S4x1, .i32⟩
  | 58 => ⟨S4x1, .i32⟩
  | 59 => ⟨S4x1, .i32⟩
  | 60 => ⟨S4x1x1, .i32⟩
  | 61 => ⟨S1, .i32⟩
  | 62 => ⟨S_, .i32⟩
  | 63 => ⟨S4x1x1, .i32⟩
  | 64 => ⟨S4x1x1, .i1⟩
  | 65 => ⟨S1x1x1, .i32⟩
  | 66 => ⟨S4x1x1, .i32⟩
  | 67 => ⟨S4x1x1, .i1⟩
  | 68 => ⟨S4x1x1, .i1⟩
  | 69 => ⟨S_, .i1⟩
  | 70 => ⟨S4x1, .i1⟩
  | 71 => ⟨S4x1, .f32⟩
  | 72 => ⟨S_, .f32⟩
  | 73 => ⟨S4x1, .f32⟩
  | 74 => ⟨S4x1, .f32⟩
  | 75 => ⟨S4, .f32⟩
  | 76 => ⟨S4, .f32⟩
  | 77 => ⟨S4, .i32⟩
  | 78 => ⟨S4x4x200, .f32⟩
  | 79 => ⟨S_, .i32⟩
  | 80 => ⟨S4, .i32⟩
  | 81 => ⟨S4, .i1⟩
  | 82 => ⟨S_, .i32⟩
  | 83 => ⟨S4, .i32⟩
  | 84 => ⟨S4, .i32⟩
  | 85 => ⟨S4, .i32⟩
  | 86 => ⟨S_, .i32⟩
  | 87 => ⟨S4, .i32⟩
  | 88 => ⟨S4, .i1⟩
  | 89 => ⟨S_, .i32⟩
  | 90 => ⟨S4, .i32⟩
  | 91 => ⟨S4, .i32⟩
  | 92 => ⟨S4, .i32⟩
  | 93 => ⟨S4x1, .i32⟩
  | 94 => ⟨S4x1, .i32⟩
  | 95 => ⟨S4x2, .i32⟩
  | 96 => ⟨S4x200, .f32⟩
  | 97 => ⟨S_, .f32⟩
  | 98 => ⟨S4, .f32⟩
  | 99 => ⟨S_, .f32⟩
  | 100 => ⟨S4, .f32⟩
  | 101 => ⟨S4, .f32⟩
  | 102 => ⟨S4x1, .f32⟩
  | 103 => ⟨S4x200, .f32⟩
  | 104 => ⟨S4x200, .f32⟩
  | 105 => ⟨S4x200, .f32⟩
  | 106 => ⟨S_, .f32⟩
  | 107 => ⟨S4, .f32⟩
  | 108 => ⟨S4x1, .f32⟩
  | 109 => ⟨S4x1, .f32⟩
  | 110 => ⟨S4x200, .f32⟩
  | 111 => ⟨S4x200, .f32⟩
  | 112 => ⟨S_, .f32⟩
  | 113 => ⟨S4, .f32⟩
  | 114 => ⟨S_, .f32⟩
  | 115 => ⟨S4, .f32⟩
  | 116 => ⟨S4, .f32⟩
  | 117 => ⟨S4x1, .f32⟩
  | 118 => ⟨S4x200, .f32⟩
  | 119 => ⟨S4x200, .f32⟩
  | 120 => ⟨S4x200, .f32⟩
  | 121 => ⟨S_, .f32⟩
  | 122 => ⟨S4, .f32⟩
  | 123 => ⟨S4x1, .f32⟩
  | 124 => ⟨S4x1, .f32⟩
  | 125 => ⟨S4x200, .f32⟩
  | 126 => ⟨S4x200, .f32⟩
  | 127 => ⟨S4x200, .f32⟩
  | _ => ⟨S4x32x96, .fp8e4m3⟩

abbrev hbmTy0_1 (i : Nat) : BufTy := match i % 128 with
  | 0 => ⟨S4x200, .f32⟩
  | 1 => ⟨S4x200, .f32⟩
  | 2 => ⟨S_, .f32⟩
  | 3 => ⟨S4, .f32⟩
  | 4 => ⟨S4, .f32⟩
  | _ => ⟨S4x32x96, .fp8e4m3⟩

abbrev hbmTy (i : Nat) : BufTy := match i / 128 with
  | 0 => hbmTy0_0 i
  | 1 => hbmTy0_1 i
  | _ => ⟨S4x32x96, .fp8e4m3⟩

abbrev bufTy : (tb : Table) → Fin (tcTables nBuf tb) → BufTy
  | .hbm, ⟨i, _⟩ => hbmTy i
  | .local _ .vmem, ⟨0, _⟩ => ⟨S4x32x96, .fp8e4m3⟩
  | .local _ .vmem, ⟨1, _⟩ => ⟨S800x300x96, .fp8e4m3⟩
  | .local _ .vmem, ⟨2, _⟩ => ⟨S4x32x96, .f32⟩
  | .local _ .vmem, ⟨3, _⟩ => ⟨S800x300x96, .f32⟩
  | _, _ => ⟨S4x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_cst : Ref sig .tc := ⟨.hbm, 72, rfl⟩
abbrev main_call2_v14 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_c : Ref sig .tc := ⟨.hbm, 79, rfl⟩
abbrev main_v38 : Ref sig .tc := ⟨.hbm, 80, rfl⟩
abbrev main_v39 : Ref sig .tc := ⟨.hbm, 81, rfl⟩
abbrev main_c_6 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_c_7 : Ref sig .tc := ⟨.hbm, 86, rfl⟩
abbrev main_v43 : Ref sig .tc := ⟨.hbm, 87, rfl⟩
abbrev main_v44 : Ref sig .tc := ⟨.hbm, 88, rfl⟩
abbrev main_c_8 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_call3_cst : Ref sig .tc := ⟨.hbm, 97, rfl⟩
abbrev main_call3_v0 : Ref sig .tc := ⟨.hbm, 98, rfl⟩
abbrev main_call3_cst_0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_v6 : Ref sig .tc := ⟨.hbm, 105, rfl⟩
abbrev main_call3_cst_1 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_v52 : Ref sig .tc := ⟨.hbm, 111, rfl⟩
abbrev main_call4_cst : Ref sig .tc := ⟨.hbm, 112, rfl⟩
abbrev main_call4_v0 : Ref sig .tc := ⟨.hbm, 113, rfl⟩
abbrev main_call4_cst_0 : Ref sig .tc := ⟨.hbm, 114, rfl⟩
abbrev main_call4_v1 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_v6 : Ref sig .tc := ⟨.hbm, 120, rfl⟩
abbrev main_call4_cst_1 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_cst_9 : Ref sig .tc := ⟨.hbm, 130, rfl⟩
abbrev main_v57 : Ref sig .tc := ⟨.hbm, 131, rfl⟩
abbrev main_v58 : Ref sig .tc := ⟨.hbm, 132, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x32x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S800x300x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x32x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S800x300x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRuns.lean ====
/- What the three body runs of the kernel share: its branch conditions in closed form over the grid points,
   where its output windows are idle, and the staging and scratch memory references the pipeline passes. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel

/-! ## The kernel body on any staging memrefs: a subtype the run finds -/

/-- One staging buffer of output window 7, through which its contents are stated (`View.read_writes_of_cover`: the
    choice does not matter). -/
abbrev VO0_7 : View sig .tc .vmem S4x800 .f32 := (Memref.whole cc0_stg7_0 : Memref sig .tc .vmem S4x800 .f32).view
/-- One staging buffer of output window 8, through which its contents are stated (`View.read_writes_of_cover`: the
    choice does not matter). -/
abbrev VO0_8 : View sig .tc .smem S4 .f32 := (Memref.whole cc0_stg8_0 : Memref sig .tc .smem S4 .f32).view
/-- One staging buffer of output window 9, through which its contents are stated (`View.read_writes_of_cover`: the
    choice does not matter). -/
abbrev VO0_9 : View sig .tc .smem S4 .f32 := (Memref.whole cc0_stg9_0 : Memref sig .tc .smem S4 .f32).view
/-- One staging buffer of output window 10, through which its contents are stated (`View.read_writes_of_cover`: the
    choice does not matter). -/
abbrev VO0_10 : View sig .tc .vmem S4x32x800 .f32 := (Memref.whole cc0_stg10_0 : Memref sig .tc .vmem S4x32x800 .f32).view
/-- Each window's current staging memref at point `t`, spelled as the pipeline passes it (`bodyAt0`), and its wholeness. -/
abbrev ms0_0 (t : Fin cfg0.N) : Memref sig .tc .vmem S4x32x96 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S40x96x800 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S40x800 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x800 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S4 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x200 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x800 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S4 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S4 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x32x800 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x800 .f32 := Memref.whole cc0_scratch0
abbrev scM0_1 : Memref sig .tc .vmem S96x800 .fp8e4m3 := Memref.whole cc0_scratch1
abbrev scM0_2 : Memref sig .tc .vmem S1x800 .f32 := Memref.whole cc0_scratch2
abbrev scM0_3 : Memref sig .tc .vmem S128x96 .fp8e4m3 := Memref.whole cc0_scratch3
/-- The scratch `arg12` the kernel carries between points, as a view: what it holds is stated through it. -/
abbrev VS0_0 : View sig .tc .vmem S128x800 .f32 := scM0_0.view
/-- The scratch `arg13` the kernel carries between points, as a view: what it holds is stated through it. -/
abbrev VS0_1 : View sig .tc .vmem S96x800 .fp8e4m3 := scM0_1.view
/-- The scratch `arg14` the kernel carries between points, as a view: what it holds is stated through it. -/
abbrev VS0_2 : View sig .tc .vmem S1x800 .f32 := scM0_2.view
/-- The scratch `arg15` the kernel carries between points, as a view: what it holds is stated through it. -/
abbrev VS0_3 : View sig .tc .vmem S128x96 .fp8e4m3 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KernelRunA.lean ====
/- The whole-body run of the kernel at the first grid point (initialisation, then the running maximum):
   the pieces each buffer ends with are the witness the run finds. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2780000 in
/-- What the body's stores leave in each output's staging memref, as pieces (last first) IN CASE A (`scf.if` 0 taken, `scf.if` 1 not taken: points 0), WITH the
    proof that on whole staging memrefs — the inputs' at their contents, the outputs it leaves idle (7, 8, 9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) :
    Σ' (L7 : List (View.Piece (Elt F) S4x800 .f32)), Σ' (L8 : List (View.Piece (Elt F) S4 .f32)), Σ' (L9 : List (View.Piece (Elt F) S4 .f32)), Σ' (L10 : List (View.Piece (Elt F) S4x32x800 .f32)), Σ' (LS0 : List (View.Piece (Elt F) S128x800 .f32)), Σ' (LS1 : List (View.Piece (Elt F) S96x800 .fp8e4m3)), Σ' (LS2 : List (View.Piece (Elt F) S1x800 .f32)), { LS3 : List (View.Piece (Elt F) S128x96 .fp8e4m3) //
      ∀ (xi7 : Vec F S4x800 .f32) (xi8 : Vec F S4 .f32) (xi9 : Vec F S4 .f32) (xi10 : Vec F S4x32x800 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_maxsim_kd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], [], [], ?_, ?_, ?_, ?_, fun xi7 xi8 xi9 xi10 E K => ?run⟩
  case run =>
    simp only [cc0_maxsim_kd_eq_skeleton]; unfold cc0_maxsim_kd_skel
    simp only [k0_part75_eq_skeleton, k0_part7_eq_skeleton, k0_part1_eq_skeleton, k0_part2_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    isplitl [HS1]; · iexists _; iexact HS1
    isplitl [HS2]; · iexists _; iexact HS2
    iexists _; iexact HS3

end Cert.Kernel.Gen

end
-- ==== Proof.KernelRunB.lean ====
/- The whole-body run of the kernel at the middle grid points (the running maximum only):
   the pieces each buffer ends with are the witness the run finds. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2652000 in
/-- What the body's stores leave in each output's staging memref, as pieces (last first) IN CASE B (`scf.if` 0 not taken, `scf.if` 1 not taken: points 1, 2, 3, 4, 5, 6), WITH the
    proof that on whole staging memrefs — the inputs' at their contents, the outputs it leaves idle (7, 8, 9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    Σ' (L7 : List (View.Piece (Elt F) S4x800 .f32)), Σ' (L8 : List (View.Piece (Elt F) S4 .f32)), Σ' (L9 : List (View.Piece (Elt F) S4 .f32)), Σ' (L10 : List (View.Piece (Elt F) S4x32x800 .f32)), Σ' (LS0 : List (View.Piece (Elt F) S128x800 .f32)), Σ' (LS1 : List (View.Piece (Elt F) S96x800 .fp8e4m3)), Σ' (LS2 : List (View.Piece (Elt F) S1x800 .f32)), { LS3 : List (View.Piece (Elt F) S128x96 .fp8e4m3) //
      ∀ (xi7 : Vec F S4x800 .f32) (xi8 : Vec F S4 .f32) (xi9 : Vec F S4 .f32) (xi10 : Vec F S4x32x800 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xi10 ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ owns (c : Thread nD τ) arg13 fullShare xs1 ∗ owns (c : Thread nD τ) arg14 fullShare xs2 ∗ owns (c : Thread nD τ) arg15 fullShare xs3) -∗ K ⟨⟩))
          ⊢ wp frame (wpE (defs₀ (F := F)) Variants.none c none) E (cc0_maxsim_kd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], [], [], ?_, [], [], [], fun xi7 xi8 xi9 xi10 E K => ?run⟩
  case run =>
    simp only [cc0_maxsim_kd_eq_skeleton]; unfold cc0_maxsim_kd_skel
    simp only [k0_part75_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1; obtain rfl := harg14.eq_unread hfs2; obtain rfl := harg15.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    isplitl [HS1]
    · iexists _; isplitr; · ipureintro; exact harg13.read_unread _
      iexact HS1
    isplitl [HS2]
    · iexists _; isplitr; · ipureintro; exact harg14.read_unread _
      iexact HS2
    iexists _; isplitr; · ipureintro; exact harg15.read_unread _
    iexact HS3

end Cert.Kernel.Gen

end
-- ==== Proof.KernelRunC.lean ====
/- The whole-body run of the kernel at the last grid point (the running maximum, then the losses):
   the pieces each buffer ends with are the witness the run finds. -/
module

public import proofs.«01_k».proof.Proof.KernelRunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2928000 in
/-- What the body's stores leave in each output's staging memref, as pieces (last first) IN CASE C (`scf.if` 0 not taken, `scf.if` 1 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    Σ' (L7 : List (View.Piece (Elt F) S4x800 .f32)), Σ' (L8 : List (View.Piece (Elt F) S4 .f32)), Σ' (L9 : List (View.Piece (Elt F) S4 .f32)), Σ' (L10 : List (View.Piece (Elt F) S4x32x800 .f32)), Σ' (LS0 : List (View.Piece (Elt F) S128x800 .f32)), Σ' (LS1 : List (View.Piece (Elt F) S96x800 .fp8e4m3)), Σ' (LS2 : List (View.Piece (Elt F) S1x800 .f32)), { LS3 : List (View.Piece (Elt F) S128x96 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ owns (c : Thread nD τ) arg13 fullShare xs1 ∗ owns (c : Thread nD τ) arg14 fullShare xs2 ∗ owns (c : Thread nD τ) arg15 fullShare xs3) -∗ K ⟨⟩))
          ⊢ wp frame (wpE (defs₀ (F := F)) Variants.none c none) E (cc0_maxsim_kd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, [], [], [], fun E K => ?run⟩
  case run =>
    simp only [cc0_maxsim_kd_eq_skeleton]; unfold cc0_maxsim_kd_skel
    simp only [k0_part75_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs0; obtain rfl := harg13.eq_unread hfs1; obtain rfl := harg14.eq_unread hfs2; obtain rfl := harg15.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]
    · iexists _; isplitr; · ipureintro; exact harg13.read_unread _
      iexact HS1
    isplitl [HS2]
    · iexists _; isplitr; · ipureintro; exact harg14.read_unread _
      iexact HS2
    iexists _; isplitr; · ipureintro; exact harg15.read_unread _
    iexact HS3

end Cert.Kernel.Gen

end
-- ==== Proof.KernelFold.lean ====
/- One grid point's running maximum, written as a fold over the forty rows of its block: the lists of stores the
   whole-body runs find hold the same values, unrolled. -/
module

public import proofs.«01_k».proof.Proof.KernelRunC

@[expose] public section

set_option maxRecDepth 16384

noncomputable section

namespace Cert.Kernel.Gen

open Idealize.ShloMosaic Idealize.ShloMosaic.TcCoe Idealize.ShloMosaic.Tactic
open Idealize.ShloMosaic.Rounds

variable {F : FTy → Type} [FloatOps F]

/-- The position of row `n` of the block at grid point `i`. -/
def rowAt (i : grid0.Coords) (n : ℕ) : BitVec 32 := Scalar.addi (Scalar.muli (BitVec.ofNat 32 (i 0).val) 40#32) (BitVec.ofNat 32 n)

/-- A load from a whole memref held at the contents that read `X` is `X` at the load's places. -/
theorem ld_unread {κ : Kind} {sp : Space} {s : Shape} {e : EltTy} {m : Memref sig κ sp s e} (h : m.IsWhole)
    (X : s.Idx → Elt F e) (B : LoadRect s) :
    View.readAt (Elt F) m.view B (h.unread X) = fun y => X (B.idx y) :=
  funext fun _ => congrFun (h.read_unread X) _

/-- The documents' effective lengths, a chunk of 256 columns. -/
def lim256 (len : Vec F S1x256 .i32) : IVec S1x256 32 :=
  minsi (shapeCast S1x256 len shapeCasts_S1x256_S1x256) (broadcast S1x256 300#32)

/-- Which of a chunk's 256 documents have a token at position `b`. -/
def valid256 (len : Vec F S1x256 .i32) (b : BitVec 32) : IVec S1x256 1 :=
  cmpi .slt (broadcast S1x256 b) (lim256 len)

/-- The codes row `b` multiplies by: the row's own where the document has a token there, else position 0's. -/
def codes256 (len : Vec F S1x256 .i32) (d0 : Vec F S96x256 .fp8e4m3) (b : BitVec 32) (dj : Vec F S1x96x256 .fp8e4m3) :
    FVec F S96x256 .fp8e4m3 :=
  select (broadcastTo S96x256 (shapeCast S1x256 (valid256 len b) shapeCasts_S1x256_S1x256) broadcasts_S1x256_S96x256)
    (shapeCast S96x256 dj shapeCasts_S1x96x256_S96x256) d0

/-- The scales row `b` multiplies by, chosen the same way. -/
def scales256 (len : Vec F S1x256 .i32) (s0 : Vec F S1x256 .f32) (b : BitVec 32) (sj : Vec F S1x256 .f32) : FVec F S1x256 .f32 :=
  select (valid256 len b) (shapeCast S1x256 sj shapeCasts_S1x256_S1x256) s0

/-- One row of the running maximum, a chunk of 256 columns. -/
def rowStep256 (q : Vec F S128x96 .fp8e4m3) (len : Vec F S1x256 .i32) (s0 : Vec F S1x256 .f32) (d0 : Vec F S96x256 .fp8e4m3)
    (acc : FVec F S128x256 .f32) (b : BitVec 32) (dj : Vec F S1x96x256 .fp8e4m3) (sj : Vec F S1x256 .f32) : FVec F S128x256 .f32 :=
  maximumf acc
    (mulf (matmul dot_S128x96_S96x256_S128x256_1_0_0_1_n_n none q (codes256 len d0 b dj) (constant S128x256 .f32 0x00000000#32))
      (broadcastTo S128x256 (scales256 len s0 b sj) broadcasts_S1x256_S128x256))

/-- The running maximum after the first `n` rows of the block. -/
def rows256 (i : grid0.Coords) (q : Vec F S128x96 .fp8e4m3) (len : Vec F S1x256 .i32) (s0 : Vec F S1x256 .f32)
    (d0 : Vec F S96x256 .fp8e4m3) (D : ℕ → Vec F S1x96x256 .fp8e4m3) (S : ℕ → Vec F S1x256 .f32) (acc : FVec F S128x256 .f32) :
    ℕ → FVec F S128x256 .f32
  | 0 => acc
  | n + 1 => rowStep256 q len s0 d0 (rows256 i q len s0 d0 D S acc n) (rowAt i n) (D n) (S n)

/-- What a grid point stores for a chunk of 256 columns. -/
def chunk256 (i : grid0.Coords) (q : Vec F S128x96 .fp8e4m3) (len : Vec F S1x256 .i32) (s0 : Vec F S1x256 .f32)
    (d0 : Vec F S96x256 .fp8e4m3) (D : ℕ → Vec F S1x96x256 .fp8e4m3) (S : ℕ → Vec F S1x256 .f32) (acc : FVec F S128x256 .f32) :
    FVec F S128x256 .f32 :=
  shapeCast S128x256 (rows256 i q len s0 d0 D S acc 40) shapeCasts_S128x256_S128x256

/-- Row `n` of a block of codes, 256 columns from column `o`. -/
def ldD256 (x : Vec F S40x96x800 .fp8e4m3) (o : ℕ) (ho : o + 256 ≤ 800) (n : ℕ) : Vec F S1x96x256 .fp8e4m3 :=
  fun y => x ((Rect.unit (s := S40x96x800) ![n % 40, 0, o] S1x96x256.size (by
    intro a
    match a with
    | 0 => exact Nat.mod_lt n (by decide)
    | 1 => exact Nat.le_refl _
    | 2 => exact ho)).toLoadRect.idx y)

/-- The same row, as a load from the memref that holds the block. -/
def mD256 {κ : Kind} {sp : Space} {m : Memref sig κ sp S40x96x800 .fp8e4m3} (h : m.IsWhole) (x : Vec F S40x96x800 .fp8e4m3) (o : ℕ)
    (ho : o + 256 ≤ 800) (n : ℕ) : Vec F S1x96x256 .fp8e4m3 :=
  View.readAt (Elt F) m.view (Rect.unit (s := S40x96x800) ![n % 40, 0, o] S1x96x256.size (by
    intro a
    match a with
    | 0 => exact Nat.mod_lt n (by decide)
    | 1 => exact Nat.le_refl _
    | 2 => exact ho)).toLoadRect (h.unread x)

theorem mD256_eq {κ : Kind} {sp : Space} {m : Memref sig κ sp S40x96x800 .fp8e4m3} (h : m.IsWhole) (x : Vec F S40x96x800 .fp8e4m3)
    (o : ℕ) (ho : o + 256 ≤ 800) : mD256 h x o ho = ldD256 x o ho :=
  funext fun _ => ld_unread h x _

/-- Row `n` of a block of scales, 256 columns from column `o`. -/
def ldS256 (x : Vec F S40x800 .f32) (o : ℕ) (ho : o + 256 ≤ 800) (n : ℕ) : Vec F S1x256 .f32 :=
  fun y => x ((Rect.unit (s := S40x800) ![n % 40, o] S1x256.size (by
    intro a
    match a with
    | 0 => exact Nat.mod_lt n (by decide)
    | 1 => exact ho)).toLoadRect.idx y)

/-- The same row, as a load from the memref that holds the block. -/
def mS256 {κ : Kind} {sp : Space} {m : Memref sig κ sp S40x800 .f32} (h : m.IsWhole) (x : Vec F S40x800 .f32) (o : ℕ)
    (ho : o + 256 ≤ 800) (n : ℕ) : Vec F S1x256 .f32 :=
  View.readAt (Elt F) m.view (Rect.unit (s := S40x800) ![n % 40, o] S1x256.size (by
    intro a
    match a with
    | 0 => exact Nat.mod_lt n (by decide)
    | 1 => exact ho)).toLoadRect (h.unread x)

theorem mS256_eq {κ : Kind} {sp : Space} {m : Memref sig κ sp S40x800 .f32} (h : m.IsWhole) (x : Vec F S40x800 .f32)
    (o : ℕ) (ho : o + 256 ≤ 800) : mS256 h x o ho = ldS256 x o ho :=
  funext fun _ => ld_unread h x _

/-- The documents' effective lengths, a chunk of 32 columns. -/
def lim32 (len : Vec F S1x32 .i32) : IVec S1x32 32 :=
  minsi (shapeCast S1x32 len shapeCasts_S1x32_S1x32) (broadcast S1x32 300#32)

/-- Which of a chunk's 32 documents have a token at position `b`. -/
def valid32 (len : Vec F S1x32 .i32) (b : BitVec 32) : IVec S1x32 1 :=
  cmpi .slt (broadcast S1x32 b) (lim32 len)

/-- The codes row `b` multiplies by: the row's own where the document has a token there, else position 0's. -/
def codes32 (len : Vec F S1x32 .i32) (d0 : Vec F S96x32 .fp8e4m3) (b : BitVec 32) (dj : Vec F S1x96x32 .fp8e4m3) :
    FVec F S96x32 .fp8e4m3 :=
  select (broadcastTo S96x32 (shapeCast S1x32 (valid32 len b) shapeCasts_S1x32_S1x32) broadcasts_S1x32_S96x32)
    (shapeCast S96x32 dj shapeCasts_S1x96x32_S96x32) d0

/-- The scales row `b` multiplies by, chosen the same way. -/
def scales32 (len : Vec F S1x32 .i32) (s0 : Vec F S1x32 .f32) (b : BitVec 32) (sj : Vec F S1x32 .f32) : FVec F S1x32 .f32 :=
  select (valid32 len b) (shapeCast S1x32 sj shapeCasts_S1x32_S1x32) s0

/-- One row of the running maximum, a chunk of 32 columns. -/
def rowStep32 (q : Vec F S128x96 .fp8e4m3) (len : Vec F S1x32 .i32) (s0 : Vec F S1x32 .f32) (d0 : Vec F S96x32 .fp8e4m3)
    (acc : FVec F S128x32 .f32) (b : BitVec 32) (dj : Vec F S1x96x32 .fp8e4m3) (sj : Vec F S1x32 .f32) : FVec F S128x32 .f32 :=
  maximumf acc
    (mulf (matmul dot_S128x96_S96x32_S128x32_1_0_0_1_n_n none q (codes32 len d0 b dj) (constant S128x32 .f32 0x00000000#32))
      (broadcastTo S128x32 (scales32 len s0 b sj) broadcasts_S1x32_S128x32))

/-- The running maximum after the first `n` rows of the block. -/
def rows32 (i : grid0.Coords) (q : Vec F S128x96 .fp8e4m3) (len : Vec F S1x32 .i32) (s0 : Vec F S1x32 .f32)
    (d0 : Vec F S96x32 .fp8e4m3) (D : ℕ → Vec F S1x96x32 .fp8e4m3) (S : ℕ → Vec F S1x32 .f32) (acc : FVec F S128x32 .f32) :
    ℕ → FVec F S128x32 .f32
  | 0 => acc
  | n + 1 => rowStep32 q len s0 d0 (rows32 i q len s0 d0 D S acc n) (rowAt i n) (D n) (S n)

/-- What a grid point stores for a chunk of 32 columns. -/
def chunk32 (i : grid0.Coords) (q : Vec F S128x96 .fp8e4m3) (len : Vec F S1x32 .i32) (s0 : Vec F S1x32 .f32)
    (d0 : Vec F S96x32 .fp8e4m3) (D : ℕ → Vec F S1x96x32 .fp8e4m3) (S : ℕ → Vec F S1x32 .f32) (acc : FVec F S128x32 .f32) :
    FVec F S128x32 .f32 :=
  shapeCast S128x32 (rows32 i q len s0 d0 D S acc 40) shapeCasts_S128x32_S128x32

/-- Row `n` of a block of codes, 32 columns from column `o`. -/
def ldD32 (x : Vec F S40x96x800 .fp8e4m3) (o : ℕ) (ho : o + 32 ≤ 800) (n : ℕ) : Vec F S1x96x32 .fp8e4m3 :=
  fun y => x ((Rect.unit (s := S40x96x800) ![n % 40, 0, o] S1x96x32.size (by
    intro a
    match a with
    | 0 => exact Nat.mod_lt n (by decide)
    | 1 => exact Nat.le_refl _
    | 2 => exact ho)).toLoadRect.idx y)

/-- The same row, as a load from the memref that holds the block. -/
def mD32 {κ : Kind} {sp : Space} {m : Memref sig κ sp S40x96x800 .fp8e4m3} (h : m.IsWhole) (x : Vec F S40x96x800 .fp8e4m3) (o : ℕ)
    (ho : o + 32 ≤ 800) (n : ℕ) : Vec F S1x96x32 .fp8e4m3 :=
  View.readAt (Elt F) m.view (Rect.unit (s := S40x96x800) ![n % 40, 0, o] S1x96x32.size (by
    intro a
    match a with
    | 0 => exact Nat.mod_lt n (by decide)
    | 1 => exact Nat.le_refl _
    | 2 => exact ho)).toLoadRect (h.unread x)

theorem mD32_eq {κ : Kind} {sp : Space} {m : Memref sig κ sp S40x96x800 .fp8e4m3} (h : m.IsWhole) (x : Vec F S40x96x800 .fp8e4m3)
    (o : ℕ) (ho : o + 32 ≤ 800) : mD32 h x o ho = ldD32 x o ho :=
  funext fun _ => ld_unread h x _

/-- Row `n` of a block of scales, 32 columns from column `o`. -/
def ldS32 (x : Vec F S40x800 .f32) (o : ℕ) (ho : o + 32 ≤ 800) (n : ℕ) : Vec F S1x32 .f32 :=
  fun y => x ((Rect.unit (s := S40x800) ![n % 40, o] S1x32.size (by
    intro a
    match a with
    | 0 => exact Nat.mod_lt n (by decide)
    | 1 => exact ho)).toLoadRect.idx y)

/-- The same row, as a load from the memref that holds the block. -/
def mS32 {κ : Kind} {sp : Space} {m : Memref sig κ sp S40x800 .f32} (h : m.IsWhole) (x : Vec F S40x800 .f32) (o : ℕ)
    (ho : o + 32 ≤ 800) (n : ℕ) : Vec F S1x32 .f32 :=
  View.readAt (Elt F) m.view (Rect.unit (s := S40x800) ![n % 40, o] S1x32.size (by
    intro a
    match a with
    | 0 => exact Nat.mod_lt n (by decide)
    | 1 => exact ho)).toLoadRect (h.unread x)

theorem mS32_eq {κ : Kind} {sp : Space} {m : Memref sig κ sp S40x800 .f32} (h : m.IsWhole) (x : Vec F S40x800 .f32)
    (o : ℕ) (ho : o + 32 ≤ 800) : mS32 h x o ho = ldS32 x o ho :=
  funext fun _ => ld_unread h x _

/-- The stores of one grid point's running maximum, last first. -/
def stepPieces (i : grid0.Coords) (q : Vec F S128x96 .fp8e4m3) (len : Vec F S1x800 .i32) (s0 : Vec F S1x800 .f32)
    (d0 : Vec F S96x800 .fp8e4m3) (x2 : Vec F S40x96x800 .fp8e4m3) (x3 : Vec F S40x800 .f32) (acc : Vec F S128x800 .f32) :
    List (View.Piece (Elt F) S128x800 .f32) :=
  [⟨Rect.unit ![0, 768] ![128, 32] inb_S128x800_S128x32_0_768,
      chunk32 i q (View.ld len (Rect.unit (s := S1x800) ![0, 768] S1x32.size inb_S1x800_S1x32_0_768)) (View.ld s0 (Rect.unit (s := S1x800) ![0, 768] S1x32.size inb_S1x800_S1x32_0_768))
        (View.ld d0 (Rect.unit (s := S96x800) ![0, 768] S96x32.size inb_S96x800_S96x32_0_768)) (ldD32 x2 768 (by decide)) (ldS32 x3 768 (by decide))
        (View.ld acc (Rect.unit (s := S128x800) ![0, 768] S128x32.size inb_S128x800_S128x32_0_768))⟩,
    ⟨Rect.unit ![0, 512] S128x256.size inb_S128x800_S128x256_0_512,
      chunk256 i q (View.ld len (Rect.unit (s := S1x800) ![0, 512] S1x256.size inb_S1x800_S1x256_0_512)) (View.ld s0 (Rect.unit (s := S1x800) ![0, 512] S1x256.size inb_S1x800_S1x256_0_512))
        (View.ld d0 (Rect.unit (s := S96x800) ![0, 512] S96x256.size inb_S96x800_S96x256_0_512)) (ldD256 x2 512 (by decide)) (ldS256 x3 512 (by decide))
        (View.ld acc (Rect.unit (s := S128x800) ![0, 512] S128x256.size inb_S128x800_S128x256_0_512))⟩,
    ⟨Rect.unit ![0, 256] S128x256.size inb_S128x800_S128x256_0_256,
      chunk256 i q (View.ld len (Rect.unit (s := S1x800) ![0, 256] S1x256.size inb_S1x800_S1x256_0_256)) (View.ld s0 (Rect.unit (s := S1x800) ![0, 256] S1x256.size inb_S1x800_S1x256_0_256))
        (View.ld d0 (Rect.unit (s := S96x800) ![0, 256] S96x256.size inb_S96x800_S96x256_0_256)) (ldD256 x2 256 (by decide)) (ldS256 x3 256 (by decide))
        (View.ld acc (Rect.unit (s := S128x800) ![0, 256] S128x256.size inb_S128x800_S128x256_0_256))⟩,
    ⟨Rect.unit ![0, 0] S128x256.size inb_S128x800_S128x256_0_0,
      chunk256 i q (View.ld len (Rect.unit (s := S1x800) ![0, 0] S1x256.size inb_S1x800_S1x256_0_0)) (View.ld s0 (Rect.unit (s := S1x800) ![0, 0] S1x256.size inb_S1x800_S1x256_0_0))
        (View.ld d0 (Rect.unit (s := S96x800) ![0, 0] S96x256.size inb_S96x800_S96x256_0_0)) (ldD256 x2 0 (by decide)) (ldS256 x3 0 (by decide))
        (View.ld acc (Rect.unit (s := S128x800) ![0, 0] S128x256.size inb_S128x800_S128x256_0_0))⟩]

/-- The running maximum a grid point leaves: from the queries' codes `q`, the lengths, position 0's scales and codes,
    the point's blocks of codes and scales, and the running maximum before. -/
def accStep (i : grid0.Coords) (q : Vec F S128x96 .fp8e4m3) (len : Vec F S1x800 .i32) (s0 : Vec F S1x800 .f32)
    (d0 : Vec F S96x800 .fp8e4m3) (x2 : Vec F S40x96x800 .fp8e4m3) (x3 : Vec F S40x800 .f32) (acc : Vec F S128x800 .f32) :
    Vec F S128x800 .f32 :=
  View.canon (stepPieces i q len s0 d0 x2 x3 acc)

/-- The first point's store of position 0's codes. -/
def d0Pieces (r : Vec F S1x96x800 .fp8e4m3) : List (View.Piece (Elt F) S96x800 .fp8e4m3) :=
  [⟨Rect.unit ![0, 0] S96x800.size inb_S96x800_S96x800_0_0, k0_pay8 r⟩]

/-- Position 0's codes, as the first point keeps them. -/
def d0Init (x2 : Vec F S40x96x800 .fp8e4m3) : Vec F S96x800 .fp8e4m3 :=
  View.canon (d0Pieces (View.ld x2 (Rect.unit (s := S40x96x800) ![0, 0, 0] S1x96x800.size inb_S40x96x800_S1x96x800_0_0_0)))

/-- The first point's store of position 0's scales. -/
def s0Pieces (r : Vec F S1x800 .f32) : List (View.Piece (Elt F) S1x800 .f32) :=
  [⟨Rect.unit ![0, 0] S1x800.size inb_S1x800_S1x800_0_0, k0_pay9 r⟩]

/-- Position 0's scales, as the first point keeps them. -/
def s0Init (x3 : Vec F S40x800 .f32) : Vec F S1x800 .f32 :=
  View.canon (s0Pieces (View.ld x3 (Rect.unit (s := S40x800) ![0, 0] S1x800.size inb_S40x800_S1x800_0_0)))

/-- The first point's fill of the running maximum. -/
def accPieces : List (View.Piece (Elt F) S128x800 .f32) :=
  [⟨Rect.unit ![0, 0] S128x800.size inb_S128x800_S128x800_0_0, k0_pay10⟩]

/-- The running maximum before the first row. -/
def accInit : Vec F S128x800 .f32 := View.canon accPieces

/-- The first point's stores of the queries' codes, each times its scale's sign, last first: `q0 b` is query `b`'s
    codes, `qs` the scales. -/
def qPieces (q0 : Fin 4 → Vec F S1x32x96 .fp8e4m3) (qs : Vec F S4x32 .f32) : List (View.Piece (Elt F) S128x96 .fp8e4m3) :=
  [⟨Rect.unit ![96, 0] S32x96.size inb_S128x96_S32x96_96_0, k0_pay44 (k0_pay17 (k0_pay11 qs)) (k0_pay18 (q0 3))⟩,
   ⟨Rect.unit ![64, 0] S32x96.size inb_S128x96_S32x96_64_0, k0_pay16 (k0_pay11 qs) (q0 2)⟩,
   ⟨Rect.unit ![32, 0] S32x96.size inb_S128x96_S32x96_32_0, k0_pay15 (k0_pay13 qs) k0_pay14 (q0 1)⟩,
   ⟨Rect.unit ![0, 0] S32x96.size inb_S128x96_S32x96_0_0, k0_pay12 qs (q0 0)⟩]

/-- Query `b`'s codes in the block of all of them. -/
def qRow (x0 : Vec F S4x32x96 .fp8e4m3) : Fin 4 → Vec F S1x32x96 .fp8e4m3 :=
  ![(View.ld x0 (Rect.unit (s := S4x32x96) ![0, 0, 0] S1x32x96.size inb_S4x32x96_S1x32x96_0_0_0)), (View.ld x0 (Rect.unit (s := S4x32x96) ![1, 0, 0] S1x32x96.size inb_S4x32x96_S1x32x96_1_0_0)),
    (View.ld x0 (Rect.unit (s := S4x32x96) ![2, 0, 0] S1x32x96.size inb_S4x32x96_S1x32x96_2_0_0)), (View.ld x0 (Rect.unit (s := S4x32x96) ![3, 0, 0] S1x32x96.size inb_S4x32x96_S1x32x96_3_0_0))]

/-- The queries' codes as the first point keeps them. -/
def qInit (x0 : Vec F S4x32x96 .fp8e4m3) (x1 : Vec F S4x32 .f32) : Vec F S128x96 .fp8e4m3 :=
  View.canon (qPieces (qRow x0) (View.ld x1 (Rect.unit (s := S4x32) ![0, 0] S4x32.size inb_S4x32_S4x32_0_0)))

/-- The scores the last point computes from the running maximum, the queries' scales and the lengths. -/
def scoresV (acc : Vec F S128x800 .f32) (qs : Vec F S4x32 .f32) (len : Vec F S1x800 .i32) : FVec F S4x800 .f32 :=
  k0_pay32 acc (k0_pay19 qs) (k0_pay20 len) (k0_pay23 acc len qs) (k0_pay26 acc len qs) (k0_pay27 acc qs) (FloatOps.ofBits .f32 0xFF800000#32)

/-- The cross-entropy of the positive documents, from the scores and the positive documents' places. -/
def ceV (s : FVec F S4x800 .f32) (p : Fin 4 → BitVec 32) : FVec F S4x1 .f32 :=
  k0_pay36 s (iota .tc S4x800 32 [1] iota_S4x800_d1_w32) (iota .tc S4x1 32 [0] iota_S4x1_d0_w32) k0_pay34 k0_pay35 (p 0) (p 1) (p 2) (p 3)

/-- The divergence from the teacher's distribution, from the scores and the teacher's logits. -/
def klV (s : FVec F S4x800 .f32) (te : Vec F S4x200 .f32) : FVec F S4x1 .f32 :=
  k0_pay39 s k0_pay33 te (k0_pay37 te) (k0_pay38 te)

/-- The loss: the two summed. -/
def lossV (s : FVec F S4x800 .f32) (p : Fin 4 → BitVec 32) (te : Vec F S4x200 .f32) : FVec F S4x1 .f32 :=
  k0_pay40 s k0_pay33 (ceV s p) te (k0_pay37 te) (k0_pay38 te)

/-- The last point's store of the scores. -/
def scorePieces (s : FVec F S4x800 .f32) : List (View.Piece (Elt F) S4x800 .f32) :=
  [⟨Rect.unit ![0, 0] S4x800.size inb_S4x800_S4x800_0_0, s⟩]

/-- The last point's stores of the losses, last first. -/
def lossPieces (s : FVec F S4x800 .f32) (p : Fin 4 → BitVec 32) (te : Vec F S4x200 .f32) : List (View.Piece (Elt F) S4 .f32) :=
  [⟨Rect.unit ![3] ![1] inb_S4_S1_3, fun _ => k0_pay7 (lossV s p te)⟩, ⟨Rect.unit ![2] ![1] inb_S4_S1_2, fun _ => k0_pay5 (lossV s p te)⟩,
   ⟨Rect.unit ![1] ![1] inb_S4_S1_1, fun _ => k0_pay3 (lossV s p te)⟩,
   ⟨Rect.unit ![0] S1.size inb_S4_S1_0, fun _ => k0_pay42 s k0_pay33 (ceV s p) te (k0_pay37 te) (k0_pay38 te)⟩]

/-- The last point's stores of the divergences, last first. -/
def klPieces (s : FVec F S4x800 .f32) (te : Vec F S4x200 .f32) : List (View.Piece (Elt F) S4 .f32) :=
  [⟨Rect.unit ![3] ![1] inb_S4_S1_3, fun _ => k0_pay6 (klV s te)⟩, ⟨Rect.unit ![2] ![1] inb_S4_S1_2, fun _ => k0_pay4 (klV s te)⟩,
   ⟨Rect.unit ![1] ![1] inb_S4_S1_1, fun _ => k0_pay2 (k0_pay43 s k0_pay33 te (k0_pay37 te) (k0_pay38 te))⟩,
   ⟨Rect.unit ![0] S1.size inb_S4_S1_0, fun _ => k0_pay41 s k0_pay33 te (k0_pay37 te) (k0_pay38 te)⟩]

/-- The last point's stores of the maxima, last first. -/
def tokPieces (acc : Vec F S128x800 .f32) (qs : Vec F S4x32 .f32) (len : Vec F S1x800 .i32) : List (View.Piece (Elt F) S4x32x800 .f32) :=
  [⟨Rect.unit ![3, 0, 0] S1x32x800.size inb_S4x32x800_S1x32x800_3_0_0, k0_pay31 acc (k0_pay19 qs) (k0_pay20 len)⟩,
   ⟨Rect.unit ![2, 0, 0] S1x32x800.size inb_S4x32x800_S1x32x800_2_0_0, k0_pay29 (k0_pay20 len) (k0_pay27 acc qs) (FloatOps.ofBits .f32 0xFF800000#32)⟩,
   ⟨Rect.unit ![1, 0, 0] S1x32x800.size inb_S4x32x800_S1x32x800_1_0_0, k0_pay25 acc len qs⟩,
   ⟨Rect.unit ![0, 0, 0] S1x32x800.size inb_S4x32x800_S1x32x800_0_0_0, k0_pay22 acc len qs⟩]

theorem runB_acc (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 = stepPieces i (View.ld xs3 (Rect.unit (s := S128x96) ![0, 0] S128x96.size inb_S128x96_S128x96_0_0)) x4 xs2 xs1 x2 x3 xs0 := by
  have e : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 =
    [⟨Rect.unit ![0, 768] ![128, 32] inb_S128x800_S128x32_0_768,
      chunk32 i (View.readAt (Elt F) arg15.view (Rect.unit (s := S128x96) ![0, 0] S128x96.size inb_S128x96_S128x96_0_0).toLoadRect (harg15.unread xs3)) (View.readAt (Elt F) arg5.view (Rect.unit (s := S1x800) ![0, 768] S1x32.size inb_S1x800_S1x32_0_768).toLoadRect (harg5.unread x4)) (View.readAt (Elt F) arg14.view (Rect.unit (s := S1x800) ![0, 768] S1x32.size inb_S1x800_S1x32_0_768).toLoadRect (harg14.unread xs2))
        (View.readAt (Elt F) arg13.view (Rect.unit (s := S96x800) ![0, 768] S96x32.size inb_S96x800_S96x32_0_768).toLoadRect (harg13.unread xs1)) (mD32 harg3 x2 768 (by decide)) (mS32 harg4 x3 768 (by decide))
        (View.readAt (Elt F) arg12.view (Rect.unit (s := S128x800) ![0, 768] S128x32.size inb_S128x800_S128x32_0_768).toLoadRect (harg12.unread xs0))⟩,
    ⟨Rect.unit ![0, 512] S128x256.size inb_S128x800_S128x256_0_512,
      chunk256 i (View.readAt (Elt F) arg15.view (Rect.unit (s := S128x96) ![0, 0] S128x96.size inb_S128x96_S128x96_0_0).toLoadRect (harg15.unread xs3)) (View.readAt (Elt F) arg5.view (Rect.unit (s := S1x800) ![0, 512] S1x256.size inb_S1x800_S1x256_0_512).toLoadRect (harg5.unread x4)) (View.readAt (Elt F) arg14.view (Rect.unit (s := S1x800) ![0, 512] S1x256.size inb_S1x800_S1x256_0_512).toLoadRect (harg14.unread xs2))
        (View.readAt (Elt F) arg13.view (Rect.unit (s := S96x800) ![0, 512] S96x256.size inb_S96x800_S96x256_0_512).toLoadRect (harg13.unread xs1)) (mD256 harg3 x2 512 (by decide)) (mS256 harg4 x3 512 (by decide))
        (View.readAt (Elt F) arg12.view (Rect.unit (s := S128x800) ![0, 512] S128x256.size inb_S128x800_S128x256_0_512).toLoadRect (harg12.unread xs0))⟩,
    ⟨Rect.unit ![0, 256] S128x256.size inb_S128x800_S128x256_0_256,
      chunk256 i (View.readAt (Elt F) arg15.view (Rect.unit (s := S128x96) ![0, 0] S128x96.size inb_S128x96_S128x96_0_0).toLoadRect (harg15.unread xs3)) (View.readAt (Elt F) arg5.view (Rect.unit (s := S1x800) ![0, 256] S1x256.size inb_S1x800_S1x256_0_256).toLoadRect (harg5.unread x4)) (View.readAt (Elt F) arg14.view (Rect.unit (s := S1x800) ![0, 256] S1x256.size inb_S1x800_S1x256_0_256).toLoadRect (harg14.unread xs2))
        (View.readAt (Elt F) arg13.view (Rect.unit (s := S96x800) ![0, 256] S96x256.size inb_S96x800_S96x256_0_256).toLoadRect (harg13.unread xs1)) (mD256 harg3 x2 256 (by decide)) (mS256 harg4 x3 256 (by decide))
        (View.readAt (Elt F) arg12.view (Rect.unit (s := S128x800) ![0, 256] S128x256.size inb_S128x800_S128x256_0_256).toLoadRect (harg12.unread xs0))⟩,
    ⟨Rect.unit ![0, 0] S128x256.size inb_S128x800_S128x256_0_0,
      chunk256 i (View.readAt (Elt F) arg15.view (Rect.unit (s := S128x96) ![0, 0] S128x96.size inb_S128x96_S128x96_0_0).toLoadRect (harg15.unread xs3)) (View.readAt (Elt F) arg5.view (Rect.unit (s := S1x800) ![0, 0] S1x256.size inb_S1x800_S1x256_0_0).toLoadRect (harg5.unread x4)) (View.readAt (Elt F) arg14.view (Rect.unit (s := S1x800) ![0, 0] S1x256.size inb_S1x800_S1x256_0_0).toLoadRect (harg14.unread xs2))
        (View.readAt (Elt F) arg13.view (Rect.unit (s := S96x800) ![0, 0] S96x256.size inb_S96x800_S96x256_0_0).toLoadRect (harg13.unread xs1)) (mD256 harg3 x2 0 (by decide)) (mS256 harg4 x3 0 (by decide))
        (View.readAt (Elt F) arg12.view (Rect.unit (s := S128x800) ![0, 0] S128x256.size inb_S128x800_S128x256_0_0).toLoadRect (harg12.unread xs0))⟩] := rfl
  rw [e]; simp only [ld_unread, mD256_eq, mD32_eq, mS256_eq, mS32_eq]; rfl

theorem runC_acc (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 = stepPieces i (View.ld xs3 (Rect.unit (s := S128x96) ![0, 0] S128x96.size inb_S128x96_S128x96_0_0)) x4 xs2 xs1 x2 x3 xs0 := by
  have e : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 =
    [⟨Rect.unit ![0, 768] ![128, 32] inb_S128x800_S128x32_0_768,
      chunk32 i (View.readAt (Elt F) arg15.view (Rect.unit (s := S128x96) ![0, 0] S128x96.size inb_S128x96_S128x96_0_0).toLoadRect (harg15.unread xs3)) (View.readAt (Elt F) arg5.view (Rect.unit (s := S1x800) ![0, 768] S1x32.size inb_S1x800_S1x32_0_768).toLoadRect (harg5.unread x4)) (View.readAt (Elt F) arg14.view (Rect.unit (s := S1x800) ![0, 768] S1x32.size inb_S1x800_S1x32_0_768).toLoadRect (harg14.unread xs2))
        (View.readAt (Elt F) arg13.view (Rect.unit (s := S96x800) ![0, 768] S96x32.size inb_S96x800_S96x32_0_768).toLoadRect (harg13.unread xs1)) (mD32 harg3 x2 768 (by decide)) (mS32 harg4 x3 768 (by decide))
        (View.readAt (Elt F) arg12.view (Rect.unit (s := S128x800) ![0, 768] S128x32.size inb_S128x800_S128x32_0_768).toLoadRect (harg12.unread xs0))⟩,
    ⟨Rect.unit ![0, 512] S128x256.size inb_S128x800_S128x256_0_512,
      chunk256 i (View.readAt (Elt F) arg15.view (Rect.unit (s := S128x96) ![0, 0] S128x96.size inb_S128x96_S128x96_0_0).toLoadRect (harg15.unread xs3)) (View.readAt (Elt F) arg5.view (Rect.unit (s := S1x800) ![0, 512] S1x256.size inb_S1x800_S1x256_0_512).toLoadRect (harg5.unread x4)) (View.readAt (Elt F) arg14.view (Rect.unit (s := S1x800) ![0, 512] S1x256.size inb_S1x800_S1x256_0_512).toLoadRect (harg14.unread xs2))
        (View.readAt (Elt F) arg13.view (Rect.unit (s := S96x800) ![0, 512] S96x256.size inb_S96x800_S96x256_0_512).toLoadRect (harg13.unread xs1)) (mD256 harg3 x2 512 (by decide)) (mS256 harg4 x3 512 (by decide))
        (View.readAt (Elt F) arg12.view (Rect.unit (s := S128x800) ![0, 512] S128x256.size inb_S128x800_S128x256_0_512).toLoadRect (harg12.unread xs0))⟩,
    ⟨Rect.unit ![0, 256] S128x256.size inb_S128x800_S128x256_0_256,
      chunk256 i (View.readAt (Elt F) arg15.view (Rect.unit (s := S128x96) ![0, 0] S128x96.size inb_S128x96_S128x96_0_0).toLoadRect (harg15.unread xs3)) (View.readAt (Elt F) arg5.view (Rect.unit (s := S1x800) ![0, 256] S1x256.size inb_S1x800_S1x256_0_256).toLoadRect (harg5.unread x4)) (View.readAt (Elt F) arg14.view (Rect.unit (s := S1x800) ![0, 256] S1x256.size inb_S1x800_S1x256_0_256).toLoadRect (harg14.unread xs2))
        (View.readAt (Elt F) arg13.view (Rect.unit (s := S96x800) ![0, 256] S96x256.size inb_S96x800_S96x256_0_256).toLoadRect (harg13.unread xs1)) (mD256 harg3 x2 256 (by decide)) (mS256 harg4 x3 256 (by decide))
        (View.readAt (Elt F) arg12.view (Rect.unit (s := S128x800) ![0, 256] S128x256.size inb_S128x800_S128x256_0_256).toLoadRect (harg12.unread xs0))⟩,
    ⟨Rect.unit ![0, 0] S128x256.size inb_S128x800_S128x256_0_0,
      chunk256 i (View.readAt (Elt F) arg15.view (Rect.unit (s := S128x96) ![0, 0] S128x96.size inb_S128x96_S128x96_0_0).toLoadRect (harg15.unread xs3)) (View.readAt (Elt F) arg5.view (Rect.unit (s := S1x800) ![0, 0] S1x256.size inb_S1x800_S1x256_0_0).toLoadRect (harg5.unread x4)) (View.readAt (Elt F) arg14.view (Rect.unit (s := S1x800) ![0, 0] S1x256.size inb_S1x800_S1x256_0_0).toLoadRect (harg14.unread xs2))
        (View.readAt (Elt F) arg13.view (Rect.unit (s := S96x800) ![0, 0] S96x256.size inb_S96x800_S96x256_0_0).toLoadRect (harg13.unread xs1)) (mD256 harg3 x2 0 (by decide)) (mS256 harg4 x3 0 (by decide))
        (View.readAt (Elt F) arg12.view (Rect.unit (s := S128x800) ![0, 0] S128x256.size inb_S128x800_S128x256_0_0).toLoadRect (harg12.unread xs0))⟩] := rfl
  rw [e]; simp only [ld_unread, mD256_eq, mD32_eq, mS256_eq, mS32_eq]; rfl

theorem runC_scores_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1 = scorePieces (scoresV (arg12.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 (Rect.unit (s := S128x800) ![0, 0] S128x800.size inb_S128x800_S128x800_0_0).toLoadRect) (View.readAt (Elt F) arg2.view (Rect.unit (s := S4x32) ![0, 0] S4x32.size inb_S4x32_S4x32_0_0).toLoadRect (harg2.unread x1)) (View.readAt (Elt F) arg5.view (Rect.unit (s := S1x800) ![0, 0] S1x800.size inb_S1x800_S1x800_0_0).toLoadRect (harg5.unread x4))) := rfl

theorem runC_loss_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1 = lossPieces (scoresV (arg12.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 (Rect.unit (s := S128x800) ![0, 0] S128x800.size inb_S128x800_S128x800_0_0).toLoadRect) (View.readAt (Elt F) arg2.view (Rect.unit (s := S4x32) ![0, 0] S4x32.size inb_S4x32_S4x32_0_0).toLoadRect (harg2.unread x1)) (View.readAt (Elt F) arg5.view (Rect.unit (s := S1x800) ![0, 0] S1x800.size inb_S1x800_S1x800_0_0).toLoadRect (harg5.unread x4))) ![(View.readAt (Elt F) arg6.view (Rect.unit (s := S4) ![0] S1.size inb_S4_S1_0).toLoadRect (harg6.unread x5)) (Shape.Idx.first (by decide)), (View.readAt (Elt F) arg6.view (Rect.unit (s := S4) ![1] S1.size inb_S4_S1_1).toLoadRect (harg6.unread x5)) (Shape.Idx.first (by decide)), (View.readAt (Elt F) arg6.view (Rect.unit (s := S4) ![2] S1.size inb_S4_S1_2).toLoadRect (harg6.unread x5)) (Shape.Idx.first (by decide)), (View.readAt (Elt F) arg6.view (Rect.unit (s := S4) ![3] S1.size inb_S4_S1_3).toLoadRect (harg6.unread x5)) (Shape.Idx.first (by decide))] (View.readAt (Elt F) arg7.view (Rect.unit (s := S4x200) ![0, 0] S4x200.size inb_S4x200_S4x200_0_0).toLoadRect (harg7.unread x6)) := rfl

theorem runC_kl_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1 = klPieces (scoresV (arg12.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 (Rect.unit (s := S128x800) ![0, 0] S128x800.size inb_S128x800_S128x800_0_0).toLoadRect) (View.readAt (Elt F) arg2.view (Rect.unit (s := S4x32) ![0, 0] S4x32.size inb_S4x32_S4x32_0_0).toLoadRect (harg2.unread x1)) (View.readAt (Elt F) arg5.view (Rect.unit (s := S1x800) ![0, 0] S1x800.size inb_S1x800_S1x800_0_0).toLoadRect (harg5.unread x4))) (View.readAt (Elt F) arg7.view (Rect.unit (s := S4x200) ![0, 0] S4x200.size inb_S4x200_S4x200_0_0).toLoadRect (harg7.unread x6)) := rfl

theorem runC_tok_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1 = tokPieces (arg12.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 (Rect.unit (s := S128x800) ![0, 0] S128x800.size inb_S128x800_S128x800_0_0).toLoadRect) (View.readAt (Elt F) arg2.view (Rect.unit (s := S4x32) ![0, 0] S4x32.size inb_S4x32_S4x32_0_0).toLoadRect (harg2.unread x1)) (View.readAt (Elt F) arg5.view (Rect.unit (s := S1x800) ![0, 0] S1x800.size inb_S1x800_S1x800_0_0).toLoadRect (harg5.unread x4)) := rfl

theorem runA_q_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.2.2.1 = (qPieces ![(View.readAt (Elt F) arg1.view (Rect.unit (s := S4x32x96) ![0, 0, 0] S1x32x96.size inb_S4x32x96_S1x32x96_0_0_0).toLoadRect (harg1.unread x0)), (View.readAt (Elt F) arg1.view (Rect.unit (s := S4x32x96) ![1, 0, 0] S1x32x96.size inb_S4x32x96_S1x32x96_1_0_0).toLoadRect (harg1.unread x0)), (View.readAt (Elt F) arg1.view (Rect.unit (s := S4x32x96) ![2, 0, 0] S1x32x96.size inb_S4x32x96_S1x32x96_2_0_0).toLoadRect (harg1.unread x0)), (View.readAt (Elt F) arg1.view (Rect.unit (s := S4x32x96) ![3, 0, 0] S1x32x96.size inb_S4x32x96_S1x32x96_3_0_0).toLoadRect (harg1.unread x0))] (View.readAt (Elt F) arg2.view (Rect.unit (s := S4x32) ![0, 0] S4x32.size inb_S4x32_S4x32_0_0).toLoadRect (harg2.unread x1))) := rfl

theorem runA_d0_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1 = d0Pieces (View.readAt (Elt F) arg3.view (Rect.unit (s := S40x96x800) ![0, 0, 0] S1x96x800.size inb_S40x96x800_S1x96x800_0_0_0).toLoadRect (harg3.unread x2)) := rfl

theorem runA_s0_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.2.1 = s0Pieces (View.readAt (Elt F) arg4.view (Rect.unit (s := S40x800) ![0, 0] S1x800.size inb_S40x800_S1x800_0_0).toLoadRect (harg4.unread x3)) := rfl

/-- The first point's list of stores into the running maximum has its chunks' values over the fill. -/
theorem runA_acc_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) :
    ∃ (L1 L2 L3 L4 : List (View.Piece (Elt F) S128x800 .f32)),
      L1 = ⟨Rect.unit ![0, 0] S128x256.size inb_S128x800_S128x256_0_0,
      chunk256 i (arg15.view.readCov (qPieces ![(View.readAt (Elt F) arg1.view (Rect.unit (s := S4x32x96) ![0, 0, 0] S1x32x96.size inb_S4x32x96_S1x32x96_0_0_0).toLoadRect (harg1.unread x0)), (View.readAt (Elt F) arg1.view (Rect.unit (s := S4x32x96) ![1, 0, 0] S1x32x96.size inb_S4x32x96_S1x32x96_1_0_0).toLoadRect (harg1.unread x0)), (View.readAt (Elt F) arg1.view (Rect.unit (s := S4x32x96) ![2, 0, 0] S1x32x96.size inb_S4x32x96_S1x32x96_2_0_0).toLoadRect (harg1.unread x0)), (View.readAt (Elt F) arg1.view (Rect.unit (s := S4x32x96) ![3, 0, 0] S1x32x96.size inb_S4x32x96_S1x32x96_3_0_0).toLoadRect (harg1.unread x0))] (View.readAt (Elt F) arg2.view (Rect.unit (s := S4x32) ![0, 0] S4x32.size inb_S4x32_S4x32_0_0).toLoadRect (harg2.unread x1))) (Rect.unit (s := S128x96) ![0, 0] S128x96.size inb_S128x96_S128x96_0_0).toLoadRect) (View.readAt (Elt F) arg5.view (Rect.unit (s := S1x800) ![0, 0] S1x256.size inb_S1x800_S1x256_0_0).toLoadRect (harg5.unread x4)) (arg14.view.readCov (s0Pieces (View.readAt (Elt F) arg4.view (Rect.unit (s := S40x800) ![0, 0] S1x800.size inb_S40x800_S1x800_0_0).toLoadRect (harg4.unread x3))) (Rect.unit (s := S1x800) ![0, 0] S1x256.size inb_S1x800_S1x256_0_0).toLoadRect)
        (arg13.view.readCov (d0Pieces (View.readAt (Elt F) arg3.view (Rect.unit (s := S40x96x800) ![0, 0, 0] S1x96x800.size inb_S40x96x800_S1x96x800_0_0_0).toLoadRect (harg3.unread x2))) (Rect.unit (s := S96x800) ![0, 0] S96x256.size inb_S96x800_S96x256_0_0).toLoadRect) (mD256 harg3 x2 0 (by decide)) (mS256 harg4 x3 0 (by decide))
        (arg12.view.readCov accPieces (Rect.unit (s := S128x800) ![0, 0] S128x256.size inb_S128x800_S128x256_0_0).toLoadRect)⟩ :: accPieces ∧
      L2 = ⟨Rect.unit ![0, 256] S128x256.size inb_S128x800_S128x256_0_256,
      chunk256 i (arg15.view.readCov (qPieces ![(View.readAt (Elt F) arg1.view (Rect.unit (s := S4x32x96) ![0, 0, 0] S1x32x96.size inb_S4x32x96_S1x32x96_0_0_0).toLoadRect (harg1.unread x0)), (View.readAt (Elt F) arg1.view (Rect.unit (s := S4x32x96) ![1, 0, 0] S1x32x96.size inb_S4x32x96_S1x32x96_1_0_0).toLoadRect (harg1.unread x0)), (View.readAt (Elt F) arg1.view (Rect.unit (s := S4x32x96) ![2, 0, 0] S1x32x96.size inb_S4x32x96_S1x32x96_2_0_0).toLoadRect (harg1.unread x0)), (View.readAt (Elt F) arg1.view (Rect.unit (s := S4x32x96) ![3, 0, 0] S1x32x96.size inb_S4x32x96_S1x32x96_3_0_0).toLoadRect (harg1.unread x0))] (View.readAt (Elt F) arg2.view (Rect.unit (s := S4x32) ![0, 0] S4x32.size inb_S4x32_S4x32_0_0).toLoadRect (harg2.unread x1))) (Rect.unit (s := S128x96) ![0, 0] S128x96.size inb_S128x96_S128x96_0_0).toLoadRect) (View.readAt (Elt F) arg5.view (Rect.unit (s := S1x800) ![0, 256] S1x256.size inb_S1x800_S1x256_0_256).toLoadRect (harg5.unread x4)) (arg14.view.readCov (s0Pieces (View.readAt (Elt F) arg4.view (Rect.unit (s := S40x800) ![0, 0] S1x800.size inb_S40x800_S1x800_0_0).toLoadRect (harg4.unread x3))) (Rect.unit (s := S1x800) ![0, 256] S1x256.size inb_S1x800_S1x256_0_256).toLoadRect)
        (arg13.view.readCov (d0Pieces (View.readAt (Elt F) arg3.view (Rect.unit (s := S40x96x800) ![0, 0, 0] S1x96x800.size inb_S40x96x800_S1x96x800_0_0_0).toLoadRect (harg3.unread x2))) (Rect.unit (s := S96x800) ![0, 256] S96x256.size inb_S96x800_S96x256_0_256).toLoadRect) (mD256 harg3 x2 256 (by decide)) (mS256 harg4 x3 256 (by decide))
        (arg12.view.readCov L1 (Rect.unit (s := S128x800) ![0, 256] S128x256.size inb_S128x800_S128x256_0_256).toLoadRect)⟩ :: L1 ∧
      L3 = ⟨Rect.unit ![0, 512] S128x256.size inb_S128x800_S128x256_0_512,
      chunk256 i (arg15.view.readCov (qPieces ![(View.readAt (Elt F) arg1.view (Rect.unit (s := S4x32x96) ![0, 0, 0] S1x32x96.size inb_S4x32x96_S1x32x96_0_0_0).toLoadRect (harg1.unread x0)), (View.readAt (Elt F) arg1.view (Rect.unit (s := S4x32x96) ![1, 0, 0] S1x32x96.size inb_S4x32x96_S1x32x96_1_0_0).toLoadRect (harg1.unread x0)), (View.readAt (Elt F) arg1.view (Rect.unit (s := S4x32x96) ![2, 0, 0] S1x32x96.size inb_S4x32x96_S1x32x96_2_0_0).toLoadRect (harg1.unread x0)), (View.readAt (Elt F) arg1.view (Rect.unit (s := S4x32x96) ![3, 0, 0] S1x32x96.size inb_S4x32x96_S1x32x96_3_0_0).toLoadRect (harg1.unread x0))] (View.readAt (Elt F) arg2.view (Rect.unit (s := S4x32) ![0, 0] S4x32.size inb_S4x32_S4x32_0_0).toLoadRect (harg2.unread x1))) (Rect.unit (s := S128x96) ![0, 0] S128x96.size inb_S128x96_S128x96_0_0).toLoadRect) (View.readAt (Elt F) arg5.view (Rect.unit (s := S1x800) ![0, 512] S1x256.size inb_S1x800_S1x256_0_512).toLoadRect (harg5.unread x4)) (arg14.view.readCov (s0Pieces (View.readAt (Elt F) arg4.view (Rect.unit (s := S40x800) ![0, 0] S1x800.size inb_S40x800_S1x800_0_0).toLoadRect (harg4.unread x3))) (Rect.unit (s := S1x800) ![0, 512] S1x256.size inb_S1x800_S1x256_0_512).toLoadRect)
        (arg13.view.readCov (d0Pieces (View.readAt (Elt F) arg3.view (Rect.unit (s := S40x96x800) ![0, 0, 0] S1x96x800.size inb_S40x96x800_S1x96x800_0_0_0).toLoadRect (harg3.unread x2))) (Rect.unit (s := S96x800) ![0, 512] S96x256.size inb_S96x800_S96x256_0_512).toLoadRect) (mD256 harg3 x2 512 (by decide)) (mS256 harg4 x3 512 (by decide))
        (arg12.view.readCov L2 (Rect.unit (s := S128x800) ![0, 512] S128x256.size inb_S128x800_S128x256_0_512).toLoadRect)⟩ :: L2 ∧
      L4 = ⟨Rect.unit ![0, 768] ![128, 32] inb_S128x800_S128x32_0_768,
      chunk32 i (arg15.view.readCov (qPieces ![(View.readAt (Elt F) arg1.view (Rect.unit (s := S4x32x96) ![0, 0, 0] S1x32x96.size inb_S4x32x96_S1x32x96_0_0_0).toLoadRect (harg1.unread x0)), (View.readAt (Elt F) arg1.view (Rect.unit (s := S4x32x96) ![1, 0, 0] S1x32x96.size inb_S4x32x96_S1x32x96_1_0_0).toLoadRect (harg1.unread x0)), (View.readAt (Elt F) arg1.view (Rect.unit (s := S4x32x96) ![2, 0, 0] S1x32x96.size inb_S4x32x96_S1x32x96_2_0_0).toLoadRect (harg1.unread x0)), (View.readAt (Elt F) arg1.view (Rect.unit (s := S4x32x96) ![3, 0, 0] S1x32x96.size inb_S4x32x96_S1x32x96_3_0_0).toLoadRect (harg1.unread x0))] (View.readAt (Elt F) arg2.view (Rect.unit (s := S4x32) ![0, 0] S4x32.size inb_S4x32_S4x32_0_0).toLoadRect (harg2.unread x1))) (Rect.unit (s := S128x96) ![0, 0] S128x96.size inb_S128x96_S128x96_0_0).toLoadRect) (View.readAt (Elt F) arg5.view (Rect.unit (s := S1x800) ![0, 768] S1x32.size inb_S1x800_S1x32_0_768).toLoadRect (harg5.unread x4)) (arg14.view.readCov (s0Pieces (View.readAt (Elt F) arg4.view (Rect.unit (s := S40x800) ![0, 0] S1x800.size inb_S40x800_S1x800_0_0).toLoadRect (harg4.unread x3))) (Rect.unit (s := S1x800) ![0, 768] S1x32.size inb_S1x800_S1x32_0_768).toLoadRect)
        (arg13.view.readCov (d0Pieces (View.readAt (Elt F) arg3.view (Rect.unit (s := S40x96x800) ![0, 0, 0] S1x96x800.size inb_S40x96x800_S1x96x800_0_0_0).toLoadRect (harg3.unread x2))) (Rect.unit (s := S96x800) ![0, 768] S96x32.size inb_S96x800_S96x32_0_768).toLoadRect) (mD32 harg3 x2 768 (by decide)) (mS32 harg4 x3 768 (by decide))
        (arg12.view.readCov L3 (Rect.unit (s := S128x800) ![0, 768] S128x32.size inb_S128x800_S128x32_0_768).toLoadRect)⟩ :: L3 ∧
      (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1 = L4 :=
  ⟨_, _, _, _, rfl, rfl, rfl, rfl, rfl⟩

end Cert.Kernel.Gen
-- ==== Proof.KernelState.lean ====
/- What the kernel's scratch buffers and results hold after a grid point, as functions of the blocks it reads and of
   the scratch before. -/
module

public import proofs.«01_k».proof.Proof.KernelFold
public import Idealize.ShloMosaic.Lib.Pipeline.Value

@[expose] public section

set_option maxRecDepth 16384

noncomputable section

namespace Cert.Kernel.Gen

open Idealize.ShloMosaic Idealize.ShloMosaic.TcCoe Idealize.ShloMosaic.Tactic
open Idealize.ShloMosaic.Rounds

variable {F : FTy → Type} [FloatOps F]

/-! ## Lists of stores -/

/-- Earlier stores under a covering list leave no trace. -/
theorem canon_append_of_cover {s : Shape} {e : EltTy} (T : List (View.Piece (Elt F) s e)) (y : s.Idx) :
    ∀ L : List (View.Piece (Elt F) s e), (∃ p ∈ L, y ∈ p.1.set) → View.canon (L ++ T) y = View.canon L y
  | [], h => by obtain ⟨_, hm, _⟩ := h; exact absurd hm List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · have hL : ∃ p' ∈ L, y ∈ p'.1.set := by
        obtain ⟨p', hm, hy'⟩ := h
        rcases List.mem_cons.mp hm with rfl | hm
        · exact absurd hy' hy
        · exact ⟨p', hm, hy'⟩
      rw [List.cons_append, View.canon_cons_of_not_mem p _ hy, View.canon_cons_of_not_mem p _ hy]
      exact canon_append_of_cover T y L hL

theorem off2 : (![0, 0] : Fin 2 → ℕ) = fun _ => 0 := by funext a; match a with | 0 => rfl | 1 => rfl

/-- The chunks of a grid point's running maximum fill it. -/
theorem stepPieces_cover (i : grid0.Coords) (q : Vec F S128x96 .fp8e4m3) (len : Vec F S1x800 .i32) (s0 : Vec F S1x800 .f32)
    (d0 : Vec F S96x800 .fp8e4m3) (x2 : Vec F S40x96x800 .fp8e4m3) (x3 : Vec F S40x800 .f32) (acc : Vec F S128x800 .f32) (y : S128x800.Idx) :
    ∃ p ∈ stepPieces i q len s0 d0 x2 x3 acc, y ∈ p.1.set :=
  View.cover_of_tiledBy (stepPieces i q len s0 d0 x2 x3 acc) ![128, 32] (by sl_kernel_rfl) y

theorem qPieces_cover (q0 : Fin 4 → Vec F S1x32x96 .fp8e4m3) (qs : Vec F S4x32 .f32) (y : S128x96.Idx) :
    ∃ p ∈ qPieces q0 qs, y ∈ p.1.set :=
  View.cover_of_tiledL (qPieces q0 qs) S32x96.size (by sl_kernel_rfl) y

theorem tokPieces_cover (acc : Vec F S128x800 .f32) (qs : Vec F S4x32 .f32) (len : Vec F S1x800 .i32) (y : S4x32x800.Idx) :
    ∃ p ∈ tokPieces acc qs len, y ∈ p.1.set :=
  View.cover_of_tiledL (tokPieces acc qs len) S1x32x800.size (by sl_kernel_rfl) y

theorem lossPieces_cover (s : FVec F S4x800 .f32) (p : Fin 4 → BitVec 32) (te : Vec F S4x200 .f32) (y : S4.Idx) :
    ∃ pc ∈ lossPieces s p te, y ∈ pc.1.set :=
  View.cover_of_tiledL (lossPieces s p te) S1.size (by sl_kernel_rfl) y

theorem klPieces_cover (s : FVec F S4x800 .f32) (te : Vec F S4x200 .f32) (y : S4.Idx) :
    ∃ pc ∈ klPieces s te, y ∈ pc.1.set :=
  View.cover_of_tiledL (klPieces s te) S1.size (by sl_kernel_rfl) y

/-! ## Results of the last point -/

/-- The positive documents' places, read out of their buffer. -/
def posAt (x5 : Vec F S4 .i32) : Fin 4 → BitVec 32 :=
  ![(View.ld x5 (Rect.unit (s := S4) ![0] S1.size inb_S4_S1_0)) (Shape.Idx.first (by decide)), (View.ld x5 (Rect.unit (s := S4) ![1] S1.size inb_S4_S1_1)) (Shape.Idx.first (by decide)), (View.ld x5 (Rect.unit (s := S4) ![2] S1.size inb_S4_S1_2)) (Shape.Idx.first (by decide)), (View.ld x5 (Rect.unit (s := S4) ![3] S1.size inb_S4_S1_3)) (Shape.Idx.first (by decide))]

/-- The scores. -/
def outScores (acc : Vec F S128x800 .f32) (x1 : Vec F S4x32 .f32) (x4 : Vec F S1x800 .i32) : Vec F S4x800 .f32 :=
  scoresV acc x1 x4

/-- The losses. -/
def outLoss (acc : Vec F S128x800 .f32) (x1 : Vec F S4x32 .f32) (x4 : Vec F S1x800 .i32) (x5 : Vec F S4 .i32) (x6 : Vec F S4x200 .f32) :
    Vec F S4 .f32 :=
  View.canon (lossPieces (scoresV acc x1 x4) (posAt x5) x6)

/-- The divergences. -/
def outKl (acc : Vec F S128x800 .f32) (x1 : Vec F S4x32 .f32) (x4 : Vec F S1x800 .i32) (x6 : Vec F S4x200 .f32) : Vec F S4 .f32 :=
  View.canon (klPieces (scoresV acc x1 x4) x6)

/-- The maxima. -/
def outTok (acc : Vec F S128x800 .f32) (x1 : Vec F S4x32 .f32) (x4 : Vec F S1x800 .i32) : Vec F S4x32x800 .f32 :=
  View.canon (tokPieces acc x1 x4)

/-! ## What each run's stores leave -/

theorem readCov_ld {κ' : Kind} {sp' : Space} {s : Shape} {e : EltTy} (v : View sig κ' sp' s e)
    (L : List (View.Piece (Elt F) s e)) (r : Rect s) : v.readCov L r.toLoadRect = View.ld (View.canon L) r :=
  View.readCov_eq_canon' v L r.toLoadRect

theorem runB_acc_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) {κ' : Kind} {sp' : Space} (v : View sig κ' sp' S128x800 .f32) (f : v.ty.Contents (Elt F)) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1) = accStep i xs3 x4 xs2 xs1 x2 x3 xs0 := by
  rw [runB_acc, View.ld_unit_zero off2]
  exact View.read_writes_eq_canon _ _ _ (stepPieces_cover _ _ _ _ _ _ _ _)

theorem runC_acc_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) {κ' : Kind} {sp' : Space} (v : View sig κ' sp' S128x800 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1) = accStep i xs3 x4 xs2 xs1 x2 x3 xs0 := by
  rw [runC_acc, View.ld_unit_zero off2]
  exact View.read_writes_eq_canon _ _ _ (stepPieces_cover _ _ _ _ _ _ _ _)

/-- The last point's load of the whole running maximum reads what its chunks left. -/
theorem runC_acc_load (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    arg12.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 (Rect.unit (s := S128x800) ![0, 0] S128x800.size inb_S128x800_S128x800_0_0).toLoadRect = (accStep i xs3 x4 xs2 xs1 x2 x3 xs0) := by
  rw [readCov_ld, View.ld_unit_zero off2, runC_acc, View.ld_unit_zero off2]
  rfl

theorem whole_scale (x : Vec F S4x32 .f32) : View.ld x (Rect.unit (s := S4x32) ![0, 0] S4x32.size inb_S4x32_S4x32_0_0) = x :=
  View.ld_unit_zero (S := S4x32) off2 _ x
theorem whole_len (x : Vec F S1x800 .i32) : View.ld x (Rect.unit (s := S1x800) ![0, 0] S1x800.size inb_S1x800_S1x800_0_0) = x :=
  View.ld_unit_zero (S := S1x800) off2 _ x
theorem whole_teacher (x : Vec F S4x200 .f32) : View.ld x (Rect.unit (s := S4x200) ![0, 0] S4x200.size inb_S4x200_S4x200_0_0) = x :=
  View.ld_unit_zero (S := S4x200) off2 _ x
theorem whole_s0 (x : Vec F S1x800 .f32) : View.ld x (Rect.unit (s := S1x800) ![0, 0] S1x800.size inb_S1x800_S1x800_0_0) = x :=
  View.ld_unit_zero (S := S1x800) off2 _ x
theorem whole_d0 (x : Vec F S96x800 .fp8e4m3) : View.ld x (Rect.unit (s := S96x800) ![0, 0] S96x800.size inb_S96x800_S96x800_0_0) = x :=
  View.ld_unit_zero (S := S96x800) off2 _ x
theorem whole_q (x : Vec F S128x96 .fp8e4m3) : View.ld x (Rect.unit (s := S128x96) ![0, 0] S128x96.size inb_S128x96_S128x96_0_0) = x :=
  View.ld_unit_zero (S := S128x96) off2 _ x
theorem scorePieces_cover (s : FVec F S4x800 .f32) (y : S4x800.Idx) : ∃ pc ∈ scorePieces s, y ∈ pc.1.set :=
  View.cover_of_tiledL (scorePieces s) S4x800.size (by sl_kernel_rfl) y
theorem scorePieces_canon (s : FVec F S4x800 .f32) : View.canon (scorePieces s) = s :=
  View.canon_unit_zero (S := S4x800) off2 _ _

theorem runC_scores_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) {κ' : Kind} {sp' : Space} (v : View sig κ' sp' S4x800 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1) = outScores (accStep i xs3 x4 xs2 xs1 x2 x3 xs0) x1 x4 := by
  rw [runC_scores_loads, runC_acc_load, View.read_writes_eq_canon _ _ _ (scorePieces_cover _), scorePieces_canon]
  simp only [ld_unread]
  exact congrArg₂ (fun a b => scoresV (accStep i xs3 x4 xs2 xs1 x2 x3 xs0) a b) (whole_scale x1) (whole_len x4)

theorem runC_loss_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) {κ' : Kind} {sp' : Space} (v : View sig κ' sp' S4 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1) = outLoss (accStep i xs3 x4 xs2 xs1 x2 x3 xs0) x1 x4 x5 x6 := by
  rw [runC_loss_loads, runC_acc_load, View.read_writes_eq_canon _ _ _ (lossPieces_cover _ _ _)]
  simp only [ld_unread]
  exact (congrArg₂ (fun a b => View.canon (lossPieces (scoresV (accStep i xs3 x4 xs2 xs1 x2 x3 xs0) a b) (posAt x5) (View.ld x6 (Rect.unit (s := S4x200) ![0, 0] S4x200.size inb_S4x200_S4x200_0_0)))) (whole_scale x1) (whole_len x4)).trans
    (congrArg (fun t => View.canon (lossPieces (scoresV (accStep i xs3 x4 xs2 xs1 x2 x3 xs0) x1 x4) (posAt x5) t)) (whole_teacher x6))

theorem runC_kl_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) {κ' : Kind} {sp' : Space} (v : View sig κ' sp' S4 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1) = outKl (accStep i xs3 x4 xs2 xs1 x2 x3 xs0) x1 x4 x6 := by
  rw [runC_kl_loads, runC_acc_load, View.read_writes_eq_canon _ _ _ (klPieces_cover _ _)]
  simp only [ld_unread]
  exact (congrArg₂ (fun a b => View.canon (klPieces (scoresV (accStep i xs3 x4 xs2 xs1 x2 x3 xs0) a b) (View.ld x6 (Rect.unit (s := S4x200) ![0, 0] S4x200.size inb_S4x200_S4x200_0_0)))) (whole_scale x1) (whole_len x4)).trans
    (congrArg (fun t => View.canon (klPieces (scoresV (accStep i xs3 x4 xs2 xs1 x2 x3 xs0) x1 x4) t)) (whole_teacher x6))

theorem runC_tok_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) {κ' : Kind} {sp' : Space} (v : View sig κ' sp' S4x32x800 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1) = outTok (accStep i xs3 x4 xs2 xs1 x2 x3 xs0) x1 x4 := by
  rw [runC_tok_loads, runC_acc_load]
  rw [View.read_writes_eq_canon _ _ _ (tokPieces_cover _ _ _)]
  simp only [ld_unread]
  exact congrArg₂ (fun a b => View.canon (tokPieces (accStep i xs3 x4 xs2 xs1 x2 x3 xs0) a b)) (whole_scale x1) (whole_len x4)

theorem runA_q_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) {κ' : Kind} {sp' : Space} (v : View sig κ' sp' S128x96 .fp8e4m3) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.2.2.1) = qInit x0 x1 := by
  rw [runA_q_loads]; simp only [ld_unread]
  exact View.read_writes_eq_canon _ _ _ (qPieces_cover _ _)

theorem runA_d0_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) {κ' : Kind} {sp' : Space} (v : View sig κ' sp' S96x800 .fp8e4m3) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1) = d0Init x2 := by
  rw [runA_d0_loads]; simp only [ld_unread]
  exact View.read_writes_eq_canon _ _ _ (fun y => ⟨_, List.mem_singleton_self _, View.mem_set_unit_zero off2 inb_S96x800_S96x800_0_0 y⟩)

theorem runA_s0_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) {κ' : Kind} {sp' : Space} (v : View sig κ' sp' S1x800 .f32) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.2.1) = s0Init x3 := by
  rw [runA_s0_loads]; simp only [ld_unread]
  exact View.read_writes_eq_canon _ _ _ (fun y => ⟨_, List.mem_singleton_self _, View.mem_set_unit_zero off2 inb_S1x800_S1x800_0_0 y⟩)

/-- A chunk's columns lie beyond an earlier chunk's. -/
theorem chunk_miss {o o' W W' : ℕ} (inb : ∀ a, ![0, o] a + ![128, W] a ≤ S128x800.size a) (inb' : ∀ a, ![0, o'] a + ![128, W'] a ≤ S128x800.size a)
    (h : o' + W' ≤ o) (j : (Rect.unit (s := S128x800) ![0, o] ![128, W] inb).shape.Idx) :
    (Rect.unit (s := S128x800) ![0, o] ![128, W] inb).idx j ∉ (Rect.unit (s := S128x800) ![0, o'] ![128, W'] inb').set := by
  rw [Rect.mem_set_unit]
  intro hall
  have h1 := (hall 1).2
  have e : (((Rect.unit (s := S128x800) ![0, o] ![128, W] inb).idx j) 1 : ℕ) = o + 1 * (j 1).val := rfl
  rw [e] at h1
  have : o + 1 * (j 1).val < o' + W' := h1
  omega

/-- Reading a chunk of the running maximum under earlier chunks' stores reads under them. -/
theorem ld_canon_miss {o o' W W' : ℕ} (inb : ∀ a, ![0, o] a + ![128, W] a ≤ S128x800.size a) (inb' : ∀ a, ![0, o'] a + ![128, W'] a ≤ S128x800.size a)
    (h : o' + W' ≤ o) (w) (L : List (View.Piece (Elt F) S128x800 .f32)) :
    View.ld (View.canon (⟨Rect.unit (s := S128x800) ![0, o'] ![128, W'] inb', w⟩ :: L)) (Rect.unit (s := S128x800) ![0, o] ![128, W] inb)
      = View.ld (View.canon L) (Rect.unit (s := S128x800) ![0, o] ![128, W] inb) :=
  funext fun j => View.canon_cons_of_not_mem _ _ (chunk_miss inb inb' h j)

set_option maxHeartbeats 3200000 in
theorem runA_acc_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) {κ' : Kind} {sp' : Space} (v : View sig κ' sp' S128x800 .f32) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1) = accStep i (qInit x0 x1) x4 (s0Init x3) (d0Init x2) x2 x3 accInit := by
  obtain ⟨L1, L2, L3, L4, e1, e2, e3, e4, e⟩ := runA_acc_loads c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6
  have c1 : (arg12.view.readCov (accPieces (F := F)) (Rect.unit (s := S128x800) ![0, 0] S128x256.size inb_S128x800_S128x256_0_0).toLoadRect) = (View.ld (accInit (F := F)) (Rect.unit (s := S128x800) ![0, 0] S128x256.size inb_S128x800_S128x256_0_0)) := readCov_ld _ _ _
  have c2 : (arg12.view.readCov L1 (Rect.unit (s := S128x800) ![0, 256] S128x256.size inb_S128x800_S128x256_0_256).toLoadRect) = (View.ld (accInit (F := F)) (Rect.unit (s := S128x800) ![0, 256] S128x256.size inb_S128x800_S128x256_0_256)) := by
    rw [readCov_ld, e1]; exact ld_canon_miss _ _ (by decide) _ _
  have c3 : (arg12.view.readCov L2 (Rect.unit (s := S128x800) ![0, 512] S128x256.size inb_S128x800_S128x256_0_512).toLoadRect) = (View.ld (accInit (F := F)) (Rect.unit (s := S128x800) ![0, 512] S128x256.size inb_S128x800_S128x256_0_512)) := by
    rw [readCov_ld, e2, e1]; exact (ld_canon_miss _ _ (by decide) _ _).trans (ld_canon_miss _ _ (by decide) _ _)
  have c4 : (arg12.view.readCov L3 (Rect.unit (s := S128x800) ![0, 768] S128x32.size inb_S128x800_S128x32_0_768).toLoadRect) = (View.ld (accInit (F := F)) (Rect.unit (s := S128x800) ![0, 768] S128x32.size inb_S128x800_S128x32_0_768)) := by
    rw [readCov_ld, e3, e2, e1]
    exact (ld_canon_miss _ _ (by decide) _ _).trans ((ld_canon_miss _ _ (by decide) _ _).trans (ld_canon_miss _ _ (by decide) _ _))
  have eL : L4 = stepPieces i (qInit x0 x1) x4 (s0Init x3) (d0Init x2) x2 x3 accInit ++ accPieces := by
    rw [c1] at e1; rw [c2] at e2; rw [c3] at e3; rw [c4] at e4
    rw [e4, e3, e2, e1]
    simp only [readCov_ld, ld_unread, mD256_eq, mD32_eq, mS256_eq, mS32_eq]
    rw [whole_q]
    rfl
  rw [e, eL]
  have hc := stepPieces_cover i (qInit x0 x1) x4 (s0Init x3) (d0Init x2) x2 x3 accInit
  funext y
  obtain ⟨p, hp, hy⟩ := hc y
  rw [View.read_writes_apply_eq_canon _ _ y _ ⟨p, List.mem_append_left _ hp, hy⟩]
  exact canon_append_of_cover _ y _ ⟨p, hp, hy⟩

end Cert.Kernel.Gen
-- ==== Proof.KernelMask.lean ====
/- Rows past a document's 300 positions take no part: what a grid point's step computes does not depend on them. -/
module

public import proofs.«01_k».proof.Proof.KernelState

@[expose] public section

set_option maxRecDepth 16384

noncomputable section

namespace Cert.Kernel.Gen

open Idealize.ShloMosaic Idealize.ShloMosaic.TcCoe Idealize.ShloMosaic.Tactic
open Idealize.ShloMosaic.Rounds

variable {F : FTy → Type} [FloatOps F]

/-- A row's position, as a number. -/
theorem rowAt_toNat (i : grid0.Coords) {n : ℕ} (hn : n < 40) : (rowAt i n).toNat = 40 * (i 0).val + n := by
  have h0 : (i 0).val < 8 := (i 0).isLt
  unfold rowAt Scalar.addi Scalar.muli IntOp.addi IntOp.muli
  rw [BitVec.toNat_add, BitVec.toNat_mul, BitVec.toNat_ofNat, BitVec.toNat_ofNat]
  change ((i 0).val % 2 ^ 32 * 40 % 2 ^ 32 + n % 2 ^ 32) % 2 ^ 32 = _
  omega

theorem rowAt_toInt (i : grid0.Coords) {n : ℕ} (hn : n < 40) : (rowAt i n).toInt = 40 * (i 0).val + n := by
  have h0 : (i 0).val < 8 := (i 0).isLt
  have h := rowAt_toNat i hn
  rw [BitVec.toInt_eq_toNat_cond, if_pos (by omega), h]
  omega

/-- The comparison of a position with an effective length, as numbers. -/
theorem slt_min_iff (b x : BitVec 32) : b.slt (IntOp.minsi x 300#32) = true ↔ b.toInt < x.toInt ∧ b.toInt < 300 := by
  have h3 : (300#32).toInt = 300 := by decide
  unfold IntOp.minsi
  by_cases h : x.slt 300#32 = true
  · rw [if_pos h]; rw [BitVec.slt_iff_toInt_lt] at h ⊢; rw [h3] at h; omega
  · rw [if_neg h]; rw [BitVec.slt_iff_toInt_lt] at h ⊢; rw [h3] at h ⊢; omega

/-- At a position past the end no document has a token. -/
theorem valid256_past (i : grid0.Coords) (len : Vec F S1x256 .i32) {n : ℕ} (hn : n < 40) (h : ¬ 40 * (i 0).val + n < 300) (y : S1x256.Idx) :
    valid256 len (rowAt i n) y = 0#1 := by
  have hs : (rowAt i n).slt (IntOp.minsi (shapeCast S1x256 len shapeCasts_S1x256_S1x256 y) 300#32) = false := by
    rw [Bool.eq_false_iff]; intro hc
    have := ((slt_min_iff _ _).mp hc).2
    rw [rowAt_toInt i hn] at this
    omega
  show BitVec.ofBool ((rowAt i n).slt (IntOp.minsi (shapeCast S1x256 len shapeCasts_S1x256_S1x256 y) 300#32)) = 0#1
  rw [hs]; rfl

theorem rowStep256_past (i : grid0.Coords) (q : Vec F S128x96 .fp8e4m3) (len : Vec F S1x256 .i32) (s0 : Vec F S1x256 .f32)
    (d0 : Vec F S96x256 .fp8e4m3) (acc : FVec F S128x256 .f32) {n : ℕ} (hn : n < 40) (h : ¬ 40 * (i 0).val + n < 300)
    (dj dj' : Vec F S1x96x256 .fp8e4m3) (sj sj' : Vec F S1x256 .f32) :
    rowStep256 q len s0 d0 acc (rowAt i n) dj sj = rowStep256 q len s0 d0 acc (rowAt i n) dj' sj' := by
  have e : valid256 len (rowAt i n) = fun _ => 0#1 := funext fun y => valid256_past i len hn h y
  have ec : codes256 len d0 (rowAt i n) dj = codes256 len d0 (rowAt i n) dj' := by unfold codes256; rw [e]; rfl
  have es : scales256 len s0 (rowAt i n) sj = scales256 len s0 (rowAt i n) sj' := by unfold scales256; rw [e]; rfl
  unfold rowStep256; rw [ec, es]

theorem rows256_congr (i : grid0.Coords) (q : Vec F S128x96 .fp8e4m3) (len : Vec F S1x256 .i32) (s0 : Vec F S1x256 .f32)
    (d0 : Vec F S96x256 .fp8e4m3) (D D' : ℕ → Vec F S1x96x256 .fp8e4m3) (S S' : ℕ → Vec F S1x256 .f32) (acc : FVec F S128x256 .f32)
    (hD : ∀ n, n < 40 → 40 * (i 0).val + n < 300 → D n = D' n) (hS : ∀ n, n < 40 → 40 * (i 0).val + n < 300 → S n = S' n) :
    ∀ n, n ≤ 40 → rows256 i q len s0 d0 D S acc n = rows256 i q len s0 d0 D' S' acc n
  | 0, _ => rfl
  | n + 1, hn => by
    show rowStep256 q len s0 d0 (rows256 i q len s0 d0 D S acc n) (rowAt i n) (D n) (S n)
      = rowStep256 q len s0 d0 (rows256 i q len s0 d0 D' S' acc n) (rowAt i n) (D' n) (S' n)
    rw [rows256_congr i q len s0 d0 D D' S S' acc hD hS n (by omega)]
    by_cases h : 40 * (i 0).val + n < 300
    · rw [hD n (by omega) h, hS n (by omega) h]
    · exact rowStep256_past i q len s0 d0 _ (by omega) h _ _ _ _

theorem chunk256_congr (i : grid0.Coords) (q : Vec F S128x96 .fp8e4m3) (len : Vec F S1x256 .i32) (s0 : Vec F S1x256 .f32)
    (d0 : Vec F S96x256 .fp8e4m3) (x2 x2' : Vec F S40x96x800 .fp8e4m3) (x3 x3' : Vec F S40x800 .f32) (o : ℕ) (ho : o + 256 ≤ 800)
    (acc : FVec F S128x256 .f32)
    (h2 : ∀ y : S40x96x800.Idx, 40 * (i 0).val + (y 0).val < 300 → x2 y = x2' y)
    (h3 : ∀ y : S40x800.Idx, 40 * (i 0).val + (y 0).val < 300 → x3 y = x3' y) :
    chunk256 i q len s0 d0 (ldD256 x2 o ho) (ldS256 x3 o ho) acc = chunk256 i q len s0 d0 (ldD256 x2' o ho) (ldS256 x3' o ho) acc := by
  unfold chunk256
  rw [rows256_congr i q len s0 d0 (ldD256 x2 o ho) (ldD256 x2' o ho) (ldS256 x3 o ho) (ldS256 x3' o ho) acc ?_ ?_ 40 (Nat.le_refl _)]
  · intro n hn h
    funext y
    refine h2 _ ?_
    have e : (y 0).val < 1 := (y 0).isLt
    show 40 * (i 0).val + (n % 40 + 1 * (y 0).val) < 300
    omega
  · intro n hn h
    funext y
    refine h3 _ ?_
    have e : (y 0).val < 1 := (y 0).isLt
    show 40 * (i 0).val + (n % 40 + 1 * (y 0).val) < 300
    omega

/-- At a position past the end no document has a token. -/
theorem valid32_past (i : grid0.Coords) (len : Vec F S1x32 .i32) {n : ℕ} (hn : n < 40) (h : ¬ 40 * (i 0).val + n < 300) (y : S1x32.Idx) :
    valid32 len (rowAt i n) y = 0#1 := by
  have hs : (rowAt i n).slt (IntOp.minsi (shapeCast S1x32 len shapeCasts_S1x32_S1x32 y) 300#32) = false := by
    rw [Bool.eq_false_iff]; intro hc
    have := ((slt_min_iff _ _).mp hc).2
    rw [rowAt_toInt i hn] at this
    omega
  show BitVec.ofBool ((rowAt i n).slt (IntOp.minsi (shapeCast S1x32 len shapeCasts_S1x32_S1x32 y) 300#32)) = 0#1
  rw [hs]; rfl

theorem rowStep32_past (i : grid0.Coords) (q : Vec F S128x96 .fp8e4m3) (len : Vec F S1x32 .i32) (s0 : Vec F S1x32 .f32)
    (d0 : Vec F S96x32 .fp8e4m3) (acc : FVec F S128x32 .f32) {n : ℕ} (hn : n < 40) (h : ¬ 40 * (i 0).val + n < 300)
    (dj dj' : Vec F S1x96x32 .fp8e4m3) (sj sj' : Vec F S1x32 .f32) :
    rowStep32 q len s0 d0 acc (rowAt i n) dj sj = rowStep32 q len s0 d0 acc (rowAt i n) dj' sj' := by
  have e : valid32 len (rowAt i n) = fun _ => 0#1 := funext fun y => valid32_past i len hn h y
  have ec : codes32 len d0 (rowAt i n) dj = codes32 len d0 (rowAt i n) dj' := by unfold codes32; rw [e]; rfl
  have es : scales32 len s0 (rowAt i n) sj = scales32 len s0 (rowAt i n) sj' := by unfold scales32; rw [e]; rfl
  unfold rowStep32; rw [ec, es]

theorem rows32_congr (i : grid0.Coords) (q : Vec F S128x96 .fp8e4m3) (len : Vec F S1x32 .i32) (s0 : Vec F S1x32 .f32)
    (d0 : Vec F S96x32 .fp8e4m3) (D D' : ℕ → Vec F S1x96x32 .fp8e4m3) (S S' : ℕ → Vec F S1x32 .f32) (acc : FVec F S128x32 .f32)
    (hD : ∀ n, n < 40 → 40 * (i 0).val + n < 300 → D n = D' n) (hS : ∀ n, n < 40 → 40 * (i 0).val + n < 300 → S n = S' n) :
    ∀ n, n ≤ 40 → rows32 i q len s0 d0 D S acc n = rows32 i q len s0 d0 D' S' acc n
  | 0, _ => rfl
  | n + 1, hn => by
    show rowStep32 q len s0 d0 (rows32 i q len s0 d0 D S acc n) (rowAt i n) (D n) (S n)
      = rowStep32 q len s0 d0 (rows32 i q len s0 d0 D' S' acc n) (rowAt i n) (D' n) (S' n)
    rw [rows32_congr i q len s0 d0 D D' S S' acc hD hS n (by omega)]
    by_cases h : 40 * (i 0).val + n < 300
    · rw [hD n (by omega) h, hS n (by omega) h]
    · exact rowStep32_past i q len s0 d0 _ (by omega) h _ _ _ _

theorem chunk32_congr (i : grid0.Coords) (q : Vec F S128x96 .fp8e4m3) (len : Vec F S1x32 .i32) (s0 : Vec F S1x32 .f32)
    (d0 : Vec F S96x32 .fp8e4m3) (x2 x2' : Vec F S40x96x800 .fp8e4m3) (x3 x3' : Vec F S40x800 .f32) (o : ℕ) (ho : o + 32 ≤ 800)
    (acc : FVec F S128x32 .f32)
    (h2 : ∀ y : S40x96x800.Idx, 40 * (i 0).val + (y 0).val < 300 → x2 y = x2' y)
    (h3 : ∀ y : S40x800.Idx, 40 * (i 0).val + (y 0).val < 300 → x3 y = x3' y) :
    chunk32 i q len s0 d0 (ldD32 x2 o ho) (ldS32 x3 o ho) acc = chunk32 i q len s0 d0 (ldD32 x2' o ho) (ldS32 x3' o ho) acc := by
  unfold chunk32
  rw [rows32_congr i q len s0 d0 (ldD32 x2 o ho) (ldD32 x2' o ho) (ldS32 x3 o ho) (ldS32 x3' o ho) acc ?_ ?_ 40 (Nat.le_refl _)]
  · intro n hn h
    funext y
    refine h2 _ ?_
    have e : (y 0).val < 1 := (y 0).isLt
    show 40 * (i 0).val + (n % 40 + 1 * (y 0).val) < 300
    omega
  · intro n hn h
    funext y
    refine h3 _ ?_
    have e : (y 0).val < 1 := (y 0).isLt
    show 40 * (i 0).val + (n % 40 + 1 * (y 0).val) < 300
    omega

/-- A grid point's step depends on the rows of its blocks at positions before 300 only. -/
theorem accStep_congr (i : grid0.Coords) (q : Vec F S128x96 .fp8e4m3) (len : Vec F S1x800 .i32) (s0 : Vec F S1x800 .f32)
    (d0 : Vec F S96x800 .fp8e4m3) (x2 x2' : Vec F S40x96x800 .fp8e4m3) (x3 x3' : Vec F S40x800 .f32) (acc : Vec F S128x800 .f32)
    (h2 : ∀ y : S40x96x800.Idx, 40 * (i 0).val + (y 0).val < 300 → x2 y = x2' y)
    (h3 : ∀ y : S40x800.Idx, 40 * (i 0).val + (y 0).val < 300 → x3 y = x3' y) :
    accStep i q len s0 d0 x2 x3 acc = accStep i q len s0 d0 x2' x3' acc := by
  unfold accStep stepPieces
  rw [chunk32_congr i q _ _ _ x2 x2' x3 x3' 768 _ _ h2 h3, chunk256_congr i q _ _ _ x2 x2' x3 x3' 512 _ _ h2 h3,
    chunk256_congr i q _ _ _ x2 x2' x3 x3' 256 _ _ h2 h3, chunk256_congr i q _ _ _ x2 x2' x3 x3' 0 _ _ h2 h3]

end Cert.Kernel.Gen
-- ==== Proof.KernelBody.lean ====
/- The kernel's run: what every buffer holds before and after each grid point, the body's obligation there, and the
   The last block of document positions overhangs its array; the rows past the end take no part (`accStep_congr`). -/
module

public import proofs.«01_k».proof.Proof.KernelMask
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- A point's grid coordinate is the point. -/
theorem coords_val (t : Fin cfg0.N) : ((grid0.coords t) 0).val = t.val := by
  rcases fin_N0 t with rfl | rfl | rfl | rfl | rfl | rfl | rfl | rfl <;> rfl

/-- The block of codes at a point, with zeros where it overhangs the array. -/
def xin2 (c : Dev nD) (t : Fin cfg0.N) : Vec F S40x96x800 .fp8e4m3 :=
  win0_2.fill (grid0.coords t) (fun _ => FloatOps.ofBits .fp8e4m3 0#8) (iblk m c 2 t)
/-- The block of scales at a point, with zeros where it overhangs the array. -/
def xin3 (c : Dev nD) (t : Fin cfg0.N) : Vec F S40x800 .f32 :=
  win0_3.fill (grid0.coords t) (fun _ => FloatOps.ofBits .f32 0#32) (iblk m c 3 t)

theorem moved2 (t : Fin cfg0.N) (y : S40x96x800.Idx) (h : 40 * ((grid0.coords t) 0).val + (y 0).val < 300) :
    win0_2.moved (grid0.coords t) y = true := by
  rw [coords_val] at h
  have h0 : (y 0).val < 40 := (y 0).isLt
  refine (win0_2.moved_iff (grid0.coords t) y).mpr fun a => ?_
  match a with
  | ⟨0, _⟩ =>
    have e : win0_2.xsize (grid0.coords t) 0 = min 40 (300 - 40 * t.val) := by
      rcases fin_N0 t with rfl | rfl | rfl | rfl | rfl | rfl | rfl | rfl <;> rfl
    show (y 0).val < win0_2.xsize (grid0.coords t) 0
    rw [e]; omega
  | ⟨1, _⟩ => exact (y 1).isLt
  | ⟨2, _⟩ => exact (y 2).isLt

theorem moved3 (t : Fin cfg0.N) (y : S40x800.Idx) (h : 40 * ((grid0.coords t) 0).val + (y 0).val < 300) :
    win0_3.moved (grid0.coords t) y = true := by
  rw [coords_val] at h
  have h0 : (y 0).val < 40 := (y 0).isLt
  refine (win0_3.moved_iff (grid0.coords t) y).mpr fun a => ?_
  match a with
  | ⟨0, _⟩ =>
    have e : win0_3.xsize (grid0.coords t) 0 = min 40 (300 - 40 * t.val) := by
      rcases fin_N0 t with rfl | rfl | rfl | rfl | rfl | rfl | rfl | rfl <;> rfl
    show (y 0).val < win0_3.xsize (grid0.coords t) 0
    rw [e]; omega
  | ⟨1, _⟩ => exact (y 1).isLt

/-- On the rows inside the array, whatever the buffer held past its end is not seen. -/
theorem fill2_eq (c : Dev nD) (t : Fin cfg0.N) (d : Vec F S40x96x800 .fp8e4m3) (y : S40x96x800.Idx)
    (h : 40 * ((grid0.coords t) 0).val + (y 0).val < 300) :
    win0_2.fill (grid0.coords t) d (iblk m c 2 t) y = xin2 m c t y := by
  unfold xin2 Window.fill
  rw [dif_pos (moved2 t y h), dif_pos (moved2 t y h)]

theorem fill3_eq (c : Dev nD) (t : Fin cfg0.N) (d : Vec F S40x800 .f32) (y : S40x800.Idx)
    (h : 40 * ((grid0.coords t) 0).val + (y 0).val < 300) :
    win0_3.fill (grid0.coords t) d (iblk m c 3 t) y = xin3 m c t y := by
  unfold xin3 Window.fill
  rw [dif_pos (moved3 t y h), dif_pos (moved3 t y h)]

/-- The first block lies inside the array whole. -/
theorem fill2_first (c : Dev nD) (t : Fin cfg0.N) (hz : t.val = 0) (d : Vec F S40x96x800 .fp8e4m3) :
    win0_2.fill (grid0.coords t) d (iblk m c 2 t) = xin2 m c t :=
  funext fun y => fill2_eq m c t d y (by rw [coords_val, hz]; have : (y 0).val < 40 := (y 0).isLt; omega)
theorem fill3_first (c : Dev nD) (t : Fin cfg0.N) (hz : t.val = 0) (d : Vec F S40x800 .f32) :
    win0_3.fill (grid0.coords t) d (iblk m c 3 t) = xin3 m c t :=
  funext fun y => fill3_eq m c t d y (by rw [coords_val, hz]; have : (y 0).val < 40 := (y 0).isLt; omega)

/-! ## The scratch between points -/

/-- The first point. -/
abbrev tz : Fin cfg0.N := ⟨0, by rw [show cfg0.N = 8 from N_0]; decide⟩

/-- The queries' codes the kernel keeps. -/
def qKept (c : Dev nD) : Vec F S128x96 .fp8e4m3 := qInit (iblk m c 0 tz) (iblk m c 1 tz)
/-- Position 0's codes the kernel keeps. -/
def d0Kept (c : Dev nD) : Vec F S96x800 .fp8e4m3 := d0Init (xin2 m c tz)
/-- Position 0's scales the kernel keeps. -/
def s0Kept (c : Dev nD) : Vec F S1x800 .f32 := s0Init (xin3 m c tz)

/-- The running maximum after each point. -/
def accAt (c : Dev nD) : (n : ℕ) → n < cfg0.N → Vec F S128x800 .f32
  | 0, h => accStep (grid0.coords ⟨0, h⟩) (qKept m c) (iblk m c 4 ⟨0, h⟩) (s0Kept m c) (d0Kept m c) (xin2 m c ⟨0, h⟩) (xin3 m c ⟨0, h⟩) accInit
  | n + 1, h => accStep (grid0.coords ⟨n + 1, h⟩) (qKept m c) (iblk m c 4 ⟨n + 1, h⟩) (s0Kept m c) (d0Kept m c) (xin2 m c ⟨n + 1, h⟩)
      (xin3 m c ⟨n + 1, h⟩) (accAt c n (Nat.lt_of_succ_lt h))

theorem accAt_zero (c : Dev nD) (t : Fin cfg0.N) (hz : t.val = 0) :
    accAt m c t.val t.isLt = accStep (grid0.coords t) (qKept m c) (iblk m c 4 t) (s0Kept m c) (d0Kept m c) (xin2 m c t) (xin3 m c t) accInit := by
  obtain ⟨n, hn⟩ := t
  cases n with
  | zero => rfl
  | succ n => exact absurd hz (Nat.succ_ne_zero n)

theorem accAt_pos (c : Dev nD) (t : Fin cfg0.N) (hz : t.val ≠ 0) :
    accAt m c t.val t.isLt = accStep (grid0.coords t) (qKept m c) (iblk m c 4 t) (s0Kept m c) (d0Kept m c) (xin2 m c t) (xin3 m c t)
      (accAt m c (t.val - 1) (lt_of_le_of_lt (Nat.sub_le _ _) t.isLt)) := by
  obtain ⟨n, hn⟩ := t
  cases n with
  | zero => exact absurd rfl hz
  | succ n => rfl

/-- The invariant before position `n`: before the first point every scratch buffer holds anything; afterwards what the
    points before left. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ owns (c : Thread nD τ) scM0_1 fullShare (d0Kept m c)
      ∗ owns (c : Thread nD τ) scM0_2 fullShare (s0Kept m c) ∗ owns (c : Thread nD τ) scM0_3 fullShare (qKept m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn) ∗ owns (c : Thread nD τ) scM0_1 fullShare (d0Kept m c)
      ∗ owns (c : Thread nD τ) scM0_2 fullShare (s0Kept m c) ∗ owns (c : Thread nD τ) scM0_3 fullShare (qKept m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)) ∗ owns (c : Thread nD τ) scM0_1 fullShare (d0Kept m c)
      ∗ owns (c : Thread nD τ) scM0_2 fullShare (s0Kept m c) ∗ owns (c : Thread nD τ) scM0_3 fullShare (qKept m c)) ∗ (∃ r, prngReg c r)) := by
  cases n with
  | zero => exact absurd rfl hz
  | succ n => rfl

/-! ## The pipeline's proof data -/

/-- The arrays as the region finds them; after the body each input's buffer at its block and each result's at what the
    running maximum gives; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => xin2 m c t
    | ⟨3, _⟩ => xin3 m c t
    | ⟨4, _⟩ => iblk m c 4 t
    | ⟨5, _⟩ => iblk m c 5 t
    | ⟨6, _⟩ => iblk m c 6 t
    | ⟨7, _⟩ => outScores (accAt m c t.val t.isLt) (iblk m c 1 t) (iblk m c 4 t)
    | ⟨8, _⟩ => outLoss (accAt m c t.val t.isLt) (iblk m c 1 t) (iblk m c 4 t) (iblk m c 5 t) (iblk m c 6 t)
    | ⟨9, _⟩ => outKl (accAt m c t.val t.isLt) (iblk m c 1 t) (iblk m c 4 t) (iblk m c 6 t)
    | ⟨10, _⟩ => outTok (accAt m c t.val t.isLt) (iblk m c 1 t) (iblk m c 4 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = xin2 m c t := by dsimp only [dats]
theorem after0_3 (c : Dev nD) (t : Fin cfg0.N) : (dats m 0 c).after 3 t = xin3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outScores (accAt m c t.val t.isLt) (iblk m c 1 t) (iblk m c 4 t) := by dsimp only [dats]
theorem after0_8 (c : Dev nD) (t : Fin cfg0.N) : (dats m 0 c).after 8 t = outLoss (accAt m c t.val t.isLt) (iblk m c 1 t) (iblk m c 4 t) (iblk m c 5 t) (iblk m c 6 t) := by dsimp only [dats]
theorem after0_9 (c : Dev nD) (t : Fin cfg0.N) : (dats m 0 c).after 9 t = outKl (accAt m c t.val t.isLt) (iblk m c 1 t) (iblk m c 4 t) (iblk m c 6 t) := by dsimp only [dats]
theorem after0_10 (c : Dev nD) (t : Fin cfg0.N) : (dats m 0 c).after 10 t = outTok (accAt m c t.val t.isLt) (iblk m c 1 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- Fetched at every point: the block on the rows inside the array, `d` past its end. -/
theorem before0_2 (c : Dev nD) (t : Fin cfg0.N) (d) : (dats m 0 c).before 2 t d = win0_2.fill (grid0.coords t) d (iblk m c 2 t) := by
  unfold Dat.before; rw [if_pos (fetch0_2 t)]; rfl
/-- Fetched at every point: the block on the rows inside the array, `d` past its end. -/
theorem before0_3 (c : Dev nD) (t : Fin cfg0.N) (d) : (dats m 0 c).before 3 t d = win0_3.fill (grid0.coords t) d (iblk m c 3 t) := by
  unfold Dat.before; rw [if_pos (fetch0_3 t)]; rfl

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare (win0_2.fill (grid0.coords t) d (iblk m c 2 t)))
    ∗ (∃ d, owns (c : Thread nD τ) (ms0_3 t) fullShare (win0_3.fill (grid0.coords t) d (iblk m c 3 t)))
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point, by the case its two conditions select. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  have hacc : t.val ≠ 0 → ∀ d2 d3, accStep (grid0.coords t) (qKept m c) (iblk m c 4 t) (s0Kept m c) (d0Kept m c)
      (win0_2.fill (grid0.coords t) d2 (iblk m c 2 t)) (win0_3.fill (grid0.coords t) d3 (iblk m c 3 t))
      (accAt m c (t.val - 1) (lt_of_le_of_lt (Nat.sub_le _ _) t.isLt)) = accAt m c t.val t.isLt := fun hz d2 d3 => by
    rw [accAt_pos m c t hz]
    exact accStep_congr _ _ _ _ _ _ _ _ _ _ (fun y h => fill2_eq m c t d2 y h) (fun y h => fill3_eq m c t d3 y h)
  by_cases h0 : t.val % 8 = 0
  · have h1 : ¬ t.val % 8 = 7 := by omega
    have hz : t.val = 0 := by omega
    have htz : t = tz := Fin.ext hz
    have hd0A : ∀ d2, d0Init (win0_2.fill (grid0.coords t) d2 (iblk m c 2 t)) = d0Kept m c := fun d2 => by
      rw [fill2_first m c t hz, htz]; rfl
    have hs0A : ∀ d3, s0Init (win0_3.fill (grid0.coords t) d3 (iblk m c 3 t)) = s0Kept m c := fun d3 => by
      rw [fill3_first m c t hz, htz]; rfl
    have hqA : qInit (iblk m c 0 t) (iblk m c 1 t) = qKept m c := by rw [htz]; rfl
    have haccA : ∀ d2 d3, accStep (grid0.coords t) (qInit (iblk m c 0 t) (iblk m c 1 t)) (iblk m c 4 t)
        (s0Init (win0_3.fill (grid0.coords t) d3 (iblk m c 3 t))) (d0Init (win0_2.fill (grid0.coords t) d2 (iblk m c 2 t)))
        (win0_2.fill (grid0.coords t) d2 (iblk m c 2 t)) (win0_3.fill (grid0.coords t) d3 (iblk m c 3 t)) accInit = accAt m c t.val t.isLt := fun d2 d3 => by
      rw [hd0A, hs0A, hqA, fill2_first m c t hz, fill3_first m c t hz]
      exact (accAt_zero m c t hz).symm
    rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
    rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
    rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
    rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
    rw [PhiS_castSucc m c t, PhiS_zero m c _ _ hz, PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (win0_2.fill (grid0.coords t) d2 (iblk m c 2 t)) (win0_3.fill (grid0.coords t) d3 (iblk m c 3 t)) (iblk m c 4 t) (iblk m c 5 t) (iblk m c 6 t)).2.2.2.2.2.2.2.2 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · unfold owns; iexists _; isplitr
          swap; · iexact HS0
          ipureintro; exact (runA_acc_read c (grid0.coords t) _ _ _ _ _ _ _ _ _ _ _ _ _ _ _ _ _ _ _ _ _ _ _ _ _ _ _ _ _ _ ((hcond0_0 t).mpr h0) (fun h => h1 ((hcond0_1 t).mp h)) _ _ _ _ _ _ _ _ _).trans (haccA d2 d3)
        isplitl [HS1]
        · unfold owns; iexists _; isplitr
          swap; · iexact HS1
          ipureintro; exact (runA_d0_read c (grid0.coords t) _ _ _ _ _ _ _ _ _ _ _ _ _ _ _ _ _ _ _ _ _ _ _ _ _ _ _ _ _ _ ((hcond0_0 t).mpr h0) (fun h => h1 ((hcond0_1 t).mp h)) _ _ _ _ _ _ _ _ _).trans (hd0A d2)
        isplitl [HS2]
        · unfold owns; iexists _; isplitr
          swap; · iexact HS2
          ipureintro; exact (runA_s0_read c (grid0.coords t) _ _ _ _ _ _ _ _ _ _ _ _ _ _ _ _ _ _ _ _ _ _ _ _ _ _ _ _ _ _ ((hcond0_0 t).mpr h0) (fun h => h1 ((hcond0_1 t).mp h)) _ _ _ _ _ _ _ _ _).trans (hs0A d3)
        unfold owns; iexists _; isplitr
        swap; · iexact HS3
        ipureintro; exact (runA_q_read c (grid0.coords t) _ _ _ _ _ _ _ _ _ _ _ _ _ _ _ _ _ _ _ _ _ _ _ _ _ _ _ _ _ _ ((hcond0_0 t).mpr h0) (fun h => h1 ((hcond0_1 t).mp h)) _ _ _ _ _ _ _ _ _).trans hqA
      iexact Hg
    isplitl [Ho]; · iexact Ho
    isplitl [H0]; · iexact H0
    isplitl [H1]; · iexact H1
    isplitl [H2]; · iexists _; iexact H2
    isplitl [H3]; · iexists _; iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexists _; iexact H10
  · have hz : t.val ≠ 0 := fun e => h0 (by rw [e])
    replace hacc := hacc hz
    by_cases h1 : t.val % 8 = 7
    · skip
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
        unfold Dat.leavesExact; rw [liveAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
        unfold Dat.leavesExact; rw [liveAt0_9_C t (fun h => h0 ((hcond0_0 t).mp h)) ((hcond0_1 t).mpr h1)], after0_9]
      rw [show (dats m 0 c).leavesExact 10 t = owns (c : Thread nD τ) (ms0_10 t) fullShare ((dats m 0 c).after 10 t) from by
        unfold Dat.leavesExact; rw [liveAt0_10_C t (fun h => h0 ((hcond0_0 t).mp h)) ((hcond0_1 t).mpr h1)], after0_10]
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (win0_2.fill (grid0.coords t) d2 (iblk m c 2 t)) (win0_3.fill (grid0.coords t) d3 (iblk m c 3 t)) (iblk m c 4 t) (iblk m c 5 t) (iblk m c 6 t) _ _ _ _ ).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, ⟨%e7, H7⟩, ⟨%e8, H8⟩, ⟨%e9, H9⟩, ⟨%e10, H10⟩, ⟨%es0, HS0⟩, HS1, HS2, HS3⟩
      isplitl [HS0 HS1 HS2 HS3 Hg]
      · isplitl [HS0 HS1 HS2 HS3]
        · isplitl [HS0]
          · unfold owns; iexists _; isplitr
            swap; · iexact HS0
            ipureintro; exact (runC_acc_read c (grid0.coords t) _ _ _ _ _ _ _ _ _ _ _ _ _ _ _ _ _ _ _ _ _ _ _ _ _ _ _ _ _ _ (fun h => h0 ((hcond0_0 t).mp h)) ((hcond0_1 t).mpr h1) _ _ _ _ _ _ _ _ _ _ _ _ _).trans (hacc d2 d3)
          isplitl [HS1]
          · iexact HS1
          isplitl [HS2]
          · iexact HS2
          iexact HS3
        iexact Hg
      isplitl [Ho]; · iexact Ho
      isplitl [H0]; · iexact H0
      isplitl [H1]; · iexact H1
      isplitl [H2]; · iexists _; iexact H2
      isplitl [H3]; · iexists _; iexact H3
      isplitl [H4]; · iexact H4
      isplitl [H5]; · iexact H5
      isplitl [H6]; · iexact H6
      isplitl [H7]
      · unfold owns; iexists _; isplitr
        swap; · iexact H7
        ipureintro; exact (runC_scores_read c (grid0.coords t) _ _ _ _ _ _ _ _ _ _ _ _ _ _ _ _ _ _ _ _ _ _ _ _ _ _ _ _ _ _ (fun h => h0 ((hcond0_0 t).mp h)) ((hcond0_1 t).mpr h1) _ _ _ _ _ _ _ _ _ _ _ _ _).trans (congrArg (fun a => outScores a (iblk m c 1 t) (iblk m c 4 t)) (hacc d2 d3))
      isplitl [H8]
      · unfold owns; iexists _; isplitr
        swap; · iexact H8
        ipureintro; exact (runC_loss_read c (grid0.coords t) _ _ _ _ _ _ _ _ _ _ _ _ _ _ _ _ _ _ _ _ _ _ _ _ _ _ _ _ _ _ (fun h => h0 ((hcond0_0 t).mp h)) ((hcond0_1 t).mpr h1) _ _ _ _ _ _ _ _ _ _ _ _ _).trans (congrArg (fun a => outLoss a (iblk m c 1 t) (iblk m c 4 t) (iblk m c 5 t) (iblk m c 6 t)) (hacc d2 d3))
      isplitl [H9]
      · unfold owns; iexists _; isplitr
        swap; · iexact H9
        ipureintro; exact (runC_kl_read c (grid0.coords t) _ _ _ _ _ _ _ _ _ _ _ _ _ _ _ _ _ _ _ _ _ _ _ _ _ _ _ _ _ _ (fun h => h0 ((hcond0_0 t).mp h)) ((hcond0_1 t).mpr h1) _ _ _ _ _ _ _ _ _ _ _ _ _).trans (congrArg (fun a => outKl a (iblk m c 1 t) (iblk m c 4 t) (iblk m c 6 t)) (hacc d2 d3))
      unfold owns; iexists _; isplitr
      swap; · iexact H10
      ipureintro; exact (runC_tok_read c (grid0.coords t) _ _ _ _ _ _ _ _ _ _ _ _ _ _ _ _ _ _ _ _ _ _ _ _ _ _ _ _ _ _ (fun h => h0 ((hcond0_0 t).mp h)) ((hcond0_1 t).mpr h1) _ _ _ _ _ _ _ _ _ _ _ _ _).trans (congrArg (fun a => outTok a (iblk m c 1 t) (iblk m c 4 t)) (hacc d2 d3))
    · skip
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (win0_2.fill (grid0.coords t) d2 (iblk m c 2 t)) (win0_3.fill (grid0.coords t) d3 (iblk m c 3 t)) (iblk m c 4 t) (iblk m c 5 t) (iblk m c 6 t) _ _ _ _ ).2.2.2.2.2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, ⟨%es0, HS0⟩, HS1, HS2, HS3⟩
      isplitl [HS0 HS1 HS2 HS3 Hg]
      · isplitl [HS0 HS1 HS2 HS3]
        · isplitl [HS0]
          · unfold owns; iexists _; isplitr
            swap; · iexact HS0
            ipureintro; exact (runB_acc_read c (grid0.coords t) _ _ _ _ _ _ _ _ _ _ _ _ _ _ _ _ _ _ _ _ _ _ _ _ _ _ _ _ _ _ (fun h => h0 ((hcond0_0 t).mp h)) (fun h => h1 ((hcond0_1 t).mp h)) _ _ _ _ _ _ _ _ _ _ _ _ _).trans (hacc d2 d3)
          isplitl [HS1]
          · iexact HS1
          isplitl [HS2]
          · iexact HS2
          iexact HS3
        iexact Hg
      isplitl [Ho]; · iexact Ho
      isplitl [H0]; · iexact H0
      isplitl [H1]; · iexact H1
      isplitl [H2]; · iexists _; iexact H2
      isplitl [H3]; · iexists _; iexact H3
      isplitl [H4]; · iexact H4
      isplitl [H5]; · iexact H5
      isplitl [H6]; · iexact H6
      isplitl [H7]; · iexists _; iexact H7
      isplitl [H8]; · iexists _; iexact H8
      isplitl [H9]; · iexists _; iexact H9
      iexists _; iexact H10
end Cert.Kernel.Gen

end
-- ==== Proof.KernelFrame.lean ====
/- The kernel's launch and its frame. -/
module

public import proofs.«01_k».proof.Proof.KernelBody
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The rows inside the array are all the pipeline asks of the window. -/
theorem loose0_2 (c : Dev nD) (t : Fin cfg0.N) :
    iprop(∃ d, owns (c : Thread nD τ) (ms0_2 t) fullShare (win0_2.fill (grid0.coords t) d (iblk m c 2 t)))
      ⊢ ((dats m 0 c).leaves 2 t : sProp 𝕄) := by
  have e : win0_2.cut (grid0.coords t) (xin2 m c t) = iblk m c 2 t := win0_2.cut_fill _ _ _
  iintro ⟨%d, H⟩
  unfold Dat.leaves; rw [liveAt0_2 t]
  iexists d
  change _ ⊢ owns (c : Thread nD τ) (ms0_2 t) fullShare (win0_2.fill (grid0.coords t) d (win0_2.cut (grid0.coords t) (xin2 m c t)))
  rw [e]

/-- The rows inside the array are all the pipeline asks of the window. -/
theorem loose0_3 (c : Dev nD) (t : Fin cfg0.N) :
    iprop(∃ d, owns (c : Thread nD τ) (ms0_3 t) fullShare (win0_3.fill (grid0.coords t) d (iblk m c 3 t)))
      ⊢ ((dats m 0 c).leaves 3 t : sProp 𝕄) := by
  have e : win0_3.cut (grid0.coords t) (xin3 m c t) = iblk m c 3 t := win0_3.cut_fill _ _ _
  iintro ⟨%d, H⟩
  unfold Dat.leaves; rw [liveAt0_3 t]
  iexists d
  change _ ⊢ owns (c : Thread nD τ) (ms0_3 t) fullShare (win0_3.fill (grid0.coords t) d (win0_3.cut (grid0.coords t) (xin3 m c t)))
  rw [e]

/-- The obligation, stated by what each window's buffer is left at. -/
theorem loose_of_leaves {c : Dev nD} (dat : Dat τ (Elt F) Unit ℕ (UR sig nD τ) ℕ cfg0 c)
    (h : ∀ t : Fin cfg0.N, iprop(dat.Φ t.castSucc ∗ dat.owesAt () t.castSucc
        ∗ bigSep Finset.univ fun w : Fin cfg0.W => iprop(∃ d, owns (c : Thread nD τ) ((cfg0.win w).stage (cfg0.slots t w)) fullShare (dat.before w t d)))
      ⊢ wp frame (wpE (defs₀ (F := F)) Variants.none c none) Set.univ (defs₀ (F := F) .tc cfg0.body (cfg0.bodyArgs t (cfg0.slots t)))
        (fun _ => iprop(dat.Φ t.succ ∗ dat.owesAt () t.succ ∗ bigSep Finset.univ fun w : Fin cfg0.W => (dat.leaves w t : sProp 𝕄)))) :
    BodyObligationLoose dat (defs₀ (F := F)) Variants.none () Set.univ := h

/-- What the body returns is what the pipeline asks. -/
theorem bodyPost_leaves (c : Dev nD) (t : Fin cfg0.N) : bodyPost m c t ⊢ iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t) := by
  unfold bodyPost
  refine BIClass.sep_mono .rfl (BIClass.sep_mono .rfl ?_)
  refine BIClass.sep_mono ((dats m 0 c).leaves_intro 0 t) ?_
  refine BIClass.sep_mono ((dats m 0 c).leaves_intro 1 t) ?_
  refine BIClass.sep_mono (loose0_2 m c t) ?_
  refine BIClass.sep_mono (loose0_3 m c t) ?_
  refine BIClass.sep_mono ((dats m 0 c).leaves_intro 4 t) ?_
  refine BIClass.sep_mono ((dats m 0 c).leaves_intro 5 t) ?_
  refine BIClass.sep_mono ((dats m 0 c).leaves_intro 6 t) ?_
  refine BIClass.sep_mono ((dats m 0 c).leaves_intro 7 t) ?_
  refine BIClass.sep_mono ((dats m 0 c).leaves_intro 8 t) ?_
  refine BIClass.sep_mono ((dats m 0 c).leaves_intro 9 t) ?_
  exact (dats m 0 c).leaves_intro 10 t

/-- The library's body obligation, at every point. -/
theorem body_obligation (c : Dev nD) : BodyObligationLoose (dats (F := F) m 0 c) (defs₀ (F := F)) Variants.none () Set.univ :=
  loose_of_leaves (dats m 0 c) fun t => by
    rw [bigSep_W0, bigSep_W0, defs₀_row]
    refine triple_restated (sound_body m c t) rfl .rfl fun _ => ?_
    exact bodyPost_leaves m c t

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- The launch: every array and every other unscoped buffer at what the proof data and the host lines after the kernel
    give, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) (hQ' := fun _ h => h) cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every execution terminates, leaves the argument arrays as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel.Gen

end
-- ==== Proof.IdealRuns.lean ====
/- What the three body runs of the kernel share: its branch conditions in closed form over the grid points,
   where its output windows are idle, and the staging and scratch memory references the pipeline passes. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel

/-! ## The kernel body on any staging memrefs: a subtype the run finds -/

/-- One staging buffer of output window 7, through which its contents are stated (`View.read_writes_of_cover`: the
    choice does not matter). -/
abbrev VO0_7 : View sig .tc .vmem S4x800 .f32 := (Memref.whole cc0_stg7_0 : Memref sig .tc .vmem S4x800 .f32).view
/-- One staging buffer of output window 8, through which its contents are stated (`View.read_writes_of_cover`: the
    choice does not matter). -/
abbrev VO0_8 : View sig .tc .smem S4 .f32 := (Memref.whole cc0_stg8_0 : Memref sig .tc .smem S4 .f32).view
/-- One staging buffer of output window 9, through which its contents are stated (`View.read_writes_of_cover`: the
    choice does not matter). -/
abbrev VO0_9 : View sig .tc .smem S4 .f32 := (Memref.whole cc0_stg9_0 : Memref sig .tc .smem S4 .f32).view
/-- One staging buffer of output window 10, through which its contents are stated (`View.read_writes_of_cover`: the
    choice does not matter). -/
abbrev VO0_10 : View sig .tc .vmem S4x32x800 .f32 := (Memref.whole cc0_stg10_0 : Memref sig .tc .vmem S4x32x800 .f32).view
/-- Each window's current staging memref at point `t`, spelled as the pipeline passes it (`bodyAt0`), and its wholeness. -/
abbrev ms0_0 (t : Fin cfg0.N) : Memref sig .tc .vmem S4x32x96 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S40x96x800 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S40x800 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x800 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S4 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x200 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x800 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S4 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S4 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x32x800 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x800 .f32 := Memref.whole cc0_scratch0
abbrev scM0_1 : Memref sig .tc .vmem S96x800 .fp8e4m3 := Memref.whole cc0_scratch1
abbrev scM0_2 : Memref sig .tc .vmem S1x800 .f32 := Memref.whole cc0_scratch2
abbrev scM0_3 : Memref sig .tc .vmem S128x96 .fp8e4m3 := Memref.whole cc0_scratch3
/-- The scratch `arg12` the kernel carries between points, as a view: what it holds is stated through it. -/
abbrev VS0_0 : View sig .tc .vmem S128x800 .f32 := scM0_0.view
/-- The scratch `arg13` the kernel carries between points, as a view: what it holds is stated through it. -/
abbrev VS0_1 : View sig .tc .vmem S96x800 .fp8e4m3 := scM0_1.view
/-- The scratch `arg14` the kernel carries between points, as a view: what it holds is stated through it. -/
abbrev VS0_2 : View sig .tc .vmem S1x800 .f32 := scM0_2.view
/-- The scratch `arg15` the kernel carries between points, as a view: what it holds is stated through it. -/
abbrev VS0_3 : View sig .tc .vmem S128x96 .fp8e4m3 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.IdealRunA.lean ====
/- The whole-body run of the kernel at the first grid point (initialisation, then the running maximum):
   the pieces each buffer ends with are the witness the run finds. -/
module

public import proofs.«01_k».proof.Proof.IdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2780000 in
/-- What the body's stores leave in each output's staging memref, as pieces (last first) IN CASE A (`scf.if` 0 taken, `scf.if` 1 not taken: points 0), WITH the
    proof that on whole staging memrefs — the inputs' at their contents, the outputs it leaves idle (7, 8, 9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) :
    Σ' (L7 : List (View.Piece (Elt F) S4x800 .f32)), Σ' (L8 : List (View.Piece (Elt F) S4 .f32)), Σ' (L9 : List (View.Piece (Elt F) S4 .f32)), Σ' (L10 : List (View.Piece (Elt F) S4x32x800 .f32)), Σ' (LS0 : List (View.Piece (Elt F) S128x800 .f32)), Σ' (LS1 : List (View.Piece (Elt F) S96x800 .fp8e4m3)), Σ' (LS2 : List (View.Piece (Elt F) S1x800 .f32)), { LS3 : List (View.Piece (Elt F) S128x96 .fp8e4m3) //
      ∀ (xi7 : Vec F S4x800 .f32) (xi8 : Vec F S4 .f32) (xi9 : Vec F S4 .f32) (xi10 : Vec F S4x32x800 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xi10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_maxsim_kd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], [], [], ?_, ?_, ?_, ?_, fun xi7 xi8 xi9 xi10 E K => ?run⟩
  case run =>
    simp only [cc0_maxsim_kd_eq_skeleton]; unfold cc0_maxsim_kd_skel
    simp only [k0_part75_eq_skeleton, k0_part7_eq_skeleton, k0_part1_eq_skeleton, k0_part2_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    isplitl [HS1]; · iexists _; iexact HS1
    isplitl [HS2]; · iexists _; iexact HS2
    iexists _; iexact HS3

end Cert.KernelIdeal.Gen

end
-- ==== Proof.IdealRunB.lean ====
/- The whole-body run of the kernel at the middle grid points (the running maximum only):
   the pieces each buffer ends with are the witness the run finds. -/
module

public import proofs.«01_k».proof.Proof.IdealRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2652000 in
/-- What the body's stores leave in each output's staging memref, as pieces (last first) IN CASE B (`scf.if` 0 not taken, `scf.if` 1 not taken: points 1, 2, 3, 4, 5, 6), WITH the
    proof that on whole staging memrefs — the inputs' at their contents, the outputs it leaves idle (7, 8, 9, 10: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    Σ' (L7 : List (View.Piece (Elt F) S4x800 .f32)), Σ' (L8 : List (View.Piece (Elt F) S4 .f32)), Σ' (L9 : List (View.Piece (Elt F) S4 .f32)), Σ' (L10 : List (View.Piece (Elt F) S4x32x800 .f32)), Σ' (LS0 : List (View.Piece (Elt F) S128x800 .f32)), Σ' (LS1 : List (View.Piece (Elt F) S96x800 .fp8e4m3)), Σ' (LS2 : List (View.Piece (Elt F) S1x800 .f32)), { LS3 : List (View.Piece (Elt F) S128x96 .fp8e4m3) //
      ∀ (xi7 : Vec F S4x800 .f32) (xi8 : Vec F S4 .f32) (xi9 : Vec F S4 .f32) (xi10 : Vec F S4x32x800 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xi10 ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ owns (c : Thread nD τ) arg13 fullShare xs1 ∗ owns (c : Thread nD τ) arg14 fullShare xs2 ∗ owns (c : Thread nD τ) arg15 fullShare xs3) -∗ K ⟨⟩))
          ⊢ wp frame (wpE (defs₀ (F := F)) Variants.none c none) E (cc0_maxsim_kd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], [], [], ?_, [], [], [], fun xi7 xi8 xi9 xi10 E K => ?run⟩
  case run =>
    simp only [cc0_maxsim_kd_eq_skeleton]; unfold cc0_maxsim_kd_skel
    simp only [k0_part75_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1; obtain rfl := harg14.eq_unread hfs2; obtain rfl := harg15.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    isplitl [HS1]
    · iexists _; isplitr; · ipureintro; exact harg13.read_unread _
      iexact HS1
    isplitl [HS2]
    · iexists _; isplitr; · ipureintro; exact harg14.read_unread _
      iexact HS2
    iexists _; isplitr; · ipureintro; exact harg15.read_unread _
    iexact HS3

end Cert.KernelIdeal.Gen

end
-- ==== Proof.IdealRunC.lean ====
/- The whole-body run of the kernel at the last grid point (the running maximum, then the losses):
   the pieces each buffer ends with are the witness the run finds. -/
module

public import proofs.«01_k».proof.Proof.IdealRunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2928000 in
/-- What the body's stores leave in each output's staging memref, as pieces (last first) IN CASE C (`scf.if` 0 not taken, `scf.if` 1 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    Σ' (L7 : List (View.Piece (Elt F) S4x800 .f32)), Σ' (L8 : List (View.Piece (Elt F) S4 .f32)), Σ' (L9 : List (View.Piece (Elt F) S4 .f32)), Σ' (L10 : List (View.Piece (Elt F) S4x32x800 .f32)), Σ' (LS0 : List (View.Piece (Elt F) S128x800 .f32)), Σ' (LS1 : List (View.Piece (Elt F) S96x800 .fp8e4m3)), Σ' (LS2 : List (View.Piece (Elt F) S1x800 .f32)), { LS3 : List (View.Piece (Elt F) S128x96 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ owns (c : Thread nD τ) arg13 fullShare xs1 ∗ owns (c : Thread nD τ) arg14 fullShare xs2 ∗ owns (c : Thread nD τ) arg15 fullShare xs3) -∗ K ⟨⟩))
          ⊢ wp frame (wpE (defs₀ (F := F)) Variants.none c none) E (cc0_maxsim_kd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, [], [], [], fun E K => ?run⟩
  case run =>
    simp only [cc0_maxsim_kd_eq_skeleton]; unfold cc0_maxsim_kd_skel
    simp only [k0_part75_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs0; obtain rfl := harg13.eq_unread hfs1; obtain rfl := harg14.eq_unread hfs2; obtain rfl := harg15.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]
    · iexists _; isplitr; · ipureintro; exact harg13.read_unread _
      iexact HS1
    isplitl [HS2]
    · iexists _; isplitr; · ipureintro; exact harg14.read_unread _
      iexact HS2
    iexists _; isplitr; · ipureintro; exact harg15.read_unread _
    iexact HS3

end Cert.KernelIdeal.Gen

end
-- ==== Proof.IdealFold.lean ====
/- One grid point's running maximum, written as a fold over the forty rows of its block: the lists of stores the
   whole-body runs find hold the same values, unrolled. -/
module

public import proofs.«01_k».proof.Proof.IdealRunC

@[expose] public section

set_option maxRecDepth 16384

noncomputable section

namespace Cert.KernelIdeal.Gen

open Idealize.ShloMosaic Idealize.ShloMosaic.TcCoe Idealize.ShloMosaic.Tactic
open Idealize.ShloMosaic.Rounds

variable {F : FTy → Type} [FloatOps F]

/-- The position of row `n` of the block at grid point `i`. -/
def rowAt (i : grid0.Coords) (n : ℕ) : BitVec 32 := Scalar.addi (Scalar.muli (BitVec.ofNat 32 (i 0).val) 40#32) (BitVec.ofNat 32 n)

/-- A load from a whole memref held at the contents that read `X` is `X` at the load's places. -/
theorem ld_unread {κ : Kind} {sp : Space} {s : Shape} {e : EltTy} {m : Memref sig κ sp s e} (h : m.IsWhole)
    (X : s.Idx → Elt F e) (B : LoadRect s) :
    View.readAt (Elt F) m.view B (h.unread X) = fun y => X (B.idx y) :=
  funext fun _ => congrFun (h.read_unread X) _

/-- The documents' effective lengths, a chunk of 256 columns. -/
def lim256 (len : Vec F S1x256 .i32) : IVec S1x256 32 :=
  minsi (shapeCast S1x256 len shapeCasts_S1x256_S1x256) (broadcast S1x256 300#32)

/-- Which of a chunk's 256 documents have a token at position `b`. -/
def valid256 (len : Vec F S1x256 .i32) (b : BitVec 32) : IVec S1x256 1 :=
  cmpi .slt (broadcast S1x256 b) (lim256 len)

/-- The codes row `b` multiplies by: the row's own where the document has a token there, else position 0's. -/
def codes256 (len : Vec F S1x256 .i32) (d0 : Vec F S96x256 .fp8e4m3) (b : BitVec 32) (dj : Vec F S1x96x256 .fp8e4m3) :
    FVec F S96x256 .fp8e4m3 :=
  select (broadcastTo S96x256 (shapeCast S1x256 (valid256 len b) shapeCasts_S1x256_S1x256) broadcasts_S1x256_S96x256)
    (shapeCast S96x256 dj shapeCasts_S1x96x256_S96x256) d0

/-- The scales row `b` multiplies by, chosen the same way. -/
def scales256 (len : Vec F S1x256 .i32) (s0 : Vec F S1x256 .f32) (b : BitVec 32) (sj : Vec F S1x256 .f32) : FVec F S1x256 .f32 :=
  select (valid256 len b) (shapeCast S1x256 sj shapeCasts_S1x256_S1x256) s0

/-- One row of the running maximum, a chunk of 256 columns. -/
def rowStep256 (q : Vec F S128x96 .fp8e4m3) (len : Vec F S1x256 .i32) (s0 : Vec F S1x256 .f32) (d0 : Vec F S96x256 .fp8e4m3)
    (acc : FVec F S128x256 .f32) (b : BitVec 32) (dj : Vec F S1x96x256 .fp8e4m3) (sj : Vec F S1x256 .f32) : FVec F S128x256 .f32 :=
  maximumf acc
    (mulf (matmul dot_S128x96_S96x256_S128x256_1_0_0_1_n_n none q (codes256 len d0 b dj) (constant S128x256 .f32 0x00000000#32))
      (broadcastTo S128x256 (scales256 len s0 b sj) broadcasts_S1x256_S128x256))

/-- The running maximum after the first `n` rows of the block. -/
def rows256 (i : grid0.Coords) (q : Vec F S128x96 .fp8e4m3) (len : Vec F S1x256 .i32) (s0 : Vec F S1x256 .f32)
    (d0 : Vec F S96x256 .fp8e4m3) (D : ℕ → Vec F S1x96x256 .fp8e4m3) (S : ℕ → Vec F S1x256 .f32) (acc : FVec F S128x256 .f32) :
    ℕ → FVec F S128x256 .f32
  | 0 => acc
  | n + 1 => rowStep256 q len s0 d0 (rows256 i q len s0 d0 D S acc n) (rowAt i n) (D n) (S n)

/-- What a grid point stores for a chunk of 256 columns. -/
def chunk256 (i : grid0.Coords) (q : Vec F S128x96 .fp8e4m3) (len : Vec F S1x256 .i32) (s0 : Vec F S1x256 .f32)
    (d0 : Vec F S96x256 .fp8e4m3) (D : ℕ → Vec F S1x96x256 .fp8e4m3) (S : ℕ → Vec F S1x256 .f32) (acc : FVec F S128x256 .f32) :
    FVec F S128x256 .f32 :=
  shapeCast S128x256 (rows256 i q len s0 d0 D S acc 40) shapeCasts_S128x256_S128x256

/-- Row `n` of a block of codes, 256 columns from column `o`. -/
def ldD256 (x : Vec F S40x96x800 .fp8e4m3) (o : ℕ) (ho : o + 256 ≤ 800) (n : ℕ) : Vec F S1x96x256 .fp8e4m3 :=
  fun y => x ((Rect.unit (s := S40x96x800) ![n % 40, 0, o] S1x96x256.size (by
    intro a
    match a with
    | 0 => exact Nat.mod_lt n (by decide)
    | 1 => exact Nat.le_refl _
    | 2 => exact ho)).toLoadRect.idx y)

/-- The same row, as a load from the memref that holds the block. -/
def mD256 {κ : Kind} {sp : Space} {m : Memref sig κ sp S40x96x800 .fp8e4m3} (h : m.IsWhole) (x : Vec F S40x96x800 .fp8e4m3) (o : ℕ)
    (ho : o + 256 ≤ 800) (n : ℕ) : Vec F S1x96x256 .fp8e4m3 :=
  View.readAt (Elt F) m.view (Rect.unit (s := S40x96x800) ![n % 40, 0, o] S1x96x256.size (by
    intro a
    match a with
    | 0 => exact Nat.mod_lt n (by decide)
    | 1 => exact Nat.le_refl _
    | 2 => exact ho)).toLoadRect (h.unread x)

theorem mD256_eq {κ : Kind} {sp : Space} {m : Memref sig κ sp S40x96x800 .fp8e4m3} (h : m.IsWhole) (x : Vec F S40x96x800 .fp8e4m3)
    (o : ℕ) (ho : o + 256 ≤ 800) : mD256 h x o ho = ldD256 x o ho :=
  funext fun _ => ld_unread h x _

/-- Row `n` of a block of scales, 256 columns from column `o`. -/
def ldS256 (x : Vec F S40x800 .f32) (o : ℕ) (ho : o + 256 ≤ 800) (n : ℕ) : Vec F S1x256 .f32 :=
  fun y => x ((Rect.unit (s := S40x800) ![n % 40, o] S1x256.size (by
    intro a
    match a with
    | 0 => exact Nat.mod_lt n (by decide)
    | 1 => exact ho)).toLoadRect.idx y)

/-- The same row, as a load from the memref that holds the block. -/
def mS256 {κ : Kind} {sp : Space} {m : Memref sig κ sp S40x800 .f32} (h : m.IsWhole) (x : Vec F S40x800 .f32) (o : ℕ)
    (ho : o + 256 ≤ 800) (n : ℕ) : Vec F S1x256 .f32 :=
  View.readAt (Elt F) m.view (Rect.unit (s := S40x800) ![n % 40, o] S1x256.size (by
    intro a
    match a with
    | 0 => exact Nat.mod_lt n (by decide)
    | 1 => exact ho)).toLoadRect (h.unread x)

theorem mS256_eq {κ : Kind} {sp : Space} {m : Memref sig κ sp S40x800 .f32} (h : m.IsWhole) (x : Vec F S40x800 .f32)
    (o : ℕ) (ho : o + 256 ≤ 800) : mS256 h x o ho = ldS256 x o ho :=
  funext fun _ => ld_unread h x _

/-- The documents' effective lengths, a chunk of 32 columns. -/
def lim32 (len : Vec F S1x32 .i32) : IVec S1x32 32 :=
  minsi (shapeCast S1x32 len shapeCasts_S1x32_S1x32) (broadcast S1x32 300#32)

/-- Which of a chunk's 32 documents have a token at position `b`. -/
def valid32 (len : Vec F S1x32 .i32) (b : BitVec 32) : IVec S1x32 1 :=
  cmpi .slt (broadcast S1x32 b) (lim32 len)

/-- The codes row `b` multiplies by: the row's own where the document has a token there, else position 0's. -/
def codes32 (len : Vec F S1x32 .i32) (d0 : Vec F S96x32 .fp8e4m3) (b : BitVec 32) (dj : Vec F S1x96x32 .fp8e4m3) :
    FVec F S96x32 .fp8e4m3 :=
  select (broadcastTo S96x32 (shapeCast S1x32 (valid32 len b) shapeCasts_S1x32_S1x32) broadcasts_S1x32_S96x32)
    (shapeCast S96x32 dj shapeCasts_S1x96x32_S96x32) d0

/-- The scales row `b` multiplies by, chosen the same way. -/
def scales32 (len : Vec F S1x32 .i32) (s0 : Vec F S1x32 .f32) (b : BitVec 32) (sj : Vec F S1x32 .f32) : FVec F S1x32 .f32 :=
  select (valid32 len b) (shapeCast S1x32 sj shapeCasts_S1x32_S1x32) s0

/-- One row of the running maximum, a chunk of 32 columns. -/
def rowStep32 (q : Vec F S128x96 .fp8e4m3) (len : Vec F S1x32 .i32) (s0 : Vec F S1x32 .f32) (d0 : Vec F S96x32 .fp8e4m3)
    (acc : FVec F S128x32 .f32) (b : BitVec 32) (dj : Vec F S1x96x32 .fp8e4m3) (sj : Vec F S1x32 .f32) : FVec F S128x32 .f32 :=
  maximumf acc
    (mulf (matmul dot_S128x96_S96x32_S128x32_1_0_0_1_n_n none q (codes32 len d0 b dj) (constant S128x32 .f32 0x00000000#32))
      (broadcastTo S128x32 (scales32 len s0 b sj) broadcasts_S1x32_S128x32))

/-- The running maximum after the first `n` rows of the block. -/
def rows32 (i : grid0.Coords) (q : Vec F S128x96 .fp8e4m3) (len : Vec F S1x32 .i32) (s0 : Vec F S1x32 .f32)
    (d0 : Vec F S96x32 .fp8e4m3) (D : ℕ → Vec F S1x96x32 .fp8e4m3) (S : ℕ → Vec F S1x32 .f32) (acc : FVec F S128x32 .f32) :
    ℕ → FVec F S128x32 .f32
  | 0 => acc
  | n + 1 => rowStep32 q len s0 d0 (rows32 i q len s0 d0 D S acc n) (rowAt i n) (D n) (S n)

/-- What a grid point stores for a chunk of 32 columns. -/
def chunk32 (i : grid0.Coords) (q : Vec F S128x96 .fp8e4m3) (len : Vec F S1x32 .i32) (s0 : Vec F S1x32 .f32)
    (d0 : Vec F S96x32 .fp8e4m3) (D : ℕ → Vec F S1x96x32 .fp8e4m3) (S : ℕ → Vec F S1x32 .f32) (acc : FVec F S128x32 .f32) :
    FVec F S128x32 .f32 :=
  shapeCast S128x32 (rows32 i q len s0 d0 D S acc 40) shapeCasts_S128x32_S128x32

/-- Row `n` of a block of codes, 32 columns from column `o`. -/
def ldD32 (x : Vec F S40x96x800 .fp8e4m3) (o : ℕ) (ho : o + 32 ≤ 800) (n : ℕ) : Vec F S1x96x32 .fp8e4m3 :=
  fun y => x ((Rect.unit (s := S40x96x800) ![n % 40, 0, o] S1x96x32.size (by
    intro a
    match a with
    | 0 => exact Nat.mod_lt n (by decide)
    | 1 => exact Nat.le_refl _
    | 2 => exact ho)).toLoadRect.idx y)

/-- The same row, as a load from the memref that holds the block. -/
def mD32 {κ : Kind} {sp : Space} {m : Memref sig κ sp S40x96x800 .fp8e4m3} (h : m.IsWhole) (x : Vec F S40x96x800 .fp8e4m3) (o : ℕ)
    (ho : o + 32 ≤ 800) (n : ℕ) : Vec F S1x96x32 .fp8e4m3 :=
  View.readAt (Elt F) m.view (Rect.unit (s := S40x96x800) ![n % 40, 0, o] S1x96x32.size (by
    intro a
    match a with
    | 0 => exact Nat.mod_lt n (by decide)
    | 1 => exact Nat.le_refl _
    | 2 => exact ho)).toLoadRect (h.unread x)

theorem mD32_eq {κ : Kind} {sp : Space} {m : Memref sig κ sp S40x96x800 .fp8e4m3} (h : m.IsWhole) (x : Vec F S40x96x800 .fp8e4m3)
    (o : ℕ) (ho : o + 32 ≤ 800) : mD32 h x o ho = ldD32 x o ho :=
  funext fun _ => ld_unread h x _

/-- Row `n` of a block of scales, 32 columns from column `o`. -/
def ldS32 (x : Vec F S40x800 .f32) (o : ℕ) (ho : o + 32 ≤ 800) (n : ℕ) : Vec F S1x32 .f32 :=
  fun y => x ((Rect.unit (s := S40x800) ![n % 40, o] S1x32.size (by
    intro a
    match a with
    | 0 => exact Nat.mod_lt n (by decide)
    | 1 => exact ho)).toLoadRect.idx y)

/-- The same row, as a load from the memref that holds the block. -/
def mS32 {κ : Kind} {sp : Space} {m : Memref sig κ sp S40x800 .f32} (h : m.IsWhole) (x : Vec F S40x800 .f32) (o : ℕ)
    (ho : o + 32 ≤ 800) (n : ℕ) : Vec F S1x32 .f32 :=
  View.readAt (Elt F) m.view (Rect.unit (s := S40x800) ![n % 40, o] S1x32.size (by
    intro a
    match a with
    | 0 => exact Nat.mod_lt n (by decide)
    | 1 => exact ho)).toLoadRect (h.unread x)

theorem mS32_eq {κ : Kind} {sp : Space} {m : Memref sig κ sp S40x800 .f32} (h : m.IsWhole) (x : Vec F S40x800 .f32)
    (o : ℕ) (ho : o + 32 ≤ 800) : mS32 h x o ho = ldS32 x o ho :=
  funext fun _ => ld_unread h x _

/-- The stores of one grid point's running maximum, last first. -/
def stepPieces (i : grid0.Coords) (q : Vec F S128x96 .fp8e4m3) (len : Vec F S1x800 .i32) (s0 : Vec F S1x800 .f32)
    (d0 : Vec F S96x800 .fp8e4m3) (x2 : Vec F S40x96x800 .fp8e4m3) (x3 : Vec F S40x800 .f32) (acc : Vec F S128x800 .f32) :
    List (View.Piece (Elt F) S128x800 .f32) :=
  [⟨Rect.unit ![0, 768] ![128, 32] inb_S128x800_S128x32_0_768,
      chunk32 i q (View.ld len (Rect.unit (s := S1x800) ![0, 768] S1x32.size inb_S1x800_S1x32_0_768)) (View.ld s0 (Rect.unit (s := S1x800) ![0, 768] S1x32.size inb_S1x800_S1x32_0_768))
        (View.ld d0 (Rect.unit (s := S96x800) ![0, 768] S96x32.size inb_S96x800_S96x32_0_768)) (ldD32 x2 768 (by decide)) (ldS32 x3 768 (by decide))
        (View.ld acc (Rect.unit (s := S128x800) ![0, 768] S128x32.size inb_S128x800_S128x32_0_768))⟩,
    ⟨Rect.unit ![0, 512] S128x256.size inb_S128x800_S128x256_0_512,
      chunk256 i q (View.ld len (Rect.unit (s := S1x800) ![0, 512] S1x256.size inb_S1x800_S1x256_0_512)) (View.ld s0 (Rect.unit (s := S1x800) ![0, 512] S1x256.size inb_S1x800_S1x256_0_512))
        (View.ld d0 (Rect.unit (s := S96x800) ![0, 512] S96x256.size inb_S96x800_S96x256_0_512)) (ldD256 x2 512 (by decide)) (ldS256 x3 512 (by decide))
        (View.ld acc (Rect.unit (s := S128x800) ![0, 512] S128x256.size inb_S128x800_S128x256_0_512))⟩,
    ⟨Rect.unit ![0, 256] S128x256.size inb_S128x800_S128x256_0_256,
      chunk256 i q (View.ld len (Rect.unit (s := S1x800) ![0, 256] S1x256.size inb_S1x800_S1x256_0_256)) (View.ld s0 (Rect.unit (s := S1x800) ![0, 256] S1x256.size inb_S1x800_S1x256_0_256))
        (View.ld d0 (Rect.unit (s := S96x800) ![0, 256] S96x256.size inb_S96x800_S96x256_0_256)) (ldD256 x2 256 (by decide)) (ldS256 x3 256 (by decide))
        (View.ld acc (Rect.unit (s := S128x800) ![0, 256] S128x256.size inb_S128x800_S128x256_0_256))⟩,
    ⟨Rect.unit ![0, 0] S128x256.size inb_S128x800_S128x256_0_0,
      chunk256 i q (View.ld len (Rect.unit (s := S1x800) ![0, 0] S1x256.size inb_S1x800_S1x256_0_0)) (View.ld s0 (Rect.unit (s := S1x800) ![0, 0] S1x256.size inb_S1x800_S1x256_0_0))
        (View.ld d0 (Rect.unit (s := S96x800) ![0, 0] S96x256.size inb_S96x800_S96x256_0_0)) (ldD256 x2 0 (by decide)) (ldS256 x3 0 (by decide))
        (View.ld acc (Rect.unit (s := S128x800) ![0, 0] S128x256.size inb_S128x800_S128x256_0_0))⟩]

/-- The running maximum a grid point leaves: from the queries' codes `q`, the lengths, position 0's scales and codes,
    the point's blocks of codes and scales, and the running maximum before. -/
def accStep (i : grid0.Coords) (q : Vec F S128x96 .fp8e4m3) (len : Vec F S1x800 .i32) (s0 : Vec F S1x800 .f32)
    (d0 : Vec F S96x800 .fp8e4m3) (x2 : Vec F S40x96x800 .fp8e4m3) (x3 : Vec F S40x800 .f32) (acc : Vec F S128x800 .f32) :
    Vec F S128x800 .f32 :=
  View.canon (stepPieces i q len s0 d0 x2 x3 acc)

/-- The first point's store of position 0's codes. -/
def d0Pieces (r : Vec F S1x96x800 .fp8e4m3) : List (View.Piece (Elt F) S96x800 .fp8e4m3) :=
  [⟨Rect.unit ![0, 0] S96x800.size inb_S96x800_S96x800_0_0, k0_pay8 r⟩]

/-- Position 0's codes, as the first point keeps them. -/
def d0Init (x2 : Vec F S40x96x800 .fp8e4m3) : Vec F S96x800 .fp8e4m3 :=
  View.canon (d0Pieces (View.ld x2 (Rect.unit (s := S40x96x800) ![0, 0, 0] S1x96x800.size inb_S40x96x800_S1x96x800_0_0_0)))

/-- The first point's store of position 0's scales. -/
def s0Pieces (r : Vec F S1x800 .f32) : List (View.Piece (Elt F) S1x800 .f32) :=
  [⟨Rect.unit ![0, 0] S1x800.size inb_S1x800_S1x800_0_0, k0_pay9 r⟩]

/-- Position 0's scales, as the first point keeps them. -/
def s0Init (x3 : Vec F S40x800 .f32) : Vec F S1x800 .f32 :=
  View.canon (s0Pieces (View.ld x3 (Rect.unit (s := S40x800) ![0, 0] S1x800.size inb_S40x800_S1x800_0_0)))

/-- The first point's fill of the running maximum. -/
def accPieces : List (View.Piece (Elt F) S128x800 .f32) :=
  [⟨Rect.unit ![0, 0] S128x800.size inb_S128x800_S128x800_0_0, k0_pay10⟩]

/-- The running maximum before the first row. -/
def accInit : Vec F S128x800 .f32 := View.canon accPieces

/-- The first point's stores of the queries' codes, each times its scale's sign, last first: `q0 b` is query `b`'s
    codes, `qs` the scales. -/
def qPieces (q0 : Fin 4 → Vec F S1x32x96 .fp8e4m3) (qs : Vec F S4x32 .f32) : List (View.Piece (Elt F) S128x96 .fp8e4m3) :=
  [⟨Rect.unit ![96, 0] S32x96.size inb_S128x96_S32x96_96_0, k0_pay44 (k0_pay17 (k0_pay11 qs)) (k0_pay18 (q0 3))⟩,
   ⟨Rect.unit ![64, 0] S32x96.size inb_S128x96_S32x96_64_0, k0_pay16 (k0_pay11 qs) (q0 2)⟩,
   ⟨Rect.unit ![32, 0] S32x96.size inb_S128x96_S32x96_32_0, k0_pay15 (k0_pay13 qs) k0_pay14 (q0 1)⟩,
   ⟨Rect.unit ![0, 0] S32x96.size inb_S128x96_S32x96_0_0, k0_pay12 qs (q0 0)⟩]

/-- Query `b`'s codes in the block of all of them. -/
def qRow (x0 : Vec F S4x32x96 .fp8e4m3) : Fin 4 → Vec F S1x32x96 .fp8e4m3 :=
  ![(View.ld x0 (Rect.unit (s := S4x32x96) ![0, 0, 0] S1x32x96.size inb_S4x32x96_S1x32x96_0_0_0)), (View.ld x0 (Rect.unit (s := S4x32x96) ![1, 0, 0] S1x32x96.size inb_S4x32x96_S1x32x96_1_0_0)),
    (View.ld x0 (Rect.unit (s := S4x32x96) ![2, 0, 0] S1x32x96.size inb_S4x32x96_S1x32x96_2_0_0)), (View.ld x0 (Rect.unit (s := S4x32x96) ![3, 0, 0] S1x32x96.size inb_S4x32x96_S1x32x96_3_0_0))]

/-- The queries' codes as the first point keeps them. -/
def qInit (x0 : Vec F S4x32x96 .fp8e4m3) (x1 : Vec F S4x32 .f32) : Vec F S128x96 .fp8e4m3 :=
  View.canon (qPieces (qRow x0) (View.ld x1 (Rect.unit (s := S4x32) ![0, 0] S4x32.size inb_S4x32_S4x32_0_0)))

/-- The scores the last point computes from the running maximum, the queries' scales and the lengths. -/
def scoresV (acc : Vec F S128x800 .f32) (qs : Vec F S4x32 .f32) (len : Vec F S1x800 .i32) : FVec F S4x800 .f32 :=
  k0_pay32 acc (k0_pay19 qs) (k0_pay20 len) (k0_pay23 acc len qs) (k0_pay26 acc len qs) (k0_pay27 acc qs) (FloatOps.ofBits .f32 0xFF800000#32)

/-- The cross-entropy of the positive documents, from the scores and the positive documents' places. -/
def ceV (s : FVec F S4x800 .f32) (p : Fin 4 → BitVec 32) : FVec F S4x1 .f32 :=
  k0_pay36 s (iota .tc S4x800 32 [1] iota_S4x800_d1_w32) (iota .tc S4x1 32 [0] iota_S4x1_d0_w32) k0_pay34 k0_pay35 (p 0) (p 1) (p 2) (p 3)

/-- The divergence from the teacher's distribution, from the scores and the teacher's logits. -/
def klV (s : FVec F S4x800 .f32) (te : Vec F S4x200 .f32) : FVec F S4x1 .f32 :=
  k0_pay39 s k0_pay33 te (k0_pay37 te) (k0_pay38 te)

/-- The loss: the two summed. -/
def lossV (s : FVec F S4x800 .f32) (p : Fin 4 → BitVec 32) (te : Vec F S4x200 .f32) : FVec F S4x1 .f32 :=
  k0_pay40 s k0_pay33 (ceV s p) te (k0_pay37 te) (k0_pay38 te)

/-- The last point's store of the scores. -/
def scorePieces (s : FVec F S4x800 .f32) : List (View.Piece (Elt F) S4x800 .f32) :=
  [⟨Rect.unit ![0, 0] S4x800.size inb_S4x800_S4x800_0_0, s⟩]

/-- The last point's stores of the losses, last first. -/
def lossPieces (s : FVec F S4x800 .f32) (p : Fin 4 → BitVec 32) (te : Vec F S4x200 .f32) : List (View.Piece (Elt F) S4 .f32) :=
  [⟨Rect.unit ![3] ![1] inb_S4_S1_3, fun _ => k0_pay7 (lossV s p te)⟩, ⟨Rect.unit ![2] ![1] inb_S4_S1_2, fun _ => k0_pay5 (lossV s p te)⟩,
   ⟨Rect.unit ![1] ![1] inb_S4_S1_1, fun _ => k0_pay3 (lossV s p te)⟩,
   ⟨Rect.unit ![0] S1.size inb_S4_S1_0, fun _ => k0_pay42 s k0_pay33 (ceV s p) te (k0_pay37 te) (k0_pay38 te)⟩]

/-- The last point's stores of the divergences, last first. -/
def klPieces (s : FVec F S4x800 .f32) (te : Vec F S4x200 .f32) : List (View.Piece (Elt F) S4 .f32) :=
  [⟨Rect.unit ![3] ![1] inb_S4_S1_3, fun _ => k0_pay6 (klV s te)⟩, ⟨Rect.unit ![2] ![1] inb_S4_S1_2, fun _ => k0_pay4 (klV s te)⟩,
   ⟨Rect.unit ![1] ![1] inb_S4_S1_1, fun _ => k0_pay2 (k0_pay43 s k0_pay33 te (k0_pay37 te) (k0_pay38 te))⟩,
   ⟨Rect.unit ![0] S1.size inb_S4_S1_0, fun _ => k0_pay41 s k0_pay33 te (k0_pay37 te) (k0_pay38 te)⟩]

/-- The last point's stores of the maxima, last first. -/
def tokPieces (acc : Vec F S128x800 .f32) (qs : Vec F S4x32 .f32) (len : Vec F S1x800 .i32) : List (View.Piece (Elt F) S4x32x800 .f32) :=
  [⟨Rect.unit ![3, 0, 0] S1x32x800.size inb_S4x32x800_S1x32x800_3_0_0, k0_pay31 acc (k0_pay19 qs) (k0_pay20 len)⟩,
   ⟨Rect.unit ![2, 0, 0] S1x32x800.size inb_S4x32x800_S1x32x800_2_0_0, k0_pay29 (k0_pay20 len) (k0_pay27 acc qs) (FloatOps.ofBits .f32 0xFF800000#32)⟩,
   ⟨Rect.unit ![1, 0, 0] S1x32x800.size inb_S4x32x800_S1x32x800_1_0_0, k0_pay25 acc len qs⟩,
   ⟨Rect.unit ![0, 0, 0] S1x32x800.size inb_S4x32x800_S1x32x800_0_0_0, k0_pay22 acc len qs⟩]

theorem runB_acc (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 = stepPieces i (View.ld xs3 (Rect.unit (s := S128x96) ![0, 0] S128x96.size inb_S128x96_S128x96_0_0)) x4 xs2 xs1 x2 x3 xs0 := by
  have e : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 =
    [⟨Rect.unit ![0, 768] ![128, 32] inb_S128x800_S128x32_0_768,
      chunk32 i (View.readAt (Elt F) arg15.view (Rect.unit (s := S128x96) ![0, 0] S128x96.size inb_S128x96_S128x96_0_0).toLoadRect (harg15.unread xs3)) (View.readAt (Elt F) arg5.view (Rect.unit (s := S1x800) ![0, 768] S1x32.size inb_S1x800_S1x32_0_768).toLoadRect (harg5.unread x4)) (View.readAt (Elt F) arg14.view (Rect.unit (s := S1x800) ![0, 768] S1x32.size inb_S1x800_S1x32_0_768).toLoadRect (harg14.unread xs2))
        (View.readAt (Elt F) arg13.view (Rect.unit (s := S96x800) ![0, 768] S96x32.size inb_S96x800_S96x32_0_768).toLoadRect (harg13.unread xs1)) (mD32 harg3 x2 768 (by decide)) (mS32 harg4 x3 768 (by decide))
        (View.readAt (Elt F) arg12.view (Rect.unit (s := S128x800) ![0, 768] S128x32.size inb_S128x800_S128x32_0_768).toLoadRect (harg12.unread xs0))⟩,
    ⟨Rect.unit ![0, 512] S128x256.size inb_S128x800_S128x256_0_512,
      chunk256 i (View.readAt (Elt F) arg15.view (Rect.unit (s := S128x96) ![0, 0] S128x96.size inb_S128x96_S128x96_0_0).toLoadRect (harg15.unread xs3)) (View.readAt (Elt F) arg5.view (Rect.unit (s := S1x800) ![0, 512] S1x256.size inb_S1x800_S1x256_0_512).toLoadRect (harg5.unread x4)) (View.readAt (Elt F) arg14.view (Rect.unit (s := S1x800) ![0, 512] S1x256.size inb_S1x800_S1x256_0_512).toLoadRect (harg14.unread xs2))
        (View.readAt (Elt F) arg13.view (Rect.unit (s := S96x800) ![0, 512] S96x256.size inb_S96x800_S96x256_0_512).toLoadRect (harg13.unread xs1)) (mD256 harg3 x2 512 (by decide)) (mS256 harg4 x3 512 (by decide))
        (View.readAt (Elt F) arg12.view (Rect.unit (s := S128x800) ![0, 512] S128x256.size inb_S128x800_S128x256_0_512).toLoadRect (harg12.unread xs0))⟩,
    ⟨Rect.unit ![0, 256] S128x256.size inb_S128x800_S128x256_0_256,
      chunk256 i (View.readAt (Elt F) arg15.view (Rect.unit (s := S128x96) ![0, 0] S128x96.size inb_S128x96_S128x96_0_0).toLoadRect (harg15.unread xs3)) (View.readAt (Elt F) arg5.view (Rect.unit (s := S1x800) ![0, 256] S1x256.size inb_S1x800_S1x256_0_256).toLoadRect (harg5.unread x4)) (View.readAt (Elt F) arg14.view (Rect.unit (s := S1x800) ![0, 256] S1x256.size inb_S1x800_S1x256_0_256).toLoadRect (harg14.unread xs2))
        (View.readAt (Elt F) arg13.view (Rect.unit (s := S96x800) ![0, 256] S96x256.size inb_S96x800_S96x256_0_256).toLoadRect (harg13.unread xs1)) (mD256 harg3 x2 256 (by decide)) (mS256 harg4 x3 256 (by decide))
        (View.readAt (Elt F) arg12.view (Rect.unit (s := S128x800) ![0, 256] S128x256.size inb_S128x800_S128x256_0_256).toLoadRect (harg12.unread xs0))⟩,
    ⟨Rect.unit ![0, 0] S128x256.size inb_S128x800_S128x256_0_0,
      chunk256 i (View.readAt (Elt F) arg15.view (Rect.unit (s := S128x96) ![0, 0] S128x96.size inb_S128x96_S128x96_0_0).toLoadRect (harg15.unread xs3)) (View.readAt (Elt F) arg5.view (Rect.unit (s := S1x800) ![0, 0] S1x256.size inb_S1x800_S1x256_0_0).toLoadRect (harg5.unread x4)) (View.readAt (Elt F) arg14.view (Rect.unit (s := S1x800) ![0, 0] S1x256.size inb_S1x800_S1x256_0_0).toLoadRect (harg14.unread xs2))
        (View.readAt (Elt F) arg13.view (Rect.unit (s := S96x800) ![0, 0] S96x256.size inb_S96x800_S96x256_0_0).toLoadRect (harg13.unread xs1)) (mD256 harg3 x2 0 (by decide)) (mS256 harg4 x3 0 (by decide))
        (View.readAt (Elt F) arg12.view (Rect.unit (s := S128x800) ![0, 0] S128x256.size inb_S128x800_S128x256_0_0).toLoadRect (harg12.unread xs0))⟩] := rfl
  rw [e]; simp only [ld_unread, mD256_eq, mD32_eq, mS256_eq, mS32_eq]; rfl

theorem runC_acc (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 = stepPieces i (View.ld xs3 (Rect.unit (s := S128x96) ![0, 0] S128x96.size inb_S128x96_S128x96_0_0)) x4 xs2 xs1 x2 x3 xs0 := by
  have e : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 =
    [⟨Rect.unit ![0, 768] ![128, 32] inb_S128x800_S128x32_0_768,
      chunk32 i (View.readAt (Elt F) arg15.view (Rect.unit (s := S128x96) ![0, 0] S128x96.size inb_S128x96_S128x96_0_0).toLoadRect (harg15.unread xs3)) (View.readAt (Elt F) arg5.view (Rect.unit (s := S1x800) ![0, 768] S1x32.size inb_S1x800_S1x32_0_768).toLoadRect (harg5.unread x4)) (View.readAt (Elt F) arg14.view (Rect.unit (s := S1x800) ![0, 768] S1x32.size inb_S1x800_S1x32_0_768).toLoadRect (harg14.unread xs2))
        (View.readAt (Elt F) arg13.view (Rect.unit (s := S96x800) ![0, 768] S96x32.size inb_S96x800_S96x32_0_768).toLoadRect (harg13.unread xs1)) (mD32 harg3 x2 768 (by decide)) (mS32 harg4 x3 768 (by decide))
        (View.readAt (Elt F) arg12.view (Rect.unit (s := S128x800) ![0, 768] S128x32.size inb_S128x800_S128x32_0_768).toLoadRect (harg12.unread xs0))⟩,
    ⟨Rect.unit ![0, 512] S128x256.size inb_S128x800_S128x256_0_512,
      chunk256 i (View.readAt (Elt F) arg15.view (Rect.unit (s := S128x96) ![0, 0] S128x96.size inb_S128x96_S128x96_0_0).toLoadRect (harg15.unread xs3)) (View.readAt (Elt F) arg5.view (Rect.unit (s := S1x800) ![0, 512] S1x256.size inb_S1x800_S1x256_0_512).toLoadRect (harg5.unread x4)) (View.readAt (Elt F) arg14.view (Rect.unit (s := S1x800) ![0, 512] S1x256.size inb_S1x800_S1x256_0_512).toLoadRect (harg14.unread xs2))
        (View.readAt (Elt F) arg13.view (Rect.unit (s := S96x800) ![0, 512] S96x256.size inb_S96x800_S96x256_0_512).toLoadRect (harg13.unread xs1)) (mD256 harg3 x2 512 (by decide)) (mS256 harg4 x3 512 (by decide))
        (View.readAt (Elt F) arg12.view (Rect.unit (s := S128x800) ![0, 512] S128x256.size inb_S128x800_S128x256_0_512).toLoadRect (harg12.unread xs0))⟩,
    ⟨Rect.unit ![0, 256] S128x256.size inb_S128x800_S128x256_0_256,
      chunk256 i (View.readAt (Elt F) arg15.view (Rect.unit (s := S128x96) ![0, 0] S128x96.size inb_S128x96_S128x96_0_0).toLoadRect (harg15.unread xs3)) (View.readAt (Elt F) arg5.view (Rect.unit (s := S1x800) ![0, 256] S1x256.size inb_S1x800_S1x256_0_256).toLoadRect (harg5.unread x4)) (View.readAt (Elt F) arg14.view (Rect.unit (s := S1x800) ![0, 256] S1x256.size inb_S1x800_S1x256_0_256).toLoadRect (harg14.unread xs2))
        (View.readAt (Elt F) arg13.view (Rect.unit (s := S96x800) ![0, 256] S96x256.size inb_S96x800_S96x256_0_256).toLoadRect (harg13.unread xs1)) (mD256 harg3 x2 256 (by decide)) (mS256 harg4 x3 256 (by decide))
        (View.readAt (Elt F) arg12.view (Rect.unit (s := S128x800) ![0, 256] S128x256.size inb_S128x800_S128x256_0_256).toLoadRect (harg12.unread xs0))⟩,
    ⟨Rect.unit ![0, 0] S128x256.size inb_S128x800_S128x256_0_0,
      chunk256 i (View.readAt (Elt F) arg15.view (Rect.unit (s := S128x96) ![0, 0] S128x96.size inb_S128x96_S128x96_0_0).toLoadRect (harg15.unread xs3)) (View.readAt (Elt F) arg5.view (Rect.unit (s := S1x800) ![0, 0] S1x256.size inb_S1x800_S1x256_0_0).toLoadRect (harg5.unread x4)) (View.readAt (Elt F) arg14.view (Rect.unit (s := S1x800) ![0, 0] S1x256.size inb_S1x800_S1x256_0_0).toLoadRect (harg14.unread xs2))
        (View.readAt (Elt F) arg13.view (Rect.unit (s := S96x800) ![0, 0] S96x256.size inb_S96x800_S96x256_0_0).toLoadRect (harg13.unread xs1)) (mD256 harg3 x2 0 (by decide)) (mS256 harg4 x3 0 (by decide))
        (View.readAt (Elt F) arg12.view (Rect.unit (s := S128x800) ![0, 0] S128x256.size inb_S128x800_S128x256_0_0).toLoadRect (harg12.unread xs0))⟩] := rfl
  rw [e]; simp only [ld_unread, mD256_eq, mD32_eq, mS256_eq, mS32_eq]; rfl

theorem runC_scores_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1 = scorePieces (scoresV (arg12.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 (Rect.unit (s := S128x800) ![0, 0] S128x800.size inb_S128x800_S128x800_0_0).toLoadRect) (View.readAt (Elt F) arg2.view (Rect.unit (s := S4x32) ![0, 0] S4x32.size inb_S4x32_S4x32_0_0).toLoadRect (harg2.unread x1)) (View.readAt (Elt F) arg5.view (Rect.unit (s := S1x800) ![0, 0] S1x800.size inb_S1x800_S1x800_0_0).toLoadRect (harg5.unread x4))) := rfl

theorem runC_loss_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1 = lossPieces (scoresV (arg12.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 (Rect.unit (s := S128x800) ![0, 0] S128x800.size inb_S128x800_S128x800_0_0).toLoadRect) (View.readAt (Elt F) arg2.view (Rect.unit (s := S4x32) ![0, 0] S4x32.size inb_S4x32_S4x32_0_0).toLoadRect (harg2.unread x1)) (View.readAt (Elt F) arg5.view (Rect.unit (s := S1x800) ![0, 0] S1x800.size inb_S1x800_S1x800_0_0).toLoadRect (harg5.unread x4))) ![(View.readAt (Elt F) arg6.view (Rect.unit (s := S4) ![0] S1.size inb_S4_S1_0).toLoadRect (harg6.unread x5)) (Shape.Idx.first (by decide)), (View.readAt (Elt F) arg6.view (Rect.unit (s := S4) ![1] S1.size inb_S4_S1_1).toLoadRect (harg6.unread x5)) (Shape.Idx.first (by decide)), (View.readAt (Elt F) arg6.view (Rect.unit (s := S4) ![2] S1.size inb_S4_S1_2).toLoadRect (harg6.unread x5)) (Shape.Idx.first (by decide)), (View.readAt (Elt F) arg6.view (Rect.unit (s := S4) ![3] S1.size inb_S4_S1_3).toLoadRect (harg6.unread x5)) (Shape.Idx.first (by decide))] (View.readAt (Elt F) arg7.view (Rect.unit (s := S4x200) ![0, 0] S4x200.size inb_S4x200_S4x200_0_0).toLoadRect (harg7.unread x6)) := rfl

theorem runC_kl_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1 = klPieces (scoresV (arg12.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 (Rect.unit (s := S128x800) ![0, 0] S128x800.size inb_S128x800_S128x800_0_0).toLoadRect) (View.readAt (Elt F) arg2.view (Rect.unit (s := S4x32) ![0, 0] S4x32.size inb_S4x32_S4x32_0_0).toLoadRect (harg2.unread x1)) (View.readAt (Elt F) arg5.view (Rect.unit (s := S1x800) ![0, 0] S1x800.size inb_S1x800_S1x800_0_0).toLoadRect (harg5.unread x4))) (View.readAt (Elt F) arg7.view (Rect.unit (s := S4x200) ![0, 0] S4x200.size inb_S4x200_S4x200_0_0).toLoadRect (harg7.unread x6)) := rfl

theorem runC_tok_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1 = tokPieces (arg12.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 (Rect.unit (s := S128x800) ![0, 0] S128x800.size inb_S128x800_S128x800_0_0).toLoadRect) (View.readAt (Elt F) arg2.view (Rect.unit (s := S4x32) ![0, 0] S4x32.size inb_S4x32_S4x32_0_0).toLoadRect (harg2.unread x1)) (View.readAt (Elt F) arg5.view (Rect.unit (s := S1x800) ![0, 0] S1x800.size inb_S1x800_S1x800_0_0).toLoadRect (harg5.unread x4)) := rfl

theorem runA_q_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.2.2.1 = (qPieces ![(View.readAt (Elt F) arg1.view (Rect.unit (s := S4x32x96) ![0, 0, 0] S1x32x96.size inb_S4x32x96_S1x32x96_0_0_0).toLoadRect (harg1.unread x0)), (View.readAt (Elt F) arg1.view (Rect.unit (s := S4x32x96) ![1, 0, 0] S1x32x96.size inb_S4x32x96_S1x32x96_1_0_0).toLoadRect (harg1.unread x0)), (View.readAt (Elt F) arg1.view (Rect.unit (s := S4x32x96) ![2, 0, 0] S1x32x96.size inb_S4x32x96_S1x32x96_2_0_0).toLoadRect (harg1.unread x0)), (View.readAt (Elt F) arg1.view (Rect.unit (s := S4x32x96) ![3, 0, 0] S1x32x96.size inb_S4x32x96_S1x32x96_3_0_0).toLoadRect (harg1.unread x0))] (View.readAt (Elt F) arg2.view (Rect.unit (s := S4x32) ![0, 0] S4x32.size inb_S4x32_S4x32_0_0).toLoadRect (harg2.unread x1))) := rfl

theorem runA_d0_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1 = d0Pieces (View.readAt (Elt F) arg3.view (Rect.unit (s := S40x96x800) ![0, 0, 0] S1x96x800.size inb_S40x96x800_S1x96x800_0_0_0).toLoadRect (harg3.unread x2)) := rfl

theorem runA_s0_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.2.1 = s0Pieces (View.readAt (Elt F) arg4.view (Rect.unit (s := S40x800) ![0, 0] S1x800.size inb_S40x800_S1x800_0_0).toLoadRect (harg4.unread x3)) := rfl

/-- The first point's list of stores into the running maximum has its chunks' values over the fill. -/
theorem runA_acc_loads (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) :
    ∃ (L1 L2 L3 L4 : List (View.Piece (Elt F) S128x800 .f32)),
      L1 = ⟨Rect.unit ![0, 0] S128x256.size inb_S128x800_S128x256_0_0,
      chunk256 i (arg15.view.readCov (qPieces ![(View.readAt (Elt F) arg1.view (Rect.unit (s := S4x32x96) ![0, 0, 0] S1x32x96.size inb_S4x32x96_S1x32x96_0_0_0).toLoadRect (harg1.unread x0)), (View.readAt (Elt F) arg1.view (Rect.unit (s := S4x32x96) ![1, 0, 0] S1x32x96.size inb_S4x32x96_S1x32x96_1_0_0).toLoadRect (harg1.unread x0)), (View.readAt (Elt F) arg1.view (Rect.unit (s := S4x32x96) ![2, 0, 0] S1x32x96.size inb_S4x32x96_S1x32x96_2_0_0).toLoadRect (harg1.unread x0)), (View.readAt (Elt F) arg1.view (Rect.unit (s := S4x32x96) ![3, 0, 0] S1x32x96.size inb_S4x32x96_S1x32x96_3_0_0).toLoadRect (harg1.unread x0))] (View.readAt (Elt F) arg2.view (Rect.unit (s := S4x32) ![0, 0] S4x32.size inb_S4x32_S4x32_0_0).toLoadRect (harg2.unread x1))) (Rect.unit (s := S128x96) ![0, 0] S128x96.size inb_S128x96_S128x96_0_0).toLoadRect) (View.readAt (Elt F) arg5.view (Rect.unit (s := S1x800) ![0, 0] S1x256.size inb_S1x800_S1x256_0_0).toLoadRect (harg5.unread x4)) (arg14.view.readCov (s0Pieces (View.readAt (Elt F) arg4.view (Rect.unit (s := S40x800) ![0, 0] S1x800.size inb_S40x800_S1x800_0_0).toLoadRect (harg4.unread x3))) (Rect.unit (s := S1x800) ![0, 0] S1x256.size inb_S1x800_S1x256_0_0).toLoadRect)
        (arg13.view.readCov (d0Pieces (View.readAt (Elt F) arg3.view (Rect.unit (s := S40x96x800) ![0, 0, 0] S1x96x800.size inb_S40x96x800_S1x96x800_0_0_0).toLoadRect (harg3.unread x2))) (Rect.unit (s := S96x800) ![0, 0] S96x256.size inb_S96x800_S96x256_0_0).toLoadRect) (mD256 harg3 x2 0 (by decide)) (mS256 harg4 x3 0 (by decide))
        (arg12.view.readCov accPieces (Rect.unit (s := S128x800) ![0, 0] S128x256.size inb_S128x800_S128x256_0_0).toLoadRect)⟩ :: accPieces ∧
      L2 = ⟨Rect.unit ![0, 256] S128x256.size inb_S128x800_S128x256_0_256,
      chunk256 i (arg15.view.readCov (qPieces ![(View.readAt (Elt F) arg1.view (Rect.unit (s := S4x32x96) ![0, 0, 0] S1x32x96.size inb_S4x32x96_S1x32x96_0_0_0).toLoadRect (harg1.unread x0)), (View.readAt (Elt F) arg1.view (Rect.unit (s := S4x32x96) ![1, 0, 0] S1x32x96.size inb_S4x32x96_S1x32x96_1_0_0).toLoadRect (harg1.unread x0)), (View.readAt (Elt F) arg1.view (Rect.unit (s := S4x32x96) ![2, 0, 0] S1x32x96.size inb_S4x32x96_S1x32x96_2_0_0).toLoadRect (harg1.unread x0)), (View.readAt (Elt F) arg1.view (Rect.unit (s := S4x32x96) ![3, 0, 0] S1x32x96.size inb_S4x32x96_S1x32x96_3_0_0).toLoadRect (harg1.unread x0))] (View.readAt (Elt F) arg2.view (Rect.unit (s := S4x32) ![0, 0] S4x32.size inb_S4x32_S4x32_0_0).toLoadRect (harg2.unread x1))) (Rect.unit (s := S128x96) ![0, 0] S128x96.size inb_S128x96_S128x96_0_0).toLoadRect) (View.readAt (Elt F) arg5.view (Rect.unit (s := S1x800) ![0, 256] S1x256.size inb_S1x800_S1x256_0_256).toLoadRect (harg5.unread x4)) (arg14.view.readCov (s0Pieces (View.readAt (Elt F) arg4.view (Rect.unit (s := S40x800) ![0, 0] S1x800.size inb_S40x800_S1x800_0_0).toLoadRect (harg4.unread x3))) (Rect.unit (s := S1x800) ![0, 256] S1x256.size inb_S1x800_S1x256_0_256).toLoadRect)
        (arg13.view.readCov (d0Pieces (View.readAt (Elt F) arg3.view (Rect.unit (s := S40x96x800) ![0, 0, 0] S1x96x800.size inb_S40x96x800_S1x96x800_0_0_0).toLoadRect (harg3.unread x2))) (Rect.unit (s := S96x800) ![0, 256] S96x256.size inb_S96x800_S96x256_0_256).toLoadRect) (mD256 harg3 x2 256 (by decide)) (mS256 harg4 x3 256 (by decide))
        (arg12.view.readCov L1 (Rect.unit (s := S128x800) ![0, 256] S128x256.size inb_S128x800_S128x256_0_256).toLoadRect)⟩ :: L1 ∧
      L3 = ⟨Rect.unit ![0, 512] S128x256.size inb_S128x800_S128x256_0_512,
      chunk256 i (arg15.view.readCov (qPieces ![(View.readAt (Elt F) arg1.view (Rect.unit (s := S4x32x96) ![0, 0, 0] S1x32x96.size inb_S4x32x96_S1x32x96_0_0_0).toLoadRect (harg1.unread x0)), (View.readAt (Elt F) arg1.view (Rect.unit (s := S4x32x96) ![1, 0, 0] S1x32x96.size inb_S4x32x96_S1x32x96_1_0_0).toLoadRect (harg1.unread x0)), (View.readAt (Elt F) arg1.view (Rect.unit (s := S4x32x96) ![2, 0, 0] S1x32x96.size inb_S4x32x96_S1x32x96_2_0_0).toLoadRect (harg1.unread x0)), (View.readAt (Elt F) arg1.view (Rect.unit (s := S4x32x96) ![3, 0, 0] S1x32x96.size inb_S4x32x96_S1x32x96_3_0_0).toLoadRect (harg1.unread x0))] (View.readAt (Elt F) arg2.view (Rect.unit (s := S4x32) ![0, 0] S4x32.size inb_S4x32_S4x32_0_0).toLoadRect (harg2.unread x1))) (Rect.unit (s := S128x96) ![0, 0] S128x96.size inb_S128x96_S128x96_0_0).toLoadRect) (View.readAt (Elt F) arg5.view (Rect.unit (s := S1x800) ![0, 512] S1x256.size inb_S1x800_S1x256_0_512).toLoadRect (harg5.unread x4)) (arg14.view.readCov (s0Pieces (View.readAt (Elt F) arg4.view (Rect.unit (s := S40x800) ![0, 0] S1x800.size inb_S40x800_S1x800_0_0).toLoadRect (harg4.unread x3))) (Rect.unit (s := S1x800) ![0, 512] S1x256.size inb_S1x800_S1x256_0_512).toLoadRect)
        (arg13.view.readCov (d0Pieces (View.readAt (Elt F) arg3.view (Rect.unit (s := S40x96x800) ![0, 0, 0] S1x96x800.size inb_S40x96x800_S1x96x800_0_0_0).toLoadRect (harg3.unread x2))) (Rect.unit (s := S96x800) ![0, 512] S96x256.size inb_S96x800_S96x256_0_512).toLoadRect) (mD256 harg3 x2 512 (by decide)) (mS256 harg4 x3 512 (by decide))
        (arg12.view.readCov L2 (Rect.unit (s := S128x800) ![0, 512] S128x256.size inb_S128x800_S128x256_0_512).toLoadRect)⟩ :: L2 ∧
      L4 = ⟨Rect.unit ![0, 768] ![128, 32] inb_S128x800_S128x32_0_768,
      chunk32 i (arg15.view.readCov (qPieces ![(View.readAt (Elt F) arg1.view (Rect.unit (s := S4x32x96) ![0, 0, 0] S1x32x96.size inb_S4x32x96_S1x32x96_0_0_0).toLoadRect (harg1.unread x0)), (View.readAt (Elt F) arg1.view (Rect.unit (s := S4x32x96) ![1, 0, 0] S1x32x96.size inb_S4x32x96_S1x32x96_1_0_0).toLoadRect (harg1.unread x0)), (View.readAt (Elt F) arg1.view (Rect.unit (s := S4x32x96) ![2, 0, 0] S1x32x96.size inb_S4x32x96_S1x32x96_2_0_0).toLoadRect (harg1.unread x0)), (View.readAt (Elt F) arg1.view (Rect.unit (s := S4x32x96) ![3, 0, 0] S1x32x96.size inb_S4x32x96_S1x32x96_3_0_0).toLoadRect (harg1.unread x0))] (View.readAt (Elt F) arg2.view (Rect.unit (s := S4x32) ![0, 0] S4x32.size inb_S4x32_S4x32_0_0).toLoadRect (harg2.unread x1))) (Rect.unit (s := S128x96) ![0, 0] S128x96.size inb_S128x96_S128x96_0_0).toLoadRect) (View.readAt (Elt F) arg5.view (Rect.unit (s := S1x800) ![0, 768] S1x32.size inb_S1x800_S1x32_0_768).toLoadRect (harg5.unread x4)) (arg14.view.readCov (s0Pieces (View.readAt (Elt F) arg4.view (Rect.unit (s := S40x800) ![0, 0] S1x800.size inb_S40x800_S1x800_0_0).toLoadRect (harg4.unread x3))) (Rect.unit (s := S1x800) ![0, 768] S1x32.size inb_S1x800_S1x32_0_768).toLoadRect)
        (arg13.view.readCov (d0Pieces (View.readAt (Elt F) arg3.view (Rect.unit (s := S40x96x800) ![0, 0, 0] S1x96x800.size inb_S40x96x800_S1x96x800_0_0_0).toLoadRect (harg3.unread x2))) (Rect.unit (s := S96x800) ![0, 768] S96x32.size inb_S96x800_S96x32_0_768).toLoadRect) (mD32 harg3 x2 768 (by decide)) (mS32 harg4 x3 768 (by decide))
        (arg12.view.readCov L3 (Rect.unit (s := S128x800) ![0, 768] S128x32.size inb_S128x800_S128x32_0_768).toLoadRect)⟩ :: L3 ∧
      (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1 = L4 :=
  ⟨_, _, _, _, rfl, rfl, rfl, rfl, rfl⟩

end Cert.KernelIdeal.Gen
-- ==== Proof.IdealState.lean ====
/- What the kernel's scratch buffers and results hold after a grid point, as functions of the blocks it reads and of
   the scratch before. -/
module

public import proofs.«01_k».proof.Proof.IdealFold
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.ShloMosaic.Rounds

variable {F : FTy → Type} [FloatOps F]

/-! ## Lists of stores -/

/-- Earlier stores under a covering list leave no trace. -/
theorem canon_append_of_cover {s : Shape} {e : EltTy} (T : List (View.Piece (Elt F) s e)) (y : s.Idx) :
    ∀ L : List (View.Piece (Elt F) s e), (∃ p ∈ L, y ∈ p.1.set) → View.canon (L ++ T) y = View.canon L y
  | [], h => by obtain ⟨_, hm, _⟩ := h; exact absurd hm List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · have hL : ∃ p' ∈ L, y ∈ p'.1.set := by
        obtain ⟨p', hm, hy'⟩ := h
        rcases List.mem_cons.mp hm with rfl | hm
        · exact absurd hy' hy
        · exact ⟨p', hm, hy'⟩
      rw [List.cons_append, View.canon_cons_of_not_mem p _ hy, View.canon_cons_of_not_mem p _ hy]
      exact canon_append_of_cover T y L hL

theorem off2 : (![0, 0] : Fin 2 → ℕ) = fun _ => 0 := by funext a; match a with | 0 => rfl | 1 => rfl

/-- The chunks of a grid point's running maximum fill it. -/
theorem stepPieces_cover (i : grid0.Coords) (q : Vec F S128x96 .fp8e4m3) (len : Vec F S1x800 .i32) (s0 : Vec F S1x800 .f32)
    (d0 : Vec F S96x800 .fp8e4m3) (x2 : Vec F S40x96x800 .fp8e4m3) (x3 : Vec F S40x800 .f32) (acc : Vec F S128x800 .f32) (y : S128x800.Idx) :
    ∃ p ∈ stepPieces i q len s0 d0 x2 x3 acc, y ∈ p.1.set :=
  View.cover_of_tiledBy (stepPieces i q len s0 d0 x2 x3 acc) ![128, 32] (by sl_kernel_rfl) y

theorem qPieces_cover (q0 : Fin 4 → Vec F S1x32x96 .fp8e4m3) (qs : Vec F S4x32 .f32) (y : S128x96.Idx) :
    ∃ p ∈ qPieces q0 qs, y ∈ p.1.set :=
  View.cover_of_tiledL (qPieces q0 qs) S32x96.size (by sl_kernel_rfl) y

theorem tokPieces_cover (acc : Vec F S128x800 .f32) (qs : Vec F S4x32 .f32) (len : Vec F S1x800 .i32) (y : S4x32x800.Idx) :
    ∃ p ∈ tokPieces acc qs len, y ∈ p.1.set :=
  View.cover_of_tiledL (tokPieces acc qs len) S1x32x800.size (by sl_kernel_rfl) y

theorem lossPieces_cover (s : FVec F S4x800 .f32) (p : Fin 4 → BitVec 32) (te : Vec F S4x200 .f32) (y : S4.Idx) :
    ∃ pc ∈ lossPieces s p te, y ∈ pc.1.set :=
  View.cover_of_tiledL (lossPieces s p te) S1.size (by sl_kernel_rfl) y

theorem klPieces_cover (s : FVec F S4x800 .f32) (te : Vec F S4x200 .f32) (y : S4.Idx) :
    ∃ pc ∈ klPieces s te, y ∈ pc.1.set :=
  View.cover_of_tiledL (klPieces s te) S1.size (by sl_kernel_rfl) y

/-! ## Results of the last point -/

/-- The positive documents' places, read out of their buffer. -/
def posAt (x5 : Vec F S4 .i32) : Fin 4 → BitVec 32 :=
  ![(View.ld x5 (Rect.unit (s := S4) ![0] S1.size inb_S4_S1_0)) (Shape.Idx.first (by decide)), (View.ld x5 (Rect.unit (s := S4) ![1] S1.size inb_S4_S1_1)) (Shape.Idx.first (by decide)), (View.ld x5 (Rect.unit (s := S4) ![2] S1.size inb_S4_S1_2)) (Shape.Idx.first (by decide)), (View.ld x5 (Rect.unit (s := S4) ![3] S1.size inb_S4_S1_3)) (Shape.Idx.first (by decide))]

/-- The scores. -/
def outScores (acc : Vec F S128x800 .f32) (x1 : Vec F S4x32 .f32) (x4 : Vec F S1x800 .i32) : Vec F S4x800 .f32 :=
  scoresV acc x1 x4

/-- The losses. -/
def outLoss (acc : Vec F S128x800 .f32) (x1 : Vec F S4x32 .f32) (x4 : Vec F S1x800 .i32) (x5 : Vec F S4 .i32) (x6 : Vec F S4x200 .f32) :
    Vec F S4 .f32 :=
  View.canon (lossPieces (scoresV acc x1 x4) (posAt x5) x6)

/-- The divergences. -/
def outKl (acc : Vec F S128x800 .f32) (x1 : Vec F S4x32 .f32) (x4 : Vec F S1x800 .i32) (x6 : Vec F S4x200 .f32) : Vec F S4 .f32 :=
  View.canon (klPieces (scoresV acc x1 x4) x6)

/-- The maxima. -/
def outTok (acc : Vec F S128x800 .f32) (x1 : Vec F S4x32 .f32) (x4 : Vec F S1x800 .i32) : Vec F S4x32x800 .f32 :=
  View.canon (tokPieces acc x1 x4)

/-! ## What each run's stores leave -/

theorem readCov_ld {κ' : Kind} {sp' : Space} {s : Shape} {e : EltTy} (v : View sig κ' sp' s e)
    (L : List (View.Piece (Elt F) s e)) (r : Rect s) : v.readCov L r.toLoadRect = View.ld (View.canon L) r :=
  View.readCov_eq_canon' v L r.toLoadRect

theorem runB_acc_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) {κ' : Kind} {sp' : Space} (v : View sig κ' sp' S128x800 .f32) (f : v.ty.Contents (Elt F)) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1) = accStep i xs3 x4 xs2 xs1 x2 x3 xs0 := by
  rw [runB_acc, View.ld_unit_zero off2]
  exact View.read_writes_eq_canon _ _ _ (stepPieces_cover _ _ _ _ _ _ _ _)

theorem runC_acc_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) {κ' : Kind} {sp' : Space} (v : View sig κ' sp' S128x800 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1) = accStep i xs3 x4 xs2 xs1 x2 x3 xs0 := by
  rw [runC_acc, View.ld_unit_zero off2]
  exact View.read_writes_eq_canon _ _ _ (stepPieces_cover _ _ _ _ _ _ _ _)

/-- The last point's load of the whole running maximum reads what its chunks left. -/
theorem runC_acc_load (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) :
    arg12.view.readCov (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 (Rect.unit (s := S128x800) ![0, 0] S128x800.size inb_S128x800_S128x800_0_0).toLoadRect = (accStep i xs3 x4 xs2 xs1 x2 x3 xs0) := by
  rw [readCov_ld, View.ld_unit_zero off2, runC_acc, View.ld_unit_zero off2]
  rfl

theorem whole_scale (x : Vec F S4x32 .f32) : View.ld x (Rect.unit (s := S4x32) ![0, 0] S4x32.size inb_S4x32_S4x32_0_0) = x :=
  View.ld_unit_zero (S := S4x32) off2 _ x
theorem whole_len (x : Vec F S1x800 .i32) : View.ld x (Rect.unit (s := S1x800) ![0, 0] S1x800.size inb_S1x800_S1x800_0_0) = x :=
  View.ld_unit_zero (S := S1x800) off2 _ x
theorem whole_teacher (x : Vec F S4x200 .f32) : View.ld x (Rect.unit (s := S4x200) ![0, 0] S4x200.size inb_S4x200_S4x200_0_0) = x :=
  View.ld_unit_zero (S := S4x200) off2 _ x
theorem whole_s0 (x : Vec F S1x800 .f32) : View.ld x (Rect.unit (s := S1x800) ![0, 0] S1x800.size inb_S1x800_S1x800_0_0) = x :=
  View.ld_unit_zero (S := S1x800) off2 _ x
theorem whole_d0 (x : Vec F S96x800 .fp8e4m3) : View.ld x (Rect.unit (s := S96x800) ![0, 0] S96x800.size inb_S96x800_S96x800_0_0) = x :=
  View.ld_unit_zero (S := S96x800) off2 _ x
theorem whole_q (x : Vec F S128x96 .fp8e4m3) : View.ld x (Rect.unit (s := S128x96) ![0, 0] S128x96.size inb_S128x96_S128x96_0_0) = x :=
  View.ld_unit_zero (S := S128x96) off2 _ x
theorem scorePieces_cover (s : FVec F S4x800 .f32) (y : S4x800.Idx) : ∃ pc ∈ scorePieces s, y ∈ pc.1.set :=
  View.cover_of_tiledL (scorePieces s) S4x800.size (by sl_kernel_rfl) y
theorem scorePieces_canon (s : FVec F S4x800 .f32) : View.canon (scorePieces s) = s :=
  View.canon_unit_zero (S := S4x800) off2 _ _

theorem runC_scores_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) {κ' : Kind} {sp' : Space} (v : View sig κ' sp' S4x800 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1) = outScores (accStep i xs3 x4 xs2 xs1 x2 x3 xs0) x1 x4 := by
  rw [runC_scores_loads, runC_acc_load, View.read_writes_eq_canon _ _ _ (scorePieces_cover _), scorePieces_canon]
  simp only [ld_unread]
  exact congrArg₂ (fun a b => scoresV (accStep i xs3 x4 xs2 xs1 x2 x3 xs0) a b) (whole_scale x1) (whole_len x4)

theorem runC_loss_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) {κ' : Kind} {sp' : Space} (v : View sig κ' sp' S4 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1) = outLoss (accStep i xs3 x4 xs2 xs1 x2 x3 xs0) x1 x4 x5 x6 := by
  rw [runC_loss_loads, runC_acc_load, View.read_writes_eq_canon _ _ _ (lossPieces_cover _ _ _)]
  simp only [ld_unread]
  exact (congrArg₂ (fun a b => View.canon (lossPieces (scoresV (accStep i xs3 x4 xs2 xs1 x2 x3 xs0) a b) (posAt x5) (View.ld x6 (Rect.unit (s := S4x200) ![0, 0] S4x200.size inb_S4x200_S4x200_0_0)))) (whole_scale x1) (whole_len x4)).trans
    (congrArg (fun t => View.canon (lossPieces (scoresV (accStep i xs3 x4 xs2 xs1 x2 x3 xs0) x1 x4) (posAt x5) t)) (whole_teacher x6))

theorem runC_kl_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) {κ' : Kind} {sp' : Space} (v : View sig κ' sp' S4 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1) = outKl (accStep i xs3 x4 xs2 xs1 x2 x3 xs0) x1 x4 x6 := by
  rw [runC_kl_loads, runC_acc_load, View.read_writes_eq_canon _ _ _ (klPieces_cover _ _)]
  simp only [ld_unread]
  exact (congrArg₂ (fun a b => View.canon (klPieces (scoresV (accStep i xs3 x4 xs2 xs1 x2 x3 xs0) a b) (View.ld x6 (Rect.unit (s := S4x200) ![0, 0] S4x200.size inb_S4x200_S4x200_0_0)))) (whole_scale x1) (whole_len x4)).trans
    (congrArg (fun t => View.canon (klPieces (scoresV (accStep i xs3 x4 xs2 xs1 x2 x3 xs0) x1 x4) t)) (whole_teacher x6))

theorem runC_tok_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : ¬cond0_0 i) (hc1 : cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) (xs0 : Vec F S128x800 .f32) (xs1 : Vec F S96x800 .fp8e4m3) (xs2 : Vec F S1x800 .f32) (xs3 : Vec F S128x96 .fp8e4m3) {κ' : Kind} {sp' : Space} (v : View sig κ' sp' S4x32x800 .f32) (f : v.ty.Contents (Elt F)) :
    v.read (Elt F) (v.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1) = outTok (accStep i xs3 x4 xs2 xs1 x2 x3 xs0) x1 x4 := by
  rw [runC_tok_loads, runC_acc_load]
  rw [View.read_writes_eq_canon _ _ _ (tokPieces_cover _ _ _)]
  simp only [ld_unread]
  exact congrArg₂ (fun a b => View.canon (tokPieces (accStep i xs3 x4 xs2 xs1 x2 x3 xs0) a b)) (whole_scale x1) (whole_len x4)

theorem runA_q_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) {κ' : Kind} {sp' : Space} (v : View sig κ' sp' S128x96 .fp8e4m3) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.2.2.1) = qInit x0 x1 := by
  rw [runA_q_loads]; simp only [ld_unread]
  exact View.read_writes_eq_canon _ _ _ (qPieces_cover _ _)

theorem runA_d0_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) {κ' : Kind} {sp' : Space} (v : View sig κ' sp' S96x800 .fp8e4m3) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.1) = d0Init x2 := by
  rw [runA_d0_loads]; simp only [ld_unread]
  exact View.read_writes_eq_canon _ _ _ (fun y => ⟨_, List.mem_singleton_self _, View.mem_set_unit_zero off2 inb_S96x800_S96x800_0_0 y⟩)

theorem runA_s0_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) {κ' : Kind} {sp' : Space} (v : View sig κ' sp' S1x800 .f32) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.2.2.1) = s0Init x3 := by
  rw [runA_s0_loads]; simp only [ld_unread]
  exact View.read_writes_eq_canon _ _ _ (fun y => ⟨_, List.mem_singleton_self _, View.mem_set_unit_zero off2 inb_S1x800_S1x800_0_0 y⟩)

/-- A chunk's columns lie beyond an earlier chunk's. -/
theorem chunk_miss {o o' W W' : ℕ} (inb : ∀ a, ![0, o] a + ![128, W] a ≤ S128x800.size a) (inb' : ∀ a, ![0, o'] a + ![128, W'] a ≤ S128x800.size a)
    (h : o' + W' ≤ o) (j : (Rect.unit (s := S128x800) ![0, o] ![128, W] inb).shape.Idx) :
    (Rect.unit (s := S128x800) ![0, o] ![128, W] inb).idx j ∉ (Rect.unit (s := S128x800) ![0, o'] ![128, W'] inb').set := by
  rw [Rect.mem_set_unit]
  intro hall
  have h1 := (hall 1).2
  have e : (((Rect.unit (s := S128x800) ![0, o] ![128, W] inb).idx j) 1 : ℕ) = o + 1 * (j 1).val := rfl
  rw [e] at h1
  have : o + 1 * (j 1).val < o' + W' := h1
  omega

/-- Reading a chunk of the running maximum under earlier chunks' stores reads under them. -/
theorem ld_canon_miss {o o' W W' : ℕ} (inb : ∀ a, ![0, o] a + ![128, W] a ≤ S128x800.size a) (inb' : ∀ a, ![0, o'] a + ![128, W'] a ≤ S128x800.size a)
    (h : o' + W' ≤ o) (w) (L : List (View.Piece (Elt F) S128x800 .f32)) :
    View.ld (View.canon (⟨Rect.unit (s := S128x800) ![0, o'] ![128, W'] inb', w⟩ :: L)) (Rect.unit (s := S128x800) ![0, o] ![128, W] inb)
      = View.ld (View.canon L) (Rect.unit (s := S128x800) ![0, o] ![128, W] inb) :=
  funext fun j => View.canon_cons_of_not_mem _ _ (chunk_miss inb inb' h j)

set_option maxHeartbeats 3200000 in
theorem runA_acc_read (c : Dev nD) (i : grid0.Coords) (arg1 : Memref sig .tc .vmem S4x32x96 .fp8e4m3) (harg1 : arg1.IsWhole) (arg2 : Memref sig .tc .vmem S4x32 .f32) (harg2 : arg2.IsWhole) (arg3 : Memref sig .tc .vmem S40x96x800 .fp8e4m3) (harg3 : arg3.IsWhole) (arg4 : Memref sig .tc .vmem S40x800 .f32) (harg4 : arg4.IsWhole) (arg5 : Memref sig .tc .vmem S1x800 .i32) (harg5 : arg5.IsWhole) (arg6 : Memref sig .tc .smem S4 .i32) (harg6 : arg6.IsWhole) (arg7 : Memref sig .tc .vmem S4x200 .f32) (harg7 : arg7.IsWhole) (arg8 : Memref sig .tc .vmem S4x800 .f32) (harg8 : arg8.IsWhole) (arg9 : Memref sig .tc .smem S4 .f32) (harg9 : arg9.IsWhole) (arg10 : Memref sig .tc .smem S4 .f32) (harg10 : arg10.IsWhole) (arg11 : Memref sig .tc .vmem S4x32x800 .f32) (harg11 : arg11.IsWhole) (arg12 : Memref sig .tc .vmem S128x800 .f32) (harg12 : arg12.IsWhole) (arg13 : Memref sig .tc .vmem S96x800 .fp8e4m3) (harg13 : arg13.IsWhole) (arg14 : Memref sig .tc .vmem S1x800 .f32) (harg14 : arg14.IsWhole) (arg15 : Memref sig .tc .vmem S128x96 .fp8e4m3) (harg15 : arg15.IsWhole) (hc0 : cond0_0 i) (hc1 : ¬cond0_1 i)
    (x0 : Vec F S4x32x96 .fp8e4m3) (x1 : Vec F S4x32 .f32) (x2 : Vec F S40x96x800 .fp8e4m3) (x3 : Vec F S40x800 .f32) (x4 : Vec F S1x800 .i32) (x5 : Vec F S4 .i32) (x6 : Vec F S4x200 .f32) {κ' : Kind} {sp' : Space} (v : View sig κ' sp' S128x800 .f32) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1) = accStep i (qInit x0 x1) x4 (s0Init x3) (d0Init x2) x2 x3 accInit := by
  obtain ⟨L1, L2, L3, L4, e1, e2, e3, e4, e⟩ := runA_acc_loads c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6
  have c1 : (arg12.view.readCov (accPieces (F := F)) (Rect.unit (s := S128x800) ![0, 0] S128x256.size inb_S128x800_S128x256_0_0).toLoadRect) = (View.ld (accInit (F := F)) (Rect.unit (s := S128x800) ![0, 0] S128x256.size inb_S128x800_S128x256_0_0)) := readCov_ld _ _ _
  have c2 : (arg12.view.readCov L1 (Rect.unit (s := S128x800) ![0, 256] S128x256.size inb_S128x800_S128x256_0_256).toLoadRect) = (View.ld (accInit (F := F)) (Rect.unit (s := S128x800) ![0, 256] S128x256.size inb_S128x800_S128x256_0_256)) := by
    rw [readCov_ld, e1]; exact ld_canon_miss _ _ (by decide) _ _
  have c3 : (arg12.view.readCov L2 (Rect.unit (s := S128x800) ![0, 512] S128x256.size inb_S128x800_S128x256_0_512).toLoadRect) = (View.ld (accInit (F := F)) (Rect.unit (s := S128x800) ![0, 512] S128x256.size inb_S128x800_S128x256_0_512)) := by
    rw [readCov_ld, e2, e1]; exact (ld_canon_miss _ _ (by decide) _ _).trans (ld_canon_miss _ _ (by decide) _ _)
  have c4 : (arg12.view.readCov L3 (Rect.unit (s := S128x800) ![0, 768] S128x32.size inb_S128x800_S128x32_0_768).toLoadRect) = (View.ld (accInit (F := F)) (Rect.unit (s := S128x800) ![0, 768] S128x32.size inb_S128x800_S128x32_0_768)) := by
    rw [readCov_ld, e3, e2, e1]
    exact (ld_canon_miss _ _ (by decide) _ _).trans ((ld_canon_miss _ _ (by decide) _ _).trans (ld_canon_miss _ _ (by decide) _ _))
  have eL : L4 = stepPieces i (qInit x0 x1) x4 (s0Init x3) (d0Init x2) x2 x3 accInit ++ accPieces := by
    rw [c1] at e1; rw [c2] at e2; rw [c3] at e3; rw [c4] at e4
    rw [e4, e3, e2, e1]
    simp only [readCov_ld, ld_unread, mD256_eq, mD32_eq, mS256_eq, mS32_eq]
    rw [whole_q]
    rfl
  rw [e, eL]
  have hc := stepPieces_cover i (qInit x0 x1) x4 (s0Init x3) (d0Init x2) x2 x3 accInit
  funext y
  obtain ⟨p, hp, hy⟩ := hc y
  rw [View.read_writes_apply_eq_canon _ _ y _ ⟨p, List.mem_append_left _ hp, hy⟩]
  exact canon_append_of_cover _ y _ ⟨p, hp, hy⟩

end Cert.KernelIdeal.Gen
-- ==== Proof.IdealMask.lean ====
/- Rows past a document's 300 positions take no part: what a grid point's step computes does not depend on them. -/
module

public import proofs.«01_k».proof.Proof.IdealState

@[expose] public section

set_option maxRecDepth 16384

noncomputable section

namespace Cert.KernelIdeal.Gen

open Idealize.ShloMosaic Idealize.ShloMosaic.TcCoe Idealize.ShloMosaic.Tactic
open Idealize.ShloMosaic.Rounds

variable {F : FTy → Type} [FloatOps F]

/-- A row's position, as a number. -/
theorem rowAt_toNat (i : grid0.Coords) {n : ℕ} (hn : n < 40) : (rowAt i n).toNat = 40 * (i 0).val + n := by
  have h0 : (i 0).val < 8 := (i 0).isLt
  unfold rowAt Scalar.addi Scalar.muli IntOp.addi IntOp.muli
  rw [BitVec.toNat_add, BitVec.toNat_mul, BitVec.toNat_ofNat, BitVec.toNat_ofNat]
  change ((i 0).val % 2 ^ 32 * 40 % 2 ^ 32 + n % 2 ^ 32) % 2 ^ 32 = _
  omega

theorem rowAt_toInt (i : grid0.Coords) {n : ℕ} (hn : n < 40) : (rowAt i n).toInt = 40 * (i 0).val + n := by
  have h0 : (i 0).val < 8 := (i 0).isLt
  have h := rowAt_toNat i hn
  rw [BitVec.toInt_eq_toNat_cond, if_pos (by omega), h]
  omega

/-- The comparison of a position with an effective length, as numbers. -/
theorem slt_min_iff (b x : BitVec 32) : b.slt (IntOp.minsi x 300#32) = true ↔ b.toInt < x.toInt ∧ b.toInt < 300 := by
  have h3 : (300#32).toInt = 300 := by decide
  unfold IntOp.minsi
  by_cases h : x.slt 300#32 = true
  · rw [if_pos h]; rw [BitVec.slt_iff_toInt_lt] at h ⊢; rw [h3] at h; omega
  · rw [if_neg h]; rw [BitVec.slt_iff_toInt_lt] at h ⊢; rw [h3] at h ⊢; omega

/-- At a position past the end no document has a token. -/
theorem valid256_past (i : grid0.Coords) (len : Vec F S1x256 .i32) {n : ℕ} (hn : n < 40) (h : ¬ 40 * (i 0).val + n < 300) (y : S1x256.Idx) :
    valid256 len (rowAt i n) y = 0#1 := by
  have hs : (rowAt i n).slt (IntOp.minsi (shapeCast S1x256 len shapeCasts_S1x256_S1x256 y) 300#32) = false := by
    rw [Bool.eq_false_iff]; intro hc
    have := ((slt_min_iff _ _).mp hc).2
    rw [rowAt_toInt i hn] at this
    omega
  show BitVec.ofBool ((rowAt i n).slt (IntOp.minsi (shapeCast S1x256 len shapeCasts_S1x256_S1x256 y) 300#32)) = 0#1
  rw [hs]; rfl

theorem rowStep256_past (i : grid0.Coords) (q : Vec F S128x96 .fp8e4m3) (len : Vec F S1x256 .i32) (s0 : Vec F S1x256 .f32)
    (d0 : Vec F S96x256 .fp8e4m3) (acc : FVec F S128x256 .f32) {n : ℕ} (hn : n < 40) (h : ¬ 40 * (i 0).val + n < 300)
    (dj dj' : Vec F S1x96x256 .fp8e4m3) (sj sj' : Vec F S1x256 .f32) :
    rowStep256 q len s0 d0 acc (rowAt i n) dj sj = rowStep256 q len s0 d0 acc (rowAt i n) dj' sj' := by
  have e : valid256 len (rowAt i n) = fun _ => 0#1 := funext fun y => valid256_past i len hn h y
  have ec : codes256 len d0 (rowAt i n) dj = codes256 len d0 (rowAt i n) dj' := by unfold codes256; rw [e]; rfl
  have es : scales256 len s0 (rowAt i n) sj = scales256 len s0 (rowAt i n) sj' := by unfold scales256; rw [e]; rfl
  unfold rowStep256; rw [ec, es]

theorem rows256_congr (i : grid0.Coords) (q : Vec F S128x96 .fp8e4m3) (len : Vec F S1x256 .i32) (s0 : Vec F S1x256 .f32)
    (d0 : Vec F S96x256 .fp8e4m3) (D D' : ℕ → Vec F S1x96x256 .fp8e4m3) (S S' : ℕ → Vec F S1x256 .f32) (acc : FVec F S128x256 .f32)
    (hD : ∀ n, n < 40 → 40 * (i 0).val + n < 300 → D n = D' n) (hS : ∀ n, n < 40 → 40 * (i 0).val + n < 300 → S n = S' n) :
    ∀ n, n ≤ 40 → rows256 i q len s0 d0 D S acc n = rows256 i q len s0 d0 D' S' acc n
  | 0, _ => rfl
  | n + 1, hn => by
    show rowStep256 q len s0 d0 (rows256 i q len s0 d0 D S acc n) (rowAt i n) (D n) (S n)
      = rowStep256 q len s0 d0 (rows256 i q len s0 d0 D' S' acc n) (rowAt i n) (D' n) (S' n)
    rw [rows256_congr i q len s0 d0 D D' S S' acc hD hS n (by omega)]
    by_cases h : 40 * (i 0).val + n < 300
    · rw [hD n (by omega) h, hS n (by omega) h]
    · exact rowStep256_past i q len s0 d0 _ (by omega) h _ _ _ _

theorem chunk256_congr (i : grid0.Coords) (q : Vec F S128x96 .fp8e4m3) (len : Vec F S1x256 .i32) (s0 : Vec F S1x256 .f32)
    (d0 : Vec F S96x256 .fp8e4m3) (x2 x2' : Vec F S40x96x800 .fp8e4m3) (x3 x3' : Vec F S40x800 .f32) (o : ℕ) (ho : o + 256 ≤ 800)
    (acc : FVec F S128x256 .f32)
    (h2 : ∀ y : S40x96x800.Idx, 40 * (i 0).val + (y 0).val < 300 → x2 y = x2' y)
    (h3 : ∀ y : S40x800.Idx, 40 * (i 0).val + (y 0).val < 300 → x3 y = x3' y) :
    chunk256 i q len s0 d0 (ldD256 x2 o ho) (ldS256 x3 o ho) acc = chunk256 i q len s0 d0 (ldD256 x2' o ho) (ldS256 x3' o ho) acc := by
  unfold chunk256
  rw [rows256_congr i q len s0 d0 (ldD256 x2 o ho) (ldD256 x2' o ho) (ldS256 x3 o ho) (ldS256 x3' o ho) acc ?_ ?_ 40 (Nat.le_refl _)]
  · intro n hn h
    funext y
    refine h2 _ ?_
    have e : (y 0).val < 1 := (y 0).isLt
    show 40 * (i 0).val + (n % 40 + 1 * (y 0).val) < 300
    omega
  · intro n hn h
    funext y
    refine h3 _ ?_
    have e : (y 0).val < 1 := (y 0).isLt
    show 40 * (i 0).val + (n % 40 + 1 * (y 0).val) < 300
    omega

/-- At a position past the end no document has a token. -/
theorem valid32_past (i : grid0.Coords) (len : Vec F S1x32 .i32) {n : ℕ} (hn : n < 40) (h : ¬ 40 * (i 0).val + n < 300) (y : S1x32.Idx) :
    valid32 len (rowAt i n) y = 0#1 := by
  have hs : (rowAt i n).slt (IntOp.minsi (shapeCast S1x32 len shapeCasts_S1x32_S1x32 y) 300#32) = false := by
    rw [Bool.eq_false_iff]; intro hc
    have := ((slt_min_iff _ _).mp hc).2
    rw [rowAt_toInt i hn] at this
    omega
  show BitVec.ofBool ((rowAt i n).slt (IntOp.minsi (shapeCast S1x32 len shapeCasts_S1x32_S1x32 y) 300#32)) = 0#1
  rw [hs]; rfl

theorem rowStep32_past (i : grid0.Coords) (q : Vec F S128x96 .fp8e4m3) (len : Vec F S1x32 .i32) (s0 : Vec F S1x32 .f32)
    (d0 : Vec F S96x32 .fp8e4m3) (acc : FVec F S128x32 .f32) {n : ℕ} (hn : n < 40) (h : ¬ 40 * (i 0).val + n < 300)
    (dj dj' : Vec F S1x96x32 .fp8e4m3) (sj sj' : Vec F S1x32 .f32) :
    rowStep32 q len s0 d0 acc (rowAt i n) dj sj = rowStep32 q len s0 d0 acc (rowAt i n) dj' sj' := by
  have e : valid32 len (rowAt i n) = fun _ => 0#1 := funext fun y => valid32_past i len hn h y
  have ec : codes32 len d0 (rowAt i n) dj = codes32 len d0 (rowAt i n) dj' := by unfold codes32; rw [e]; rfl
  have es : scales32 len s0 (rowAt i n) sj = scales32 len s0 (rowAt i n) sj' := by unfold scales32; rw [e]; rfl
  unfold rowStep32; rw [ec, es]

theorem rows32_congr (i : grid0.Coords) (q : Vec F S128x96 .fp8e4m3) (len : Vec F S1x32 .i32) (s0 : Vec F S1x32 .f32)
    (d0 : Vec F S96x32 .fp8e4m3) (D D' : ℕ → Vec F S1x96x32 .fp8e4m3) (S S' : ℕ → Vec F S1x32 .f32) (acc : FVec F S128x32 .f32)
    (hD : ∀ n, n < 40 → 40 * (i 0).val + n < 300 → D n = D' n) (hS : ∀ n, n < 40 → 40 * (i 0).val + n < 300 → S n = S' n) :
    ∀ n, n ≤ 40 → rows32 i q len s0 d0 D S acc n = rows32 i q len s0 d0 D' S' acc n
  | 0, _ => rfl
  | n + 1, hn => by
    show rowStep32 q len s0 d0 (rows32 i q len s0 d0 D S acc n) (rowAt i n) (D n) (S n)
      = rowStep32 q len s0 d0 (rows32 i q len s0 d0 D' S' acc n) (rowAt i n) (D' n) (S' n)
    rw [rows32_congr i q len s0 d0 D D' S S' acc hD hS n (by omega)]
    by_cases h : 40 * (i 0).val + n < 300
    · rw [hD n (by omega) h, hS n (by omega) h]
    · exact rowStep32_past i q len s0 d0 _ (by omega) h _ _ _ _

theorem chunk32_congr (i : grid0.Coords) (q : Vec F S128x96 .fp8e4m3) (len : Vec F S1x32 .i32) (s0 : Vec F S1x32 .f32)
    (d0 : Vec F S96x32 .fp8e4m3) (x2 x2' : Vec F S40x96x800 .fp8e4m3) (x3 x3' : Vec F S40x800 .f32) (o : ℕ) (ho : o + 32 ≤ 800)
    (acc : FVec F S128x32 .f32)
    (h2 : ∀ y : S40x96x800.Idx, 40 * (i 0).val + (y 0).val < 300 → x2 y = x2' y)
    (h3 : ∀ y : S40x800.Idx, 40 * (i 0).val + (y 0).val < 300 → x3 y = x3' y) :
    chunk32 i q len s0 d0 (ldD32 x2 o ho) (ldS32 x3 o ho) acc = chunk32 i q len s0 d0 (ldD32 x2' o ho) (ldS32 x3' o ho) acc := by
  unfold chunk32
  rw [rows32_congr i q len s0 d0 (ldD32 x2 o ho) (ldD32 x2' o ho) (ldS32 x3 o ho) (ldS32 x3' o ho) acc ?_ ?_ 40 (Nat.le_refl _)]
  · intro n hn h
    funext y
    refine h2 _ ?_
    have e : (y 0).val < 1 := (y 0).isLt
    show 40 * (i 0).val + (n % 40 + 1 * (y 0).val) < 300
    omega
  · intro n hn h
    funext y
    refine h3 _ ?_
    have e : (y 0).val < 1 := (y 0).isLt
    show 40 * (i 0).val + (n % 40 + 1 * (y 0).val) < 300
    omega

/-- A grid point's step depends on the rows of its blocks at positions before 300 only. -/
theorem accStep_congr (i : grid0.Coords) (q : Vec F S128x96 .fp8e4m3) (len : Vec F S1x800 .i32) (s0 : Vec F S1x800 .f32)
    (d0 : Vec F S96x800 .fp8e4m3) (x2 x2' : Vec F S40x96x800 .fp8e4m3) (x3 x3' : Vec F S40x800 .f32) (acc : Vec F S128x800 .f32)
    (h2 : ∀ y : S40x96x800.Idx, 40 * (i 0).val + (y 0).val < 300 → x2 y = x2' y)
    (h3 : ∀ y : S40x800.Idx, 40 * (i 0).val + (y 0).val < 300 → x3 y = x3' y) :
    accStep i q len s0 d0 x2 x3 acc = accStep i q len s0 d0 x2' x3' acc := by
  unfold accStep stepPieces
  rw [chunk32_congr i q _ _ _ x2 x2' x3 x3' 768 _ _ h2 h3, chunk256_congr i q _ _ _ x2 x2' x3 x3' 512 _ _ h2 h3,
    chunk256_congr i q _ _ _ x2 x2' x3 x3' 256 _ _ h2 h3, chunk256_congr i q _ _ _ x2 x2' x3 x3' 0 _ _ h2 h3]

end Cert.KernelIdeal.Gen
-- ==== Proof.IdealBody.lean ====
/- The kernel's run: what every buffer holds before and after each grid point, the body's obligation there, and the
   The last block of document positions overhangs its array; the rows past the end take no part (`accStep_congr`). -/
module

public import proofs.«01_k».proof.Proof.IdealMask
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- A point's grid coordinate is the point. -/
theorem coords_val (t : Fin cfg0.N) : ((grid0.coords t) 0).val = t.val := by
  rcases fin_N0 t with rfl | rfl | rfl | rfl | rfl | rfl | rfl | rfl <;> rfl

/-- The block of codes at a point, with zeros where it overhangs the array. -/
def xin2 (c : Dev nD) (t : Fin cfg0.N) : Vec F S40x96x800 .fp8e4m3 :=
  win0_2.fill (grid0.coords t) (fun _ => FloatOps.ofBits .fp8e4m3 0#8) (iblk m c 2 t)
/-- The block of scales at a point, with zeros where it overhangs the array. -/
def xin3 (c : Dev nD) (t : Fin cfg0.N) : Vec F S40x800 .f32 :=
  win0_3.fill (grid0.coords t) (fun _ => FloatOps.ofBits .f32 0#32) (iblk m c 3 t)

theorem moved2 (t : Fin cfg0.N) (y : S40x96x800.Idx) (h : 40 * ((grid0.coords t) 0).val + (y 0).val < 300) :
    win0_2.moved (grid0.coords t) y = true := by
  rw [coords_val] at h
  have h0 : (y 0).val < 40 := (y 0).isLt
  refine (win0_2.moved_iff (grid0.coords t) y).mpr fun a => ?_
  match a with
  | ⟨0, _⟩ =>
    have e : win0_2.xsize (grid0.coords t) 0 = min 40 (300 - 40 * t.val) := by
      rcases fin_N0 t with rfl | rfl | rfl | rfl | rfl | rfl | rfl | rfl <;> rfl
    show (y 0).val < win0_2.xsize (grid0.coords t) 0
    rw [e]; omega
  | ⟨1, _⟩ => exact (y 1).isLt
  | ⟨2, _⟩ => exact (y 2).isLt

theorem moved3 (t : Fin cfg0.N) (y : S40x800.Idx) (h : 40 * ((grid0.coords t) 0).val + (y 0).val < 300) :
    win0_3.moved (grid0.coords t) y = true := by
  rw [coords_val] at h
  have h0 : (y 0).val < 40 := (y 0).isLt
  refine (win0_3.moved_iff (grid0.coords t) y).mpr fun a => ?_
  match a with
  | ⟨0, _⟩ =>
    have e : win0_3.xsize (grid0.coords t) 0 = min 40 (300 - 40 * t.val) := by
      rcases fin_N0 t with rfl | rfl | rfl | rfl | rfl | rfl | rfl | rfl <;> rfl
    show (y 0).val < win0_3.xsize (grid0.coords t) 0
    rw [e]; omega
  | ⟨1, _⟩ => exact (y 1).isLt

/-- On the rows inside the array, whatever the buffer held past its end is not seen. -/
theorem fill2_eq (c : Dev nD) (t : Fin cfg0.N) (d : Vec F S40x96x800 .fp8e4m3) (y : S40x96x800.Idx)
    (h : 40 * ((grid0.coords t) 0).val + (y 0).val < 300) :
    win0_2.fill (grid0.coords t) d (iblk m c 2 t) y = xin2 m c t y := by
  unfold xin2 Window.fill
  rw [dif_pos (moved2 t y h), dif_pos (moved2 t y h)]

theorem fill3_eq (c : Dev nD) (t : Fin cfg0.N) (d : Vec F S40x800 .f32) (y : S40x800.Idx)
    (h : 40 * ((grid0.coords t) 0).val + (y 0).val < 300) :
    win0_3.fill (grid0.coords t) d (iblk m c 3 t) y = xin3 m c t y := by
  unfold xin3 Window.fill
  rw [dif_pos (moved3 t y h), dif_pos (moved3 t y h)]

/-- The first block lies inside the array whole. -/
theorem fill2_first (c : Dev nD) (t : Fin cfg0.N) (hz : t.val = 0) (d : Vec F S40x96x800 .fp8e4m3) :
    win0_2.fill (grid0.coords t) d (iblk m c 2 t) = xin2 m c t :=
  funext fun y => fill2_eq m c t d y (by rw [coords_val, hz]; have : (y 0).val < 40 := (y 0).isLt; omega)
theorem fill3_first (c : Dev nD) (t : Fin cfg0.N) (hz : t.val = 0) (d : Vec F S40x800 .f32) :
    win0_3.fill (grid0.coords t) d (iblk m c 3 t) = xin3 m c t :=
  funext fun y => fill3_eq m c t d y (by rw [coords_val, hz]; have : (y 0).val < 40 := (y 0).isLt; omega)

/-! ## The scratch between points -/

/-- The first point. -/
abbrev tz : Fin cfg0.N := ⟨0, by rw [show cfg0.N = 8 from N_0]; decide⟩

/-- The queries' codes the kernel keeps. -/
def qKept (c : Dev nD) : Vec F S128x96 .fp8e4m3 := qInit (iblk m c 0 tz) (iblk m c 1 tz)
/-- Position 0's codes the kernel keeps. -/
def d0Kept (c : Dev nD) : Vec F S96x800 .fp8e4m3 := d0Init (xin2 m c tz)
/-- Position 0's scales the kernel keeps. -/
def s0Kept (c : Dev nD) : Vec F S1x800 .f32 := s0Init (xin3 m c tz)

/-- The running maximum after each point. -/
def accAt (c : Dev nD) : (n : ℕ) → n < cfg0.N → Vec F S128x800 .f32
  | 0, h => accStep (grid0.coords ⟨0, h⟩) (qKept m c) (iblk m c 4 ⟨0, h⟩) (s0Kept m c) (d0Kept m c) (xin2 m c ⟨0, h⟩) (xin3 m c ⟨0, h⟩) accInit
  | n + 1, h => accStep (grid0.coords ⟨n + 1, h⟩) (qKept m c) (iblk m c 4 ⟨n + 1, h⟩) (s0Kept m c) (d0Kept m c) (xin2 m c ⟨n + 1, h⟩)
      (xin3 m c ⟨n + 1, h⟩) (accAt c n (Nat.lt_of_succ_lt h))

theorem accAt_zero (c : Dev nD) (t : Fin cfg0.N) (hz : t.val = 0) :
    accAt m c t.val t.isLt = accStep (grid0.coords t) (qKept m c) (iblk m c 4 t) (s0Kept m c) (d0Kept m c) (xin2 m c t) (xin3 m c t) accInit := by
  obtain ⟨n, hn⟩ := t
  cases n with
  | zero => rfl
  | succ n => exact absurd hz (Nat.succ_ne_zero n)

theorem accAt_pos (c : Dev nD) (t : Fin cfg0.N) (hz : t.val ≠ 0) :
    accAt m c t.val t.isLt = accStep (grid0.coords t) (qKept m c) (iblk m c 4 t) (s0Kept m c) (d0Kept m c) (xin2 m c t) (xin3 m c t)
      (accAt m c (t.val - 1) (lt_of_le_of_lt (Nat.sub_le _ _) t.isLt)) := by
  obtain ⟨n, hn⟩ := t
  cases n with
  | zero => exact absurd rfl hz
  | succ n => rfl

/-- The invariant before position `n`: before the first point every scratch buffer holds anything; afterwards what the
    points before left. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ owns (c : Thread nD τ) scM0_1 fullShare (d0Kept m c)
      ∗ owns (c : Thread nD τ) scM0_2 fullShare (s0Kept m c) ∗ owns (c : Thread nD τ) scM0_3 fullShare (qKept m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn) ∗ owns (c : Thread nD τ) scM0_1 fullShare (d0Kept m c)
      ∗ owns (c : Thread nD τ) scM0_2 fullShare (s0Kept m c) ∗ owns (c : Thread nD τ) scM0_3 fullShare (qKept m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)) ∗ owns (c : Thread nD τ) scM0_1 fullShare (d0Kept m c)
      ∗ owns (c : Thread nD τ) scM0_2 fullShare (s0Kept m c) ∗ owns (c : Thread nD τ) scM0_3 fullShare (qKept m c)) ∗ (∃ r, prngReg c r)) := by
  cases n with
  | zero => exact absurd rfl hz
  | succ n => rfl

/-! ## The pipeline's proof data -/

/-- The arrays as the region finds them; after the body each input's buffer at its block and each result's at what the
    running maximum gives; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => xin2 m c t
    | ⟨3, _⟩ => xin3 m c t
    | ⟨4, _⟩ => iblk m c 4 t
    | ⟨5, _⟩ => iblk m c 5 t
    | ⟨6, _⟩ => iblk m c 6 t
    | ⟨7, _⟩ => outScores (accAt m c t.val t.isLt) (iblk m c 1 t) (iblk m c 4 t)
    | ⟨8, _⟩ => outLoss (accAt m c t.val t.isLt) (iblk m c 1 t) (iblk m c 4 t) (iblk m c 5 t) (iblk m c 6 t)
    | ⟨9, _⟩ => outKl (accAt m c t.val t.isLt) (iblk m c 1 t) (iblk m c 4 t) (iblk m c 6 t)
    | ⟨10, _⟩ => outTok (accAt m c t.val t.isLt) (iblk m c 1 t) (iblk m c 4 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = xin2 m c t := by dsimp only [dats]
theorem after0_3 (c : Dev nD) (t : Fin cfg0.N) : (dats m 0 c).after 3 t = xin3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outScores (accAt m c t.val t.isLt) (iblk m c 1 t) (iblk m c 4 t) := by dsimp only [dats]
theorem after0_8 (c : Dev nD) (t : Fin cfg0.N) : (dats m 0 c).after 8 t = outLoss (accAt m c t.val t.isLt) (iblk m c 1 t) (iblk m c 4 t) (iblk m c 5 t) (iblk m c 6 t) := by dsimp only [dats]
theorem after0_9 (c : Dev nD) (t : Fin cfg0.N) : (dats m 0 c).after 9 t = outKl (accAt m c t.val t.isLt) (iblk m c 1 t) (iblk m c 4 t) (iblk m c 6 t) := by dsimp only [dats]
theorem after0_10 (c : Dev nD) (t : Fin cfg0.N) : (dats m 0 c).after 10 t = outTok (accAt m c t.val t.isLt) (iblk m c 1 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- Fetched at every point: the block on the rows inside the array, `d` past its end. -/
theorem before0_2 (c : Dev nD) (t : Fin cfg0.N) (d) : (dats m 0 c).before 2 t d = win0_2.fill (grid0.coords t) d (iblk m c 2 t) := by
  unfold Dat.before; rw [if_pos (fetch0_2 t)]; rfl
/-- Fetched at every point: the block on the rows inside the array, `d` past its end. -/
theorem before0_3 (c : Dev nD) (t : Fin cfg0.N) (d) : (dats m 0 c).before 3 t d = win0_3.fill (grid0.coords t) d (iblk m c 3 t) := by
  unfold Dat.before; rw [if_pos (fetch0_3 t)]; rfl

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare (win0_2.fill (grid0.coords t) d (iblk m c 2 t)))
    ∗ (∃ d, owns (c : Thread nD τ) (ms0_3 t) fullShare (win0_3.fill (grid0.coords t) d (iblk m c 3 t)))
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point, by the case its two conditions select. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  have hacc : t.val ≠ 0 → ∀ d2 d3, accStep (grid0.coords t) (qKept m c) (iblk m c 4 t) (s0Kept m c) (d0Kept m c)
      (win0_2.fill (grid0.coords t) d2 (iblk m c 2 t)) (win0_3.fill (grid0.coords t) d3 (iblk m c 3 t))
      (accAt m c (t.val - 1) (lt_of_le_of_lt (Nat.sub_le _ _) t.isLt)) = accAt m c t.val t.isLt := fun hz d2 d3 => by
    rw [accAt_pos m c t hz]
    exact accStep_congr _ _ _ _ _ _ _ _ _ _ (fun y h => fill2_eq m c t d2 y h) (fun y h => fill3_eq m c t d3 y h)
  by_cases h0 : t.val % 8 = 0
  · have h1 : ¬ t.val % 8 = 7 := by omega
    have hz : t.val = 0 := by omega
    have htz : t = tz := Fin.ext hz
    have hd0A : ∀ d2, d0Init (win0_2.fill (grid0.coords t) d2 (iblk m c 2 t)) = d0Kept m c := fun d2 => by
      rw [fill2_first m c t hz, htz]; rfl
    have hs0A : ∀ d3, s0Init (win0_3.fill (grid0.coords t) d3 (iblk m c 3 t)) = s0Kept m c := fun d3 => by
      rw [fill3_first m c t hz, htz]; rfl
    have hqA : qInit (iblk m c 0 t) (iblk m c 1 t) = qKept m c := by rw [htz]; rfl
    have haccA : ∀ d2 d3, accStep (grid0.coords t) (qInit (iblk m c 0 t) (iblk m c 1 t)) (iblk m c 4 t)
        (s0Init (win0_3.fill (grid0.coords t) d3 (iblk m c 3 t))) (d0Init (win0_2.fill (grid0.coords t) d2 (iblk m c 2 t)))
        (win0_2.fill (grid0.coords t) d2 (iblk m c 2 t)) (win0_3.fill (grid0.coords t) d3 (iblk m c 3 t)) accInit = accAt m c t.val t.isLt := fun d2 d3 => by
      rw [hd0A, hs0A, hqA, fill2_first m c t hz, fill3_first m c t hz]
      exact (accAt_zero m c t hz).symm
    rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
    rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
    rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
    rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
    rw [PhiS_castSucc m c t, PhiS_zero m c _ _ hz, PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (win0_2.fill (grid0.coords t) d2 (iblk m c 2 t)) (win0_3.fill (grid0.coords t) d3 (iblk m c 3 t)) (iblk m c 4 t) (iblk m c 5 t) (iblk m c 6 t)).2.2.2.2.2.2.2.2 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, ⟨%es0, HS0⟩, ⟨%es1, HS1⟩, ⟨%es2, HS2⟩, ⟨%es3, HS3⟩⟩
    isplitl [HS0 HS1 HS2 HS3 Hg]
    · isplitl [HS0 HS1 HS2 HS3]
      · isplitl [HS0]
        · unfold owns; iexists _; isplitr
          swap; · iexact HS0
          ipureintro; exact (runA_acc_read c (grid0.coords t) _ _ _ _ _ _ _ _ _ _ _ _ _ _ _ _ _ _ _ _ _ _ _ _ _ _ _ _ _ _ ((hcond0_0 t).mpr h0) (fun h => h1 ((hcond0_1 t).mp h)) _ _ _ _ _ _ _ _ _).trans (haccA d2 d3)
        isplitl [HS1]
        · unfold owns; iexists _; isplitr
          swap; · iexact HS1
          ipureintro; exact (runA_d0_read c (grid0.coords t) _ _ _ _ _ _ _ _ _ _ _ _ _ _ _ _ _ _ _ _ _ _ _ _ _ _ _ _ _ _ ((hcond0_0 t).mpr h0) (fun h => h1 ((hcond0_1 t).mp h)) _ _ _ _ _ _ _ _ _).trans (hd0A d2)
        isplitl [HS2]
        · unfold owns; iexists _; isplitr
          swap; · iexact HS2
          ipureintro; exact (runA_s0_read c (grid0.coords t) _ _ _ _ _ _ _ _ _ _ _ _ _ _ _ _ _ _ _ _ _ _ _ _ _ _ _ _ _ _ ((hcond0_0 t).mpr h0) (fun h => h1 ((hcond0_1 t).mp h)) _ _ _ _ _ _ _ _ _).trans (hs0A d3)
        unfold owns; iexists _; isplitr
        swap; · iexact HS3
        ipureintro; exact (runA_q_read c (grid0.coords t) _ _ _ _ _ _ _ _ _ _ _ _ _ _ _ _ _ _ _ _ _ _ _ _ _ _ _ _ _ _ ((hcond0_0 t).mpr h0) (fun h => h1 ((hcond0_1 t).mp h)) _ _ _ _ _ _ _ _ _).trans hqA
      iexact Hg
    isplitl [Ho]; · iexact Ho
    isplitl [H0]; · iexact H0
    isplitl [H1]; · iexact H1
    isplitl [H2]; · iexists _; iexact H2
    isplitl [H3]; · iexists _; iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexists _; iexact H10
  · have hz : t.val ≠ 0 := fun e => h0 (by rw [e])
    replace hacc := hacc hz
    by_cases h1 : t.val % 8 = 7
    · skip
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
        unfold Dat.leavesExact; rw [liveAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
        unfold Dat.leavesExact; rw [liveAt0_9_C t (fun h => h0 ((hcond0_0 t).mp h)) ((hcond0_1 t).mpr h1)], after0_9]
      rw [show (dats m 0 c).leavesExact 10 t = owns (c : Thread nD τ) (ms0_10 t) fullShare ((dats m 0 c).after 10 t) from by
        unfold Dat.leavesExact; rw [liveAt0_10_C t (fun h => h0 ((hcond0_0 t).mp h)) ((hcond0_1 t).mpr h1)], after0_10]
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (win0_2.fill (grid0.coords t) d2 (iblk m c 2 t)) (win0_3.fill (grid0.coords t) d3 (iblk m c 3 t)) (iblk m c 4 t) (iblk m c 5 t) (iblk m c 6 t) _ _ _ _ ).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, ⟨%e7, H7⟩, ⟨%e8, H8⟩, ⟨%e9, H9⟩, ⟨%e10, H10⟩, ⟨%es0, HS0⟩, HS1, HS2, HS3⟩
      isplitl [HS0 HS1 HS2 HS3 Hg]
      · isplitl [HS0 HS1 HS2 HS3]
        · isplitl [HS0]
          · unfold owns; iexists _; isplitr
            swap; · iexact HS0
            ipureintro; exact (runC_acc_read c (grid0.coords t) _ _ _ _ _ _ _ _ _ _ _ _ _ _ _ _ _ _ _ _ _ _ _ _ _ _ _ _ _ _ (fun h => h0 ((hcond0_0 t).mp h)) ((hcond0_1 t).mpr h1) _ _ _ _ _ _ _ _ _ _ _ _ _).trans (hacc d2 d3)
          isplitl [HS1]
          · iexact HS1
          isplitl [HS2]
          · iexact HS2
          iexact HS3
        iexact Hg
      isplitl [Ho]; · iexact Ho
      isplitl [H0]; · iexact H0
      isplitl [H1]; · iexact H1
      isplitl [H2]; · iexists _; iexact H2
      isplitl [H3]; · iexists _; iexact H3
      isplitl [H4]; · iexact H4
      isplitl [H5]; · iexact H5
      isplitl [H6]; · iexact H6
      isplitl [H7]
      · unfold owns; iexists _; isplitr
        swap; · iexact H7
        ipureintro; exact (runC_scores_read c (grid0.coords t) _ _ _ _ _ _ _ _ _ _ _ _ _ _ _ _ _ _ _ _ _ _ _ _ _ _ _ _ _ _ (fun h => h0 ((hcond0_0 t).mp h)) ((hcond0_1 t).mpr h1) _ _ _ _ _ _ _ _ _ _ _ _ _).trans (congrArg (fun a => outScores a (iblk m c 1 t) (iblk m c 4 t)) (hacc d2 d3))
      isplitl [H8]
      · unfold owns; iexists _; isplitr
        swap; · iexact H8
        ipureintro; exact (runC_loss_read c (grid0.coords t) _ _ _ _ _ _ _ _ _ _ _ _ _ _ _ _ _ _ _ _ _ _ _ _ _ _ _ _ _ _ (fun h => h0 ((hcond0_0 t).mp h)) ((hcond0_1 t).mpr h1) _ _ _ _ _ _ _ _ _ _ _ _ _).trans (congrArg (fun a => outLoss a (iblk m c 1 t) (iblk m c 4 t) (iblk m c 5 t) (iblk m c 6 t)) (hacc d2 d3))
      isplitl [H9]
      · unfold owns; iexists _; isplitr
        swap; · iexact H9
        ipureintro; exact (runC_kl_read c (grid0.coords t) _ _ _ _ _ _ _ _ _ _ _ _ _ _ _ _ _ _ _ _ _ _ _ _ _ _ _ _ _ _ (fun h => h0 ((hcond0_0 t).mp h)) ((hcond0_1 t).mpr h1) _ _ _ _ _ _ _ _ _ _ _ _ _).trans (congrArg (fun a => outKl a (iblk m c 1 t) (iblk m c 4 t) (iblk m c 6 t)) (hacc d2 d3))
      unfold owns; iexists _; isplitr
      swap; · iexact H10
      ipureintro; exact (runC_tok_read c (grid0.coords t) _ _ _ _ _ _ _ _ _ _ _ _ _ _ _ _ _ _ _ _ _ _ _ _ _ _ _ _ _ _ (fun h => h0 ((hcond0_0 t).mp h)) ((hcond0_1 t).mpr h1) _ _ _ _ _ _ _ _ _ _ _ _ _).trans (congrArg (fun a => outTok a (iblk m c 1 t) (iblk m c 4 t)) (hacc d2 d3))
    · skip
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (win0_2.fill (grid0.coords t) d2 (iblk m c 2 t)) (win0_3.fill (grid0.coords t) d3 (iblk m c 3 t)) (iblk m c 4 t) (iblk m c 5 t) (iblk m c 6 t) _ _ _ _ ).2.2.2.2.2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, ⟨%es0, HS0⟩, HS1, HS2, HS3⟩
      isplitl [HS0 HS1 HS2 HS3 Hg]
      · isplitl [HS0 HS1 HS2 HS3]
        · isplitl [HS0]
          · unfold owns; iexists _; isplitr
            swap; · iexact HS0
            ipureintro; exact (runB_acc_read c (grid0.coords t) _ _ _ _ _ _ _ _ _ _ _ _ _ _ _ _ _ _ _ _ _ _ _ _ _ _ _ _ _ _ (fun h => h0 ((hcond0_0 t).mp h)) (fun h => h1 ((hcond0_1 t).mp h)) _ _ _ _ _ _ _ _ _ _ _ _ _).trans (hacc d2 d3)
          isplitl [HS1]
          · iexact HS1
          isplitl [HS2]
          · iexact HS2
          iexact HS3
        iexact Hg
      isplitl [Ho]; · iexact Ho
      isplitl [H0]; · iexact H0
      isplitl [H1]; · iexact H1
      isplitl [H2]; · iexists _; iexact H2
      isplitl [H3]; · iexists _; iexact H3
      isplitl [H4]; · iexact H4
      isplitl [H5]; · iexact H5
      isplitl [H6]; · iexact H6
      isplitl [H7]; · iexists _; iexact H7
      isplitl [H8]; · iexists _; iexact H8
      isplitl [H9]; · iexists _; iexact H9
      iexists _; iexact H10
end Cert.KernelIdeal.Gen

end
-- ==== Proof.IdealFrame.lean ====
/- The kernel's launch and its frame. -/
module

public import proofs.«01_k».proof.Proof.IdealBody
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The rows inside the array are all the pipeline asks of the window. -/
theorem loose0_2 (c : Dev nD) (t : Fin cfg0.N) :
    iprop(∃ d, owns (c : Thread nD τ) (ms0_2 t) fullShare (win0_2.fill (grid0.coords t) d (iblk m c 2 t)))
      ⊢ ((dats m 0 c).leaves 2 t : sProp 𝕄) := by
  have e : win0_2.cut (grid0.coords t) (xin2 m c t) = iblk m c 2 t := win0_2.cut_fill _ _ _
  iintro ⟨%d, H⟩
  unfold Dat.leaves; rw [liveAt0_2 t]
  iexists d
  change _ ⊢ owns (c : Thread nD τ) (ms0_2 t) fullShare (win0_2.fill (grid0.coords t) d (win0_2.cut (grid0.coords t) (xin2 m c t)))
  rw [e]

/-- The rows inside the array are all the pipeline asks of the window. -/
theorem loose0_3 (c : Dev nD) (t : Fin cfg0.N) :
    iprop(∃ d, owns (c : Thread nD τ) (ms0_3 t) fullShare (win0_3.fill (grid0.coords t) d (iblk m c 3 t)))
      ⊢ ((dats m 0 c).leaves 3 t : sProp 𝕄) := by
  have e : win0_3.cut (grid0.coords t) (xin3 m c t) = iblk m c 3 t := win0_3.cut_fill _ _ _
  iintro ⟨%d, H⟩
  unfold Dat.leaves; rw [liveAt0_3 t]
  iexists d
  change _ ⊢ owns (c : Thread nD τ) (ms0_3 t) fullShare (win0_3.fill (grid0.coords t) d (win0_3.cut (grid0.coords t) (xin3 m c t)))
  rw [e]

/-- The obligation, stated by what each window's buffer is left at. -/
theorem loose_of_leaves {c : Dev nD} (dat : Dat τ (Elt F) Unit ℕ (UR sig nD τ) ℕ cfg0 c)
    (h : ∀ t : Fin cfg0.N, iprop(dat.Φ t.castSucc ∗ dat.owesAt () t.castSucc
        ∗ bigSep Finset.univ fun w : Fin cfg0.W => iprop(∃ d, owns (c : Thread nD τ) ((cfg0.win w).stage (cfg0.slots t w)) fullShare (dat.before w t d)))
      ⊢ wp frame (wpE (defs₀ (F := F)) Variants.none c none) Set.univ (defs₀ (F := F) .tc cfg0.body (cfg0.bodyArgs t (cfg0.slots t)))
        (fun _ => iprop(dat.Φ t.succ ∗ dat.owesAt () t.succ ∗ bigSep Finset.univ fun w : Fin cfg0.W => (dat.leaves w t : sProp 𝕄)))) :
    BodyObligationLoose dat (defs₀ (F := F)) Variants.none () Set.univ := h

/-- What the body returns is what the pipeline asks. -/
theorem bodyPost_leaves (c : Dev nD) (t : Fin cfg0.N) : bodyPost m c t ⊢ iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t) := by
  unfold bodyPost
  refine BIClass.sep_mono .rfl (BIClass.sep_mono .rfl ?_)
  refine BIClass.sep_mono ((dats m 0 c).leaves_intro 0 t) ?_
  refine BIClass.sep_mono ((dats m 0 c).leaves_intro 1 t) ?_
  refine BIClass.sep_mono (loose0_2 m c t) ?_
  refine BIClass.sep_mono (loose0_3 m c t) ?_
  refine BIClass.sep_mono ((dats m 0 c).leaves_intro 4 t) ?_
  refine BIClass.sep_mono ((dats m 0 c).leaves_intro 5 t) ?_
  refine BIClass.sep_mono ((dats m 0 c).leaves_intro 6 t) ?_
  refine BIClass.sep_mono ((dats m 0 c).leaves_intro 7 t) ?_
  refine BIClass.sep_mono ((dats m 0 c).leaves_intro 8 t) ?_
  refine BIClass.sep_mono ((dats m 0 c).leaves_intro 9 t) ?_
  exact (dats m 0 c).leaves_intro 10 t

/-- The library's body obligation, at every point. -/
theorem body_obligation (c : Dev nD) : BodyObligationLoose (dats (F := F) m 0 c) (defs₀ (F := F)) Variants.none () Set.univ :=
  loose_of_leaves (dats m 0 c) fun t => by
    rw [bigSep_W0, bigSep_W0, defs₀_row]
    refine triple_restated (sound_body m c t) rfl .rfl fun _ => ?_
    exact bodyPost_leaves m c t

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- The launch: every array and every other unscoped buffer at what the proof data and the host lines after the kernel
    give, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) (hQ' := fun _ h => h) cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every execution terminates, leaves the argument arrays as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.IdealStep.lean ====
/- One grid point's running maximum read entry by entry, on the extended reals: each of its forty rows enters with one
   term, position 0's where the document has no token at the row's position. -/
module

public import proofs.«01_k».proof.Proof.IdealMask
public import Idealize.ShloMosaic.Lib.MatmulPlain
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.ShloMosaic.Rounds Idealize.ShloMosaic.ValueIdx

/-- Whether a document of length `l` has a token at position `b`. -/
def hasTok (b l : BitVec 32) : Prop := b.slt (IntOp.minsi l 300#32) = true

instance (b l : BitVec 32) : Decidable (hasTok b l) := inferInstanceAs (Decidable (_ = true))

/-- A choice by a comparison, as an `if`. -/
theorem select_ofBool {α : Type} (p : Bool) (a b : α) : Scalar.select (BitVec.ofBool p) a b = if p = true then a else b := by
  cases p <;> rfl

/-- The term one row contributes to query row `r` and document `j`. -/
def termE (q : Vec Ideal S128x96 .fp8e4m3) (len : Vec Ideal S1x800 .i32) (s0 : Vec Ideal S1x800 .f32) (d0 : Vec Ideal S96x800 .fp8e4m3)
    (b : BitVec 32) (dj : Fin 96 → EReal) (sj : EReal) (r : Fin 128) (j : Fin 800) : EReal :=
  (∑ k : Fin 96, q (ix2 r k) * (if hasTok b (len (ix2 0 j)) then dj k else d0 (ix2 k j)))
    * (if hasTok b (len (ix2 0 j)) then sj else s0 (ix2 0 j))

/-- The running maximum of query row `r` and document `j` after the first `n` rows of a block. -/
def rowsE (i : grid0.Coords) (q : Vec Ideal S128x96 .fp8e4m3) (len : Vec Ideal S1x800 .i32) (s0 : Vec Ideal S1x800 .f32)
    (d0 : Vec Ideal S96x800 .fp8e4m3) (x2 : Vec Ideal S40x96x800 .fp8e4m3) (x3 : Vec Ideal S40x800 .f32) (acc : Vec Ideal S128x800 .f32)
    (r : Fin 128) (j : Fin 800) : ℕ → EReal
  | 0 => acc (ix2 r j)
  | n + 1 => max (rowsE i q len s0 d0 x2 x3 acc r j n)
      (termE q len s0 d0 (rowAt i n) (fun k => x2 (ix3 ⟨n % 40, Nat.mod_lt n (by decide)⟩ k j))
        (x3 (ix2 ⟨n % 40, Nat.mod_lt n (by decide)⟩ j)) r j)

/-- One row's step, entry by entry, in a chunk of 256 columns. -/
theorem rowStep256_apply (q : Vec Ideal S128x96 .fp8e4m3) (len : Vec Ideal S1x256 .i32) (s0 : Vec Ideal S1x256 .f32)
    (d0 : Vec Ideal S96x256 .fp8e4m3) (acc : FVec Ideal S128x256 .f32) (b : BitVec 32) (dj : Vec Ideal S1x96x256 .fp8e4m3)
    (sj : Vec Ideal S1x256 .f32) (r : Fin 128) (j : Fin 256) :
    rowStep256 q len s0 d0 acc b dj sj (ix2 r j)
      = max (acc (ix2 r j)) ((∑ k : Fin 96, q (ix2 r k) * (if hasTok b (len (ix2 0 j)) then dj (ix3 0 k j) else d0 (ix2 k j)))
          * (if hasTok b (len (ix2 0 j)) then sj (ix2 0 j) else s0 (ix2 0 j))) := by
  have hv : valid256 len b (ix2 0 j) = BitVec.ofBool (b.slt (IntOp.minsi (len (ix2 0 j)) 300#32)) := by
    show BitVec.ofBool (b.slt (IntOp.minsi (shapeCast S1x256 len shapeCasts_S1x256_S1x256 (ix2 0 j)) 300#32)) = _
    rw [shapeCast_self]
  have hc : ∀ k : Fin 96, codes256 len d0 b dj (ix2 k j)
      = if hasTok b (len (ix2 0 j)) then dj (ix3 0 k j) else d0 (ix2 k j) := by
    intro k
    show Scalar.select (broadcastTo S96x256 (shapeCast S1x256 (valid256 len b) shapeCasts_S1x256_S1x256) broadcasts_S1x256_S96x256 (ix2 k j))
      (shapeCast S96x256 dj shapeCasts_S1x96x256_S96x256 (ix2 k j)) (d0 (ix2 k j)) = _
    rw [shapeCast_self, broadcastTo_1b_ab_apply, shapeCast_1ab_ab_apply, hv, select_ofBool]
    rfl
  have hs : broadcastTo S128x256 (scales256 len s0 b sj) broadcasts_S1x256_S128x256 (ix2 r j)
      = if hasTok b (len (ix2 0 j)) then sj (ix2 0 j) else s0 (ix2 0 j) := by
    rw [broadcastTo_1b_ab_apply]
    show Scalar.select (valid256 len b (ix2 0 j)) (shapeCast S1x256 sj shapeCasts_S1x256_S1x256 (ix2 0 j)) (s0 (ix2 0 j)) = _
    rw [shapeCast_self, hv, select_ofBool]
    rfl
  have hd : dot_S128x96_S96x256_S128x256_1_0_0_1_n_n = DotDims.plain 128 96 256 := rfl
  have hm : FloatOps.matmul (φ₁ := .fp8e4m3) dot_S128x96_S96x256_S128x256_1_0_0_1_n_n none q (codes256 len d0 b dj) (constant S128x256 .f32 0x00000000#32) (ix2 r j)
      = ∑ k : Fin 96, q (ix2 r k) * codes256 len d0 b dj (ix2 k j) := by
    rw [hd, Ideal.matmul_plain_apply]
    show Ideal.ofBits .f32 0x00000000#32 + _ = _
    rw [Ideal.ofBits_zero_f32, zero_add]
  show max (acc (ix2 r j)) (FloatOps.matmul (φ₁ := .fp8e4m3) dot_S128x96_S96x256_S128x256_1_0_0_1_n_n none q (codes256 len d0 b dj) (constant S128x256 .f32 0x00000000#32) (ix2 r j)
    * broadcastTo S128x256 (scales256 len s0 b sj) broadcasts_S1x256_S128x256 (ix2 r j)) = _
  rw [hm, hs]
  simp only [hc]

/-- What a grid point stores for a chunk of 256 columns from column `o`, entry by entry. -/
theorem chunk256_apply (i : grid0.Coords) (q : Vec Ideal S128x96 .fp8e4m3) (len : Vec Ideal S1x800 .i32) (s0 : Vec Ideal S1x800 .f32)
    (d0 : Vec Ideal S96x800 .fp8e4m3) (x2 : Vec Ideal S40x96x800 .fp8e4m3) (x3 : Vec Ideal S40x800 .f32) (acc : Vec Ideal S128x800 .f32)
    (o : ℕ) (ho : o + 256 ≤ 800) (hl : ∀ a, ![0, o] a + S1x256.size a ≤ S1x800.size a) (hd : ∀ a, ![0, o] a + S96x256.size a ≤ S96x800.size a)
    (ha : ∀ a, ![0, o] a + S128x256.size a ≤ S128x800.size a) (y : S128x256.Idx) :
    chunk256 i q (View.ld len (Rect.unit (s := S1x800) ![0, o] S1x256.size hl)) (View.ld s0 (Rect.unit (s := S1x800) ![0, o] S1x256.size hl))
        (View.ld d0 (Rect.unit (s := S96x800) ![0, o] S96x256.size hd)) (ldD256 x2 o ho) (ldS256 x3 o ho)
        (View.ld acc (Rect.unit (s := S128x800) ![0, o] S128x256.size ha)) y
      = rowsE i q len s0 d0 x2 x3 acc ((Rect.unit (s := S128x800) ![0, o] S128x256.size ha).emb y 0)
          ((Rect.unit (s := S128x800) ![0, o] S128x256.size ha).emb y 1) 40 := by
  have key : ∀ (r : Fin 128) (j : Fin 256) (n : ℕ),
      rows256 i q (View.ld len (Rect.unit (s := S1x800) ![0, o] S1x256.size hl)) (View.ld s0 (Rect.unit (s := S1x800) ![0, o] S1x256.size hl))
        (View.ld d0 (Rect.unit (s := S96x800) ![0, o] S96x256.size hd)) (ldD256 x2 o ho) (ldS256 x3 o ho)
        (View.ld acc (Rect.unit (s := S128x800) ![0, o] S128x256.size ha)) n (ix2 r j)
      = rowsE i q len s0 d0 x2 x3 acc r ⟨o + j.val, by have := j.isLt; omega⟩ n := by
    intro r j n
    have e1 : (Rect.unit (s := S1x800) ![0, o] S1x256.size hl).emb (ix2 0 j) = ix2 (0 : Fin 1) (⟨o + j.val, by have := j.isLt; omega⟩ : Fin 800) := by
      funext a; apply Fin.ext
      match a with
      | 0 => rfl
      | 1 => show o + 1 * j.val = o + j.val; omega
    have e2 : ∀ k : Fin 96, (Rect.unit (s := S96x800) ![0, o] S96x256.size hd).emb (ix2 k j) = ix2 k (⟨o + j.val, by have := j.isLt; omega⟩ : Fin 800) := by
      intro k; funext a; apply Fin.ext
      match a with
      | 0 => show 0 + 1 * k.val = k.val; omega
      | 1 => show o + 1 * j.val = o + j.val; omega
    have e3 : (Rect.unit (s := S128x800) ![0, o] S128x256.size ha).emb (ix2 r j) = ix2 r (⟨o + j.val, by have := j.isLt; omega⟩ : Fin 800) := by
      funext a; apply Fin.ext
      match a with
      | 0 => show 0 + 1 * r.val = r.val; omega
      | 1 => show o + 1 * j.val = o + j.val; omega
    induction n with
    | zero => exact congrArg acc e3
    | succ n ih =>
      show rowStep256 q _ _ _ (rows256 i q _ _ _ _ _ _ n) (rowAt i n) (ldD256 x2 o ho n) (ldS256 x3 o ho n) (ix2 r j) = _
      rw [rowStep256_apply, ih]
      have f1 : View.ld len (Rect.unit (s := S1x800) ![0, o] S1x256.size hl) (ix2 0 j) = len (ix2 0 ⟨o + j.val, by have := j.isLt; omega⟩) := congrArg len e1
      have f2 : View.ld s0 (Rect.unit (s := S1x800) ![0, o] S1x256.size hl) (ix2 0 j) = s0 (ix2 0 ⟨o + j.val, by have := j.isLt; omega⟩) := congrArg s0 e1
      have f3 : ∀ k : Fin 96, View.ld d0 (Rect.unit (s := S96x800) ![0, o] S96x256.size hd) (ix2 k j) = d0 (ix2 k ⟨o + j.val, by have := j.isLt; omega⟩) :=
        fun k => congrArg d0 (e2 k)
      have f4 : ∀ k : Fin 96, ldD256 x2 o ho n (ix3 0 k j) = x2 (ix3 ⟨n % 40, Nat.mod_lt n (by decide)⟩ k ⟨o + j.val, by have := j.isLt; omega⟩) := by
        intro k; refine congrArg x2 ?_
        funext a; apply Fin.ext
        match a with
        | 0 => rfl
        | 1 => show 0 + 1 * k.val = k.val; omega
        | 2 => show o + 1 * j.val = o + j.val; omega
      have f5 : ldS256 x3 o ho n (ix2 0 j) = x3 (ix2 ⟨n % 40, Nat.mod_lt n (by decide)⟩ ⟨o + j.val, by have := j.isLt; omega⟩) := by
        refine congrArg x3 ?_
        funext a; apply Fin.ext
        match a with
        | 0 => rfl
        | 1 => show o + 1 * j.val = o + j.val; omega
      simp only [f1, f2, f3, f4, f5]
      rfl
  have hy : y = ix2 (y 0) (y 1) := eq_ix2 y
  have er : (Rect.unit (s := S128x800) ![0, o] S128x256.size ha).emb y 0 = (y 0 : Fin 128) := Fin.ext (by show 0 + 1 * (y 0).val = (y 0).val; omega)
  have ej : (Rect.unit (s := S128x800) ![0, o] S128x256.size ha).emb y 1 = (⟨o + (y 1).val, by have : (y 1).val < 256 := (y 1).isLt; omega⟩ : Fin 800) :=
    Fin.ext (by show o + 1 * (y 1).val = o + (y 1).val; omega)
  unfold chunk256
  rw [shapeCast_self, er, ej]
  conv_lhs => rw [hy]
  exact key (y 0) (y 1) 40

/-- One row's step, entry by entry, in a chunk of 32 columns. -/
theorem rowStep32_apply (q : Vec Ideal S128x96 .fp8e4m3) (len : Vec Ideal S1x32 .i32) (s0 : Vec Ideal S1x32 .f32)
    (d0 : Vec Ideal S96x32 .fp8e4m3) (acc : FVec Ideal S128x32 .f32) (b : BitVec 32) (dj : Vec Ideal S1x96x32 .fp8e4m3)
    (sj : Vec Ideal S1x32 .f32) (r : Fin 128) (j : Fin 32) :
    rowStep32 q len s0 d0 acc b dj sj (ix2 r j)
      = max (acc (ix2 r j)) ((∑ k : Fin 96, q (ix2 r k) * (if hasTok b (len (ix2 0 j)) then dj (ix3 0 k j) else d0 (ix2 k j)))
          * (if hasTok b (len (ix2 0 j)) then sj (ix2 0 j) else s0 (ix2 0 j))) := by
  have hv : valid32 len b (ix2 0 j) = BitVec.ofBool (b.slt (IntOp.minsi (len (ix2 0 j)) 300#32)) := by
    show BitVec.ofBool (b.slt (IntOp.minsi (shapeCast S1x32 len shapeCasts_S1x32_S1x32 (ix2 0 j)) 300#32)) = _
    rw [shapeCast_self]
  have hc : ∀ k : Fin 96, codes32 len d0 b dj (ix2 k j)
      = if hasTok b (len (ix2 0 j)) then dj (ix3 0 k j) else d0 (ix2 k j) := by
    intro k
    show Scalar.select (broadcastTo S96x32 (shapeCast S1x32 (valid32 len b) shapeCasts_S1x32_S1x32) broadcasts_S1x32_S96x32 (ix2 k j))
      (shapeCast S96x32 dj shapeCasts_S1x96x32_S96x32 (ix2 k j)) (d0 (ix2 k j)) = _
    rw [shapeCast_self, broadcastTo_1b_ab_apply, shapeCast_1ab_ab_apply, hv, select_ofBool]
    rfl
  have hs : broadcastTo S128x32 (scales32 len s0 b sj) broadcasts_S1x32_S128x32 (ix2 r j)
      = if hasTok b (len (ix2 0 j)) then sj (ix2 0 j) else s0 (ix2 0 j) := by
    rw [broadcastTo_1b_ab_apply]
    show Scalar.select (valid32 len b (ix2 0 j)) (shapeCast S1x32 sj shapeCasts_S1x32_S1x32 (ix2 0 j)) (s0 (ix2 0 j)) = _
    rw [shapeCast_self, hv, select_ofBool]
    rfl
  have hd : dot_S128x96_S96x32_S128x32_1_0_0_1_n_n = DotDims.plain 128 96 32 := rfl
  have hm : FloatOps.matmul (φ₁ := .fp8e4m3) dot_S128x96_S96x32_S128x32_1_0_0_1_n_n none q (codes32 len d0 b dj) (constant S128x32 .f32 0x00000000#32) (ix2 r j)
      = ∑ k : Fin 96, q (ix2 r k) * codes32 len d0 b dj (ix2 k j) := by
    rw [hd, Ideal.matmul_plain_apply]
    show Ideal.ofBits .f32 0x00000000#32 + _ = _
    rw [Ideal.ofBits_zero_f32, zero_add]
  show max (acc (ix2 r j)) (FloatOps.matmul (φ₁ := .fp8e4m3) dot_S128x96_S96x32_S128x32_1_0_0_1_n_n none q (codes32 len d0 b dj) (constant S128x32 .f32 0x00000000#32) (ix2 r j)
    * broadcastTo S128x32 (scales32 len s0 b sj) broadcasts_S1x32_S128x32 (ix2 r j)) = _
  rw [hm, hs]
  simp only [hc]

/-- What a grid point stores for a chunk of 32 columns from column `o`, entry by entry. -/
theorem chunk32_apply (i : grid0.Coords) (q : Vec Ideal S128x96 .fp8e4m3) (len : Vec Ideal S1x800 .i32) (s0 : Vec Ideal S1x800 .f32)
    (d0 : Vec Ideal S96x800 .fp8e4m3) (x2 : Vec Ideal S40x96x800 .fp8e4m3) (x3 : Vec Ideal S40x800 .f32) (acc : Vec Ideal S128x800 .f32)
    (o : ℕ) (ho : o + 32 ≤ 800) (hl : ∀ a, ![0, o] a + S1x32.size a ≤ S1x800.size a) (hd : ∀ a, ![0, o] a + S96x32.size a ≤ S96x800.size a)
    (ha : ∀ a, ![0, o] a + S128x32.size a ≤ S128x800.size a) (y : S128x32.Idx) :
    chunk32 i q (View.ld len (Rect.unit (s := S1x800) ![0, o] S1x32.size hl)) (View.ld s0 (Rect.unit (s := S1x800) ![0, o] S1x32.size hl))
        (View.ld d0 (Rect.unit (s := S96x800) ![0, o] S96x32.size hd)) (ldD32 x2 o ho) (ldS32 x3 o ho)
        (View.ld acc (Rect.unit (s := S128x800) ![0, o] S128x32.size ha)) y
      = rowsE i q len s0 d0 x2 x3 acc ((Rect.unit (s := S128x800) ![0, o] S128x32.size ha).emb y 0)
          ((Rect.unit (s := S128x800) ![0, o] S128x32.size ha).emb y 1) 40 := by
  have key : ∀ (r : Fin 128) (j : Fin 32) (n : ℕ),
      rows32 i q (View.ld len (Rect.unit (s := S1x800) ![0, o] S1x32.size hl)) (View.ld s0 (Rect.unit (s := S1x800) ![0, o] S1x32.size hl))
        (View.ld d0 (Rect.unit (s := S96x800) ![0, o] S96x32.size hd)) (ldD32 x2 o ho) (ldS32 x3 o ho)
        (View.ld acc (Rect.unit (s := S128x800) ![0, o] S128x32.size ha)) n (ix2 r j)
      = rowsE i q len s0 d0 x2 x3 acc r ⟨o + j.val, by have := j.isLt; omega⟩ n := by
    intro r j n
    have e1 : (Rect.unit (s := S1x800) ![0, o] S1x32.size hl).emb (ix2 0 j) = ix2 (0 : Fin 1) (⟨o + j.val, by have := j.isLt; omega⟩ : Fin 800) := by
      funext a; apply Fin.ext
      match a with
      | 0 => rfl
      | 1 => show o + 1 * j.val = o + j.val; omega
    have e2 : ∀ k : Fin 96, (Rect.unit (s := S96x800) ![0, o] S96x32.size hd).emb (ix2 k j) = ix2 k (⟨o + j.val, by have := j.isLt; omega⟩ : Fin 800) := by
      intro k; funext a; apply Fin.ext
      match a with
      | 0 => show 0 + 1 * k.val = k.val; omega
      | 1 => show o + 1 * j.val = o + j.val; omega
    have e3 : (Rect.unit (s := S128x800) ![0, o] S128x32.size ha).emb (ix2 r j) = ix2 r (⟨o + j.val, by have := j.isLt; omega⟩ : Fin 800) := by
      funext a; apply Fin.ext
      match a with
      | 0 => show 0 + 1 * r.val = r.val; omega
      | 1 => show o + 1 * j.val = o + j.val; omega
    induction n with
    | zero => exact congrArg acc e3
    | succ n ih =>
      show rowStep32 q _ _ _ (rows32 i q _ _ _ _ _ _ n) (rowAt i n) (ldD32 x2 o ho n) (ldS32 x3 o ho n) (ix2 r j) = _
      rw [rowStep32_apply, ih]
      have f1 : View.ld len (Rect.unit (s := S1x800) ![0, o] S1x32.size hl) (ix2 0 j) = len (ix2 0 ⟨o + j.val, by have := j.isLt; omega⟩) := congrArg len e1
      have f2 : View.ld s0 (Rect.unit (s := S1x800) ![0, o] S1x32.size hl) (ix2 0 j) = s0 (ix2 0 ⟨o + j.val, by have := j.isLt; omega⟩) := congrArg s0 e1
      have f3 : ∀ k : Fin 96, View.ld d0 (Rect.unit (s := S96x800) ![0, o] S96x32.size hd) (ix2 k j) = d0 (ix2 k ⟨o + j.val, by have := j.isLt; omega⟩) :=
        fun k => congrArg d0 (e2 k)
      have f4 : ∀ k : Fin 96, ldD32 x2 o ho n (ix3 0 k j) = x2 (ix3 ⟨n % 40, Nat.mod_lt n (by decide)⟩ k ⟨o + j.val, by have := j.isLt; omega⟩) := by
        intro k; refine congrArg x2 ?_
        funext a; apply Fin.ext
        match a with
        | 0 => rfl
        | 1 => show 0 + 1 * k.val = k.val; omega
        | 2 => show o + 1 * j.val = o + j.val; omega
      have f5 : ldS32 x3 o ho n (ix2 0 j) = x3 (ix2 ⟨n % 40, Nat.mod_lt n (by decide)⟩ ⟨o + j.val, by have := j.isLt; omega⟩) := by
        refine congrArg x3 ?_
        funext a; apply Fin.ext
        match a with
        | 0 => rfl
        | 1 => show o + 1 * j.val = o + j.val; omega
      simp only [f1, f2, f3, f4, f5]
      rfl
  have hy : y = ix2 (y 0) (y 1) := eq_ix2 y
  have er : (Rect.unit (s := S128x800) ![0, o] S128x32.size ha).emb y 0 = (y 0 : Fin 128) := Fin.ext (by show 0 + 1 * (y 0).val = (y 0).val; omega)
  have ej : (Rect.unit (s := S128x800) ![0, o] S128x32.size ha).emb y 1 = (⟨o + (y 1).val, by have : (y 1).val < 32 := (y 1).isLt; omega⟩ : Fin 800) :=
    Fin.ext (by show o + 1 * (y 1).val = o + (y 1).val; omega)
  unfold chunk32
  rw [shapeCast_self, er, ej]
  conv_lhs => rw [hy]
  exact key (y 0) (y 1) 40

/-- A grid point's running maximum, entry by entry. -/
theorem accStep_apply (i : grid0.Coords) (q : Vec Ideal S128x96 .fp8e4m3) (len : Vec Ideal S1x800 .i32) (s0 : Vec Ideal S1x800 .f32)
    (d0 : Vec Ideal S96x800 .fp8e4m3) (x2 : Vec Ideal S40x96x800 .fp8e4m3) (x3 : Vec Ideal S40x800 .f32) (acc : Vec Ideal S128x800 .f32)
    (r : Fin 128) (j : Fin 800) :
    accStep i q len s0 d0 x2 x3 acc (ix2 r j) = rowsE i q len s0 d0 x2 x3 acc r j 40 := by
  unfold accStep
  refine View.canon_apply_of_pieces (fun y => rowsE i q len s0 d0 x2 x3 acc (y 0) (y 1) 40) (stepPieces i q len s0 d0 x2 x3 acc)
    (fun p hp => ?_) (ix2 r j) (stepPieces_cover i q len s0 d0 x2 x3 acc (ix2 r j))
  unfold stepPieces at hp
  simp only [List.mem_cons, List.mem_nil_iff, or_false] at hp
  rcases hp with rfl | rfl | rfl | rfl
  · exact fun x => chunk32_apply i q len s0 d0 x2 x3 acc 768 _ _ _ _ x
  · exact fun x => chunk256_apply i q len s0 d0 x2 x3 acc 512 _ _ _ _ x
  · exact fun x => chunk256_apply i q len s0 d0 x2 x3 acc 256 _ _ _ _ x
  · exact fun x => chunk256_apply i q len s0 d0 x2 x3 acc 0 _ _ _ _ x

end Cert.KernelIdeal.Gen
-- ==== Proof.IdealBlocks.lean ====
/- The blocks the kernel reads, as entries of the arguments: the codes and the scales of the documents come transposed,
   forty positions at a point; every other argument is one block, the whole of it. -/
module

public import proofs.«01_k».proof.Proof.IdealFrame
public import proofs.«01_k».proof.Proof.IdealStep

@[expose] public section

set_option maxRecDepth 16384

noncomputable section

namespace Cert.KernelIdeal.Gen

open Idealize.ShloMosaic Idealize.ShloMosaic.TcCoe Idealize.ShloMosaic.Tactic
open Idealize.ShloMosaic.Rounds Idealize.ShloMosaic.ValueIdx
open Idealize.ShloMosaic.Pipeline (Window)

variable {F : FTy → Type} [FloatOps F]
variable (m : (ℓ : Loc nD τ sig) → Buf (Elt F) ℓ)

/-- The queries' codes. -/
abbrev aQ (c : Dev nD) : Vec F S4x32x96 .fp8e4m3 := m ((c : Thread nD τ).loc main_arg0)
/-- The queries' scales. -/
abbrev aQs (c : Dev nD) : Vec F S4x32 .f32 := m ((c : Thread nD τ).loc main_arg1)
/-- The documents' codes. -/
abbrev aD (c : Dev nD) : Vec F S800x300x96 .fp8e4m3 := m ((c : Thread nD τ).loc main_arg2)
/-- The documents' scales. -/
abbrev aDs (c : Dev nD) : Vec F S800x300 .f32 := m ((c : Thread nD τ).loc main_arg3)
/-- The documents' lengths. -/
abbrev aLen (c : Dev nD) : Vec F S800 .i32 := m ((c : Thread nD τ).loc main_arg4)
/-- The positive documents' places. -/
abbrev aPos (c : Dev nD) : Vec F S4 .i32 := m ((c : Thread nD τ).loc main_arg5)
/-- The teacher's logits. -/
abbrev aTe (c : Dev nD) : Vec F S4x200 .f32 := m ((c : Thread nD τ).loc main_arg6)

/-! ## The arrays as the kernel finds them -/

theorem V_codes (c : Dev nD) : V m c main_v0 = transpose S300x96x800 [1, 2, 0] (aD m c) transposes_S800x300x96_S300x96x800_1_2_0 := rfl
theorem V_scales (c : Dev nD) : V m c main_v1 = transpose S300x800 [1, 0] (aDs m c) transposes_S800x300_S300x800_1_0 := rfl
theorem V_len (c : Dev nD) : V m c main_v2 = shapeCast S1x800 (aLen m c) shapeCasts_S800_S1x800 := rfl

/-! ## The blocks that are whole arrays -/

theorem iblk_q (c : Dev nD) (t : Fin cfg0.N) : iblk m c 0 t = aQ m c := by
  refine Eq.trans (funext fun y => ?_) (V_main_arg0 m c)
  refine congrArg (V m c main_arg0) (funext fun a => Fin.ext ?_)
  have e : ∀ a, win0_0.index t a * win0_0.size a = 0 := by
    rcases fin_N0 t with rfl | rfl | rfl | rfl | rfl | rfl | rfl | rfl <;> decide
  show win0_0.index t a * win0_0.size a + 1 * (y a).val = (y a).val
  rw [e a]; omega

theorem iblk_qs (c : Dev nD) (t : Fin cfg0.N) : iblk m c 1 t = aQs m c := by
  refine Eq.trans (funext fun y => ?_) (V_main_arg1 m c)
  refine congrArg (V m c main_arg1) (funext fun a => Fin.ext ?_)
  have e : ∀ a, win0_1.index t a * win0_1.size a = 0 := by
    rcases fin_N0 t with rfl | rfl | rfl | rfl | rfl | rfl | rfl | rfl <;> decide
  show win0_1.index t a * win0_1.size a + 1 * (y a).val = (y a).val
  rw [e a]; omega

theorem iblk_len (c : Dev nD) (t : Fin cfg0.N) : iblk m c 4 t = shapeCast S1x800 (aLen m c) shapeCasts_S800_S1x800 := by
  refine Eq.trans (funext fun y => ?_) (V_len m c)
  refine congrArg (V m c main_v2) (funext fun a => Fin.ext ?_)
  have e : ∀ a, win0_4.index t a * win0_4.size a = 0 := by
    rcases fin_N0 t with rfl | rfl | rfl | rfl | rfl | rfl | rfl | rfl <;> decide
  show win0_4.index t a * win0_4.size a + 1 * (y a).val = (y a).val
  rw [e a]; omega

theorem iblk_pos (c : Dev nD) (t : Fin cfg0.N) : iblk m c 5 t = aPos m c := by
  refine Eq.trans (funext fun y => ?_) (V_main_arg5 m c)
  refine congrArg (V m c main_arg5) (funext fun a => Fin.ext ?_)
  have e : ∀ a, win0_5.index t a * win0_5.size a = 0 := by
    rcases fin_N0 t with rfl | rfl | rfl | rfl | rfl | rfl | rfl | rfl <;> decide
  show win0_5.index t a * win0_5.size a + 1 * (y a).val = (y a).val
  rw [e a]; omega

theorem iblk_te (c : Dev nD) (t : Fin cfg0.N) : iblk m c 6 t = aTe m c := by
  refine Eq.trans (funext fun y => ?_) (V_main_arg6 m c)
  refine congrArg (V m c main_arg6) (funext fun a => Fin.ext ?_)
  have e : ∀ a, win0_6.index t a * win0_6.size a = 0 := by
    rcases fin_N0 t with rfl | rfl | rfl | rfl | rfl | rfl | rfl | rfl <;> decide
  show win0_6.index t a * win0_6.size a + 1 * (y a).val = (y a).val
  rw [e a]; omega

theorem len_apply (c : Dev nD) (t : Fin cfg0.N) (j : Fin 800) : (iblk m c 4 t : Vec F S1x800 .i32) (ix2 (0 : Fin 1) j) = aLen m c (ix1 j) := by
  rw [iblk_len, shapeCast_a_1a_apply]

/-! ## The documents' codes and scales -/

theorem xin2_apply (c : Dev nD) (t : Fin cfg0.N) (n : Fin 40) (k : Fin 96) (j : Fin 800) (h : 40 * t.val + n.val < 300) :
    xin2 m c t (ix3 n k j) = aD m c (ix3 j (⟨40 * t.val + n.val, h⟩ : Fin 300) k) := by
  have h' : 40 * ((grid0.coords t) 0).val + ((ix3 n k j : S40x96x800.Idx) 0).val < 300 := by rw [coords_val]; exact h
  have e : win0_2.index t 0 * win0_2.size 0 = 40 * t.val ∧ win0_2.index t 1 * win0_2.size 1 = 0 ∧ win0_2.index t 2 * win0_2.size 2 = 0 := by
    rcases fin_N0 t with rfl | rfl | rfl | rfl | rfl | rfl | rfl | rfl <;> decide
  unfold xin2 Window.fill
  rw [dif_pos (moved2 t _ h')]
  have s1 : ∀ y, iblk m c 2 t y = V m c main_v0 ((win0_2.rect t).emb y) := fun y => rfl
  rw [s1, V_codes]
  refine transpose_apply (t := S300x96x800) _ (aD m c) _ _ _ fun a => ?_
  match a with
  | ⟨0, _⟩ => show 40 * t.val + n.val = win0_2.index t 0 * win0_2.size 0 + 1 * n.val; rw [e.1]; omega
  | ⟨1, _⟩ => show k.val = win0_2.index t 1 * win0_2.size 1 + 1 * k.val; rw [e.2.1]; omega
  | ⟨2, _⟩ => show j.val = win0_2.index t 2 * win0_2.size 2 + 1 * j.val; rw [e.2.2]; omega

theorem xin3_apply (c : Dev nD) (t : Fin cfg0.N) (n : Fin 40) (j : Fin 800) (h : 40 * t.val + n.val < 300) :
    xin3 m c t (ix2 n j) = aDs m c (ix2 j (⟨40 * t.val + n.val, h⟩ : Fin 300)) := by
  have h' : 40 * ((grid0.coords t) 0).val + ((ix2 n j : S40x800.Idx) 0).val < 300 := by rw [coords_val]; exact h
  have e : win0_3.index t 0 * win0_3.size 0 = 40 * t.val ∧ win0_3.index t 1 * win0_3.size 1 = 0 := by
    rcases fin_N0 t with rfl | rfl | rfl | rfl | rfl | rfl | rfl | rfl <;> decide
  unfold xin3 Window.fill
  rw [dif_pos (moved3 t _ h')]
  have s1 : ∀ y, iblk m c 3 t y = V m c main_v1 ((win0_3.rect t).emb y) := fun y => rfl
  rw [s1, V_scales]
  refine transpose_apply (t := S300x800) _ (aDs m c) _ _ _ fun a => ?_
  match a with
  | ⟨0, _⟩ => show 40 * t.val + n.val = win0_3.index t 0 * win0_3.size 0 + 1 * n.val; rw [e.1]; omega
  | ⟨1, _⟩ => show j.val = win0_3.index t 1 * win0_3.size 1 + 1 * j.val; rw [e.2]; omega

/-! ## What the first point keeps -/

theorem off3 : (![0, 0, 0] : Fin 3 → ℕ) = fun _ => 0 := by funext a; match a with | 0 => rfl | 1 => rfl | 2 => rfl

theorem d0Kept_apply (c : Dev nD) (k : Fin 96) (j : Fin 800) : d0Kept m c (ix2 k j) = aD m c (ix3 j (0 : Fin 300) k) := by
  unfold d0Kept d0Init d0Pieces
  rw [View.canon_unit_zero off2]
  unfold k0_pay8
  dsimp only
  rw [shapeCast_self, shapeCast_1ab_ab_apply]
  refine Eq.trans ?_ (xin2_apply m c tz (0 : Fin 40) k j (by decide))
  refine congrArg (xin2 m c tz) (funext fun a => Fin.ext ?_)
  match a with
  | 0 => rfl
  | 1 => show 0 + 1 * k.val = k.val; omega
  | 2 => show 0 + 1 * j.val = j.val; omega

theorem s0Kept_apply (c : Dev nD) (j : Fin 800) : s0Kept m c (ix2 (0 : Fin 1) j) = aDs m c (ix2 j (0 : Fin 300)) := by
  unfold s0Kept s0Init s0Pieces
  rw [View.canon_unit_zero off2]
  unfold k0_pay9
  dsimp only
  rw [shapeCast_self, shapeCast_self]
  refine Eq.trans ?_ (xin3_apply m c tz (0 : Fin 40) j (by decide))
  refine congrArg (xin3 m c tz) (funext fun a => Fin.ext ?_)
  match a with
  | 0 => rfl
  | 1 => show 0 + 1 * j.val = j.val; omega

end Cert.KernelIdeal.Gen
-- ==== Proof.IdealQuery.lean ====
/- The queries' codes as the first point keeps them: where no scale is negative every sign is one, and they are the
   argument's codes, the four queries' rows one below another. -/
module

public import proofs.«01_k».proof.Proof.IdealBlocks
public import Idealize.ShloMosaic.Lib.IdealHost

@[expose] public section

set_option maxRecDepth 16384

noncomputable section

namespace Cert.KernelIdeal.Gen

open Idealize.ShloMosaic Idealize.ShloMosaic.TcCoe Idealize.ShloMosaic.Tactic
open Idealize.ShloMosaic.Rounds Idealize.ShloMosaic.ValueIdx

/-- The word of one is one. -/
theorem one_word : Ideal.ofBits .f32 0x3F800000#32 = 1 := Ideal.ofBits_one_f32
/-- The word of minus infinity is the least value. -/
theorem bot_word : Ideal.ofBits .f32 0xFF800000#32 = ⊥ := by simp [Ideal.ofBits, Ideal.ieee]
/-- The word of infinity is the greatest value. -/
theorem top_word : Ideal.ofBits .f32 0x7F800000#32 = ⊤ := by simp [Ideal.ofBits, Ideal.ieee]

/-- The signs of scales none of which is negative are one. -/
theorem signs_one (x : FVec Ideal S32x1 .f32) (hx : ∀ y, (0 : EReal) ≤ x y) :
    select (cmpf .olt x (broadcast S32x1 (Ideal.ofBits .f32 0x00000000#32 : Ideal .f32))) (broadcast S32x1 (Ideal.ofBits .f32 0xBF800000#32 : Ideal .f32))
      (broadcast S32x1 (Ideal.ofBits .f32 0x3F800000#32 : Ideal .f32)) = fun _ => (1 : EReal) := by
  funext y
  show Scalar.select (BitVec.ofBool (decide (x y < Ideal.ofBits .f32 0x00000000#32))) (Ideal.ofBits .f32 0xBF800000#32) (Ideal.ofBits .f32 0x3F800000#32) = (1 : EReal)
  rw [select_ofBool, if_neg, one_word]
  rw [Ideal.ofBits_zero_f32, decide_eq_true_iff]
  exact not_lt.mpr (hx y)

/-- Codes times signs that are all one. -/
theorem times_one (q : Vec Ideal S1x32x96 .fp8e4m3) (r : Fin 32) (k : Fin 96) :
    (shapeCast S32x96 (truncf .fp8e4m3 (mulf (extf .f32 (shapeCast S32x96 q shapeCasts_S1x32x96_S32x96) bitsLt_fp8e4m3_f32)
      (broadcastTo S32x96 (fun _ => (1 : EReal) : FVec Ideal S32x1 .f32) broadcasts_S32x1_S32x96)) bitsLt_fp8e4m3_f32 : FVec Ideal S32x96 .fp8e4m3)
      shapeCasts_S32x96_S32x96) (ix2 r k) = q (ix3 (0 : Fin 1) r k) := by
  rw [shapeCast_self]
  show (shapeCast S32x96 q shapeCasts_S1x32x96_S32x96 (ix2 r k) : EReal) * (1 : EReal) = _
  rw [mul_one, shapeCast_1ab_ab_apply]

variable (qs : Vec Ideal S4x32 .f32) (hq : ∀ y, (0 : EReal) ≤ qs y) (q : Vec Ideal S1x32x96 .fp8e4m3) (r : Fin 32) (k : Fin 96)
include hq

theorem query0 : k0_pay12 qs q (ix2 r k) = q (ix3 (0 : Fin 1) r k) := by
  unfold k0_pay12 k0_pay11
  refine Eq.trans ?_ (times_one q r k)
  rw [← signs_one (extractStridedSlice S32x1 ![0, 0] (transpose S32x4 [1, 0] qs transposes_S4x32_p1_0_S32x4) slices_S32x4_o0_0_S32x1) (fun y => hq _)]
  rfl

theorem query1 : k0_pay15 (k0_pay13 qs) k0_pay14 q (ix2 r k) = q (ix3 (0 : Fin 1) r k) := by
  unfold k0_pay15 k0_pay13 k0_pay14 k0_pay11
  refine Eq.trans ?_ (times_one q r k)
  rw [← signs_one (extractStridedSlice S32x1 ![0, 1] (transpose S32x4 [1, 0] qs transposes_S4x32_p1_0_S32x4) slices_S32x4_o0_1_S32x1) (fun y => hq _)]
  rfl

theorem query2 : k0_pay16 (k0_pay11 qs) q (ix2 r k) = q (ix3 (0 : Fin 1) r k) := by
  unfold k0_pay16 k0_pay11
  refine Eq.trans ?_ (times_one q r k)
  rw [← signs_one (extractStridedSlice S32x1 ![0, 2] (transpose S32x4 [1, 0] qs transposes_S4x32_p1_0_S32x4) slices_S32x4_o0_2_S32x1) (fun y => hq _)]
  rfl

theorem query3 : k0_pay44 (k0_pay17 (k0_pay11 qs)) (k0_pay18 q) (ix2 r k) = q (ix3 (0 : Fin 1) r k) := by
  unfold k0_pay44 k0_pay17 k0_pay18 k0_pay11
  refine Eq.trans ?_ (times_one q r k)
  rw [← signs_one (extractStridedSlice S32x1 ![0, 3] (transpose S32x4 [1, 0] qs transposes_S4x32_p1_0_S32x4) slices_S32x4_o0_3_S32x1) (fun y => hq _)]
  rfl

omit hq in
/-- Row `r` of the kept codes is row `r % 32` of query `r / 32`. -/
theorem qInit_apply (x0 : Vec Ideal S4x32x96 .fp8e4m3) (x1 : Vec Ideal S4x32 .f32) (h1 : ∀ y, (0 : EReal) ≤ x1 y) (b : Fin 4) (r : Fin 32)
    (k : Fin 96) : qInit x0 x1 (ix2 (⟨32 * b.val + r.val, by have := b.isLt; have := r.isLt; omega⟩ : Fin 128) k) = x0 (ix3 b r k) := by
  unfold qInit
  rw [whole_scale]
  have hG := View.canon_apply_of_pieces (Val := Elt Ideal) (e := .fp8e4m3)
    (fun y : S128x96.Idx => x0 (ix3 (⟨(y 0).val / 32, by have : (y 0).val < 128 := (y 0).isLt; omega⟩ : Fin 4)
      (⟨(y 0).val % 32, Nat.mod_lt _ (by decide)⟩ : Fin 32) (y 1 : Fin 96))) (qPieces (qRow x0) x1) (fun p hp => ?_)
    (ix2 (⟨32 * b.val + r.val, by have := b.isLt; have := r.isLt; omega⟩ : Fin 128) k) (qPieces_cover (qRow x0) x1 _)
  · refine hG.trans (congrArg x0 ?_)
    have hr := r.isLt
    funext a; apply Fin.ext
    match a with
    | 0 => show (32 * b.val + r.val) / 32 = b.val; omega
    | 1 => show (32 * b.val + r.val) % 32 = r.val; omega
    | 2 => rfl
  · unfold qPieces at hp
    simp only [List.mem_cons, List.mem_nil_iff, or_false] at hp
    rcases hp with rfl | rfl | rfl | rfl
    · intro x
      have hx : x = ix2 (x 0) (x 1) := eq_ix2 x
      have h0 : (x 0).val < 32 := (x 0).isLt
      refine Eq.trans (congrArg _ hx) ((query3 x1 h1 (qRow x0 3) (x 0) (x 1)).trans (congrArg x0 ?_))
      funext a; apply Fin.ext
      match a with
      | 0 => show 3 + 1 * 0 = (96 + 1 * (x 0).val) / 32; omega
      | 1 => show 0 + 1 * (x 0).val = (96 + 1 * (x 0).val) % 32; omega
      | 2 => rfl
    · intro x
      have hx : x = ix2 (x 0) (x 1) := eq_ix2 x
      have h0 : (x 0).val < 32 := (x 0).isLt
      refine Eq.trans (congrArg _ hx) ((query2 x1 h1 (qRow x0 2) (x 0) (x 1)).trans (congrArg x0 ?_))
      funext a; apply Fin.ext
      match a with
      | 0 => show 2 + 1 * 0 = (64 + 1 * (x 0).val) / 32; omega
      | 1 => show 0 + 1 * (x 0).val = (64 + 1 * (x 0).val) % 32; omega
      | 2 => rfl
    · intro x
      have hx : x = ix2 (x 0) (x 1) := eq_ix2 x
      have h0 : (x 0).val < 32 := (x 0).isLt
      refine Eq.trans (congrArg _ hx) ((query1 x1 h1 (qRow x0 1) (x 0) (x 1)).trans (congrArg x0 ?_))
      funext a; apply Fin.ext
      match a with
      | 0 => show 1 + 1 * 0 = (32 + 1 * (x 0).val) / 32; omega
      | 1 => show 0 + 1 * (x 0).val = (32 + 1 * (x 0).val) % 32; omega
      | 2 => rfl
    · intro x
      have hx : x = ix2 (x 0) (x 1) := eq_ix2 x
      have h0 : (x 0).val < 32 := (x 0).isLt
      refine Eq.trans (congrArg _ hx) ((query0 x1 h1 (qRow x0 0) (x 0) (x 1)).trans (congrArg x0 ?_))
      funext a; apply Fin.ext
      match a with
      | 0 => show 0 + 1 * 0 = (0 + 1 * (x 0).val) / 32; omega
      | 1 => show 0 + 1 * (x 0).val = (0 + 1 * (x 0).val) % 32; omega
      | 2 => rfl

end Cert.KernelIdeal.Gen
-- ==== Proof.IdealMax.lean ====
/- The running maximum after the last point: for a document with tokens, the greatest similarity among them. -/
module

public import proofs.«01_k».proof.Proof.IdealQuery

@[expose] public section

set_option maxRecDepth 16384

noncomputable section

namespace Cert.KernelIdeal.Gen

open Idealize.ShloMosaic Idealize.ShloMosaic.TcCoe Idealize.ShloMosaic.Tactic
open Idealize.ShloMosaic.Rounds Idealize.ShloMosaic.ValueIdx

variable (m : (ℓ : Loc nD τ sig) → Buf (Elt Ideal) ℓ)

/-- The similarity of token `s` of document `j` to token `r` of query `b`, before the query's scale. -/
def sim (c : Dev nD) (b : Fin 4) (r : Fin 32) (j : Fin 800) (s : Fin 300) : EReal :=
  (∑ k : Fin 96, aQ m c (ix3 b r k) * aD m c (ix3 j s k)) * aDs m c (ix2 j s)

/-- Document `j`'s length. -/
def lenAt (c : Dev nD) (j : Fin 800) : ℤ := (aLen m c (ix1 j)).toInt

/-- The row of the running maximum that belongs to token `r` of query `b`. -/
def row (b : Fin 4) (r : Fin 32) : Fin 128 := ⟨32 * b.val + r.val, by have := b.isLt; have := r.isLt; omega⟩

/-- Position `p` of document `j`, or position 0 where the document has no token there. -/
def place (c : Dev nD) (j : Fin 800) (p : ℕ) : Fin 300 :=
  if h : p < 300 ∧ (p : ℤ) < lenAt m c j then ⟨p, h.1⟩ else ⟨0, by decide⟩

/-- The term of a grid point's row `n`. -/
theorem term_eq (c : Dev nD) (hq : ∀ y, (0 : EReal) ≤ aQs m c y) (b : Fin 4) (r : Fin 32) (j : Fin 800) (t : Fin cfg0.N) (n : ℕ) (hn : n < 40) :
    termE (qKept m c) (iblk m c 4 t) (s0Kept m c) (d0Kept m c) (rowAt (grid0.coords t) n)
        (fun k => xin2 m c t (ix3 ⟨n % 40, Nat.mod_lt n (by decide)⟩ k j)) (xin3 m c t (ix2 ⟨n % 40, Nat.mod_lt n (by decide)⟩ j)) (row b r) j
      = sim m c b r j (place m c j (40 * t.val + n)) := by
  have hmod : n % 40 = n := Nat.mod_eq_of_lt hn
  have hQ : ∀ k : Fin 96, qKept m c (ix2 (row b r) k) = aQ m c (ix3 b r k) := by
    intro k
    unfold qKept
    rw [iblk_q, iblk_qs]
    exact qInit_apply (aQ m c) (aQs m c) hq b r k
  have hv : hasTok (rowAt (grid0.coords t) n) ((iblk m c 4 t : Vec Ideal S1x800 .i32) (ix2 (0 : Fin 1) j))
      ↔ (40 * t.val + n < 300 ∧ ((40 * t.val + n : ℕ) : ℤ) < lenAt m c j) := by
    unfold hasTok lenAt
    rw [len_apply, slt_min_iff, rowAt_toInt _ hn, coords_val]
    push_cast
    omega
  unfold termE sim place
  by_cases h : 40 * t.val + n < 300 ∧ ((40 * t.val + n : ℕ) : ℤ) < lenAt m c j
  · simp only [if_pos (hv.mpr h), dif_pos h, hQ]
    have e2 : ∀ k : Fin 96, xin2 m c t (ix3 ⟨n % 40, Nat.mod_lt n (by decide)⟩ k j) = aD m c (ix3 j (⟨40 * t.val + n, h.1⟩ : Fin 300) k) := by
      intro k
      have e : (⟨n % 40, Nat.mod_lt n (by decide)⟩ : Fin 40) = ⟨n, hn⟩ := Fin.ext hmod
      rw [e]; exact xin2_apply m c t ⟨n, hn⟩ k j h.1
    have e3 : xin3 m c t (ix2 ⟨n % 40, Nat.mod_lt n (by decide)⟩ j) = aDs m c (ix2 j (⟨40 * t.val + n, h.1⟩ : Fin 300)) := by
      have e : (⟨n % 40, Nat.mod_lt n (by decide)⟩ : Fin 40) = ⟨n, hn⟩ := Fin.ext hmod
      rw [e]; exact xin3_apply m c t ⟨n, hn⟩ j h.1
    simp only [e2, e3]
  · simp only [if_neg (fun hh => h (hv.mp hh)), dif_neg h, hQ]
    have e2 : ∀ k : Fin 96, d0Kept m c (ix2 k j) = aD m c (ix3 j (⟨0, by decide⟩ : Fin 300) k) := fun k => d0Kept_apply m c k j
    have e3 : s0Kept m c (ix2 (0 : Fin 1) j) = aDs m c (ix2 j (⟨0, by decide⟩ : Fin 300)) := s0Kept_apply m c j
    simp only [e2, e3]

/-- What holds of the running maximum `x` once `p` positions are in: it bounds the similarities of the tokens among
    them, and it is one of the document's similarities, or the least value. -/
def Inv (c : Dev nD) (b : Fin 4) (r : Fin 32) (j : Fin 800) (x : EReal) (p : ℕ) : Prop :=
  (∀ s : Fin 300, s.val < p → (s.val : ℤ) < lenAt m c j → sim m c b r j s ≤ x)
    ∧ (x = ⊥ ∨ ∃ s : Fin 300, (s.val = 0 ∨ (s.val : ℤ) < lenAt m c j) ∧ x = sim m c b r j s)

theorem Inv.step {c : Dev nD} {b : Fin 4} {r : Fin 32} {j : Fin 800} {x : EReal} {p : ℕ} (h : Inv m c b r j x p) :
    Inv m c b r j (max x (sim m c b r j (place m c j p))) (p + 1) := by
  refine ⟨fun s hs hl => ?_, ?_⟩
  · by_cases hp : s.val < p
    · exact (h.1 s hp hl).trans (le_max_left _ _)
    · have e : place m c j p = s := by
        have hsp : s.val = p := by omega
        unfold place
        rw [dif_pos ⟨by have := s.isLt; omega, by rw [← hsp]; exact hl⟩]
        exact Fin.ext hsp.symm
      rw [e]; exact le_max_right _ _
  · have hs : ((place m c j p).val = 0 ∨ ((place m c j p).val : ℤ) < lenAt m c j) := by
      unfold place
      by_cases hh : p < 300 ∧ (p : ℤ) < lenAt m c j
      · rw [dif_pos hh]; exact .inr hh.2
      · rw [dif_neg hh]; exact .inl rfl
    rcases le_total x (sim m c b r j (place m c j p)) with hle | hle
    · exact .inr ⟨_, hs, max_eq_right hle⟩
    · rw [max_eq_left hle]; exact h.2

theorem Inv.rows (c : Dev nD) (hq : ∀ y, (0 : EReal) ≤ aQs m c y) (b : Fin 4) (r : Fin 32) (j : Fin 800) (t : Fin cfg0.N) (acc : Vec Ideal S128x800 .f32)
    (h : Inv m c b r j (acc (ix2 (row b r) j)) (40 * t.val)) :
    ∀ n, n ≤ 40 → Inv m c b r j (rowsE (grid0.coords t) (qKept m c) (iblk m c 4 t) (s0Kept m c) (d0Kept m c) (xin2 m c t) (xin3 m c t) acc (row b r) j n)
      (40 * t.val + n)
  | 0, _ => h
  | n + 1, hn => by
    have ih := Inv.rows c hq b r j t acc h n (by omega)
    unfold rowsE
    rw [term_eq m c hq b r j t n (by omega)]
    exact ih.step

theorem Inv.point (c : Dev nD) (hq : ∀ y, (0 : EReal) ≤ aQs m c y) (b : Fin 4) (r : Fin 32) (j : Fin 800) :
    ∀ (n : ℕ) (h : n < cfg0.N), Inv m c b r j (accAt m c n h (ix2 (row b r) j)) (40 * (n + 1))
  | 0, h => by
    rw [show accAt m c 0 h = accStep (grid0.coords ⟨0, h⟩) (qKept m c) (iblk m c 4 ⟨0, h⟩) (s0Kept m c) (d0Kept m c) (xin2 m c ⟨0, h⟩)
      (xin3 m c ⟨0, h⟩) accInit from rfl, accStep_apply]
    refine Inv.rows m c hq b r j ⟨0, h⟩ accInit ⟨fun s hs => absurd hs (Nat.not_lt_zero _), .inl ?_⟩ 40 le_rfl
    unfold accInit accPieces
    rw [View.canon_unit_zero off2]
    unfold k0_pay10
    rw [shapeCast_self]
    exact bot_word
  | n + 1, h => by
    rw [show accAt m c (n + 1) h = accStep (grid0.coords ⟨n + 1, h⟩) (qKept m c) (iblk m c 4 ⟨n + 1, h⟩) (s0Kept m c) (d0Kept m c) (xin2 m c ⟨n + 1, h⟩)
      (xin3 m c ⟨n + 1, h⟩) (accAt m c n (Nat.lt_of_succ_lt h)) from rfl, accStep_apply]
    exact Inv.rows m c hq b r j ⟨n + 1, h⟩ _ (Inv.point c hq b r j n (Nat.lt_of_succ_lt h)) 40 le_rfl

/-- The running maximum after the last point, of a document with tokens: the greatest of their similarities. -/
theorem acc_max (c : Dev nD) (hq : ∀ y, (0 : EReal) ≤ aQs m c y) (b : Fin 4) (r : Fin 32) (j : Fin 800) (t : Fin cfg0.N) (ht : t.val = 7)
    (hl : 0 < lenAt m c j) :
    (∀ s : Fin 300, (s.val : ℤ) < lenAt m c j → sim m c b r j s ≤ accAt m c t.val t.isLt (ix2 (row b r) j))
      ∧ ∃ s : Fin 300, (s.val : ℤ) < lenAt m c j ∧ accAt m c t.val t.isLt (ix2 (row b r) j) = sim m c b r j s := by
  have h := Inv.point m c hq b r j t.val t.isLt
  have hu : ∀ s : Fin 300, (s.val : ℤ) < lenAt m c j → sim m c b r j s ≤ accAt m c t.val t.isLt (ix2 (row b r) j) :=
    fun s hs => h.1 s (by have := s.isLt; omega) hs
  refine ⟨hu, ?_⟩
  rcases h.2 with hb | ⟨s, hs, e⟩
  · exact ⟨⟨0, by decide⟩, hl, by rw [hb]; exact (le_bot_iff.mp (hb ▸ hu ⟨0, by decide⟩ hl)).symm⟩
  · refine ⟨s, ?_, e⟩
    rcases hs with h0 | h1
    · rw [h0]; exact hl
    · exact h1

end Cert.KernelIdeal.Gen
-- ==== Proof.IdealTok.lean ====
/- The maxima over the tokens and their sums, the scores, read entry by entry. -/
module

public import proofs.«01_k».proof.Proof.IdealMax

@[expose] public section

set_option maxRecDepth 16384

noncomputable section

namespace Cert.KernelIdeal.Gen

open Idealize.ShloMosaic Idealize.ShloMosaic.TcCoe Idealize.ShloMosaic.Tactic
open Idealize.ShloMosaic.Rounds Idealize.ShloMosaic.ValueIdx

/-- The maximum over document `j`'s tokens for token `r` of query `b`, from the running maximum. -/
def tokE (acc : Vec Ideal S128x800 .f32) (qs : Vec Ideal S4x32 .f32) (len : Vec Ideal S1x800 .i32) (b : Fin 4) (r : Fin 32) (j : Fin 800) : EReal :=
  if (len (ix2 (0 : Fin 1) j)).toInt ≤ 0 then ⊥ else acc (ix2 (row b r) j) * qs (ix2 b r)

theorem tokRow (acc : Vec Ideal S128x800 .f32) (qs : Vec Ideal S4x32 .f32) (len : Vec Ideal S1x800 .i32) (hq : ∀ y, (0 : EReal) ≤ qs y)
    (b : Fin 4) (ha : S128x800.Slices ![32 * b.val, 0] S32x800) (hs : S32x4.Slices ![0, b.val] S32x1) (r : Fin 32) (j : Fin 800) :
    select (broadcastTo S32x800 (shapeCast S1x800 (k0_pay20 len) shapeCasts_S1x800_S1x800) broadcasts_S1x800_S32x800)
        (broadcast S32x800 (Ideal.ofBits .f32 0xFF800000#32 : Ideal .f32))
        (mulf (extractStridedSlice S32x800 ![32 * b.val, 0] acc ha)
          (broadcastTo S32x800 (absf (extractStridedSlice S32x1 ![0, b.val] (k0_pay19 qs) hs : FVec Ideal S32x1 .f32)) broadcasts_S32x1_S32x800) : FVec Ideal S32x800 .f32)
        (ix2 r j)
      = tokE acc qs len b r j := by
  have h1 : broadcastTo S32x800 (shapeCast S1x800 (k0_pay20 len) shapeCasts_S1x800_S1x800) broadcasts_S1x800_S32x800 (ix2 r j)
      = BitVec.ofBool (decide ((len (ix2 (0 : Fin 1) j)).toInt ≤ 0)) := by
    rw [broadcastTo_1b_ab_apply, shapeCast_self]
    unfold k0_pay20
    show BitVec.ofBool ((shapeCast S1x800 len shapeCasts_S1x800_S1x800 (ix2 (0 : Fin 1) j)).sle 0#32) = _
    rw [shapeCast_self]
    rfl
  have h2 : extractStridedSlice S32x800 ![32 * b.val, 0] acc ha (ix2 r j) = acc (ix2 (row b r) j) := by
    refine extractStridedSlice_apply _ _ _ _ _ fun a => ?_
    match a with
    | ⟨0, _⟩ => rfl
    | ⟨1, _⟩ => exact (Nat.zero_add _).symm
  have h3 : broadcastTo S32x800 (absf (extractStridedSlice S32x1 ![0, b.val] (k0_pay19 qs) hs : FVec Ideal S32x1 .f32)) broadcasts_S32x1_S32x800 (ix2 r j)
      = qs (ix2 b r) := by
    refine (broadcastTo_apply _ broadcasts_S32x1_S32x800 (ix2 r j) (ix2 r (0 : Fin 1)) fun a => ?_).trans ?_
    · match a with
      | ⟨0, _⟩ => rfl
      | ⟨1, _⟩ => rfl
    · have h4 : extractStridedSlice S32x1 ![0, b.val] (k0_pay19 qs) hs (ix2 r (0 : Fin 1)) = qs (ix2 b r) := by
        refine (extractStridedSlice_apply _ _ _ _ (ix2 r b) fun a => ?_).trans ?_
        · match a with
          | ⟨0, _⟩ => exact (Nat.zero_add _).symm
          | ⟨1, _⟩ => rfl
        · unfold k0_pay19
          dsimp only
          exact transpose_ix2_apply _ _ _ _
      show max (extractStridedSlice S32x1 ![0, b.val] (k0_pay19 qs) hs (ix2 r (0 : Fin 1)) : EReal) (-(extractStridedSlice S32x1 ![0, b.val] (k0_pay19 qs) hs (ix2 r (0 : Fin 1)) : EReal)) = _
      rw [h4]
      exact max_eq_left (le_trans (by rw [EReal.neg_le, neg_zero]; exact hq _) (hq _))
  rw [select_apply, h1, select_ofBool]
  show (if _ then Ideal.ofBits .f32 0xFF800000#32 else (extractStridedSlice S32x800 ![32 * b.val, 0] acc ha (ix2 r j) : EReal) * broadcastTo S32x800 _ broadcasts_S32x1_S32x800 (ix2 r j)) = _
  rw [h2, h3, bot_word]
  unfold tokE
  simp only [decide_eq_true_eq]

variable (acc : Vec Ideal S128x800 .f32) (qs : Vec Ideal S4x32 .f32) (len : Vec Ideal S1x800 .i32) (hq : ∀ y, (0 : EReal) ≤ qs y)
include hq

theorem tokRow0 (r : Fin 32) (j : Fin 800) : k0_pay21 acc len qs (ix2 r j) = tokE acc qs len 0 r j :=
  tokRow acc qs len hq 0 slices_S128x800_o0_0_S32x800 slices_S32x4_o0_0_S32x1 r j
theorem tokRow1 (r : Fin 32) (j : Fin 800) : k0_pay24 acc len qs (ix2 r j) = tokE acc qs len 1 r j :=
  tokRow acc qs len hq 1 slices_S128x800_o32_0_S32x800 slices_S32x4_o0_1_S32x1 r j
theorem tokRow2 (r : Fin 32) (j : Fin 800) :
    k0_pay28 (k0_pay20 len) (k0_pay27 acc qs) (Ideal.ofBits .f32 0xFF800000#32 : Ideal .f32) (ix2 r j) = tokE acc qs len 2 r j :=
  tokRow acc qs len hq 2 slices_S128x800_o64_0_S32x800 slices_S32x4_o0_2_S32x1 r j
theorem tokRow3 (r : Fin 32) (j : Fin 800) : k0_pay30 acc (k0_pay19 qs) (k0_pay20 len) (ix2 r j) = tokE acc qs len 3 r j :=
  tokRow acc qs len hq 3 slices_S128x800_o96_0_S32x800 slices_S32x4_o0_3_S32x1 r j

/-- The maxima as the last point leaves them. -/
theorem outTok_apply (b : Fin 4) (r : Fin 32) (j : Fin 800) : outTok acc qs len (ix3 b r j) = tokE acc qs len b r j := by
  unfold outTok
  have hG := View.canon_apply_of_pieces (Val := Elt Ideal) (e := .f32)
    (fun y : S4x32x800.Idx => tokE acc qs len (y 0) (y 1) (y 2)) (tokPieces acc qs len) (fun p hp => ?_)
    (ix3 b r j) (tokPieces_cover acc qs len _)
  · exact hG
  · unfold tokPieces at hp
    simp only [List.mem_cons, List.mem_nil_iff, or_false] at hp
    have key : ∀ (B : Fin 4) (inb : ∀ a, ![B.val, 0, 0] a + S1x32x800.size a ≤ S4x32x800.size a) (v : FVec Ideal S32x800 .f32)
        (hv : ∀ r j, v (ix2 r j) = tokE acc qs len B r j) (x : S1x32x800.Idx),
        shapeCast S1x32x800 v shapeCasts_S32x800_S1x32x800 x
          = tokE acc qs len ((Rect.unit (s := S4x32x800) ![B.val, 0, 0] S1x32x800.size inb).emb x 0)
            ((Rect.unit (s := S4x32x800) ![B.val, 0, 0] S1x32x800.size inb).emb x 1) ((Rect.unit (s := S4x32x800) ![B.val, 0, 0] S1x32x800.size inb).emb x 2) := by
      intro B inb v hv x
      have hx : x = ix3 (x 0) (x 1) (x 2) := eq_ix3 x
      have h0 : (x 0).val < 1 := (x 0).isLt
      have e0 : (Rect.unit (s := S4x32x800) ![B.val, 0, 0] S1x32x800.size inb).emb x 0 = B := Fin.ext (by show B.val + 1 * (x 0).val = B.val; omega)
      have e1 : (Rect.unit (s := S4x32x800) ![B.val, 0, 0] S1x32x800.size inb).emb x 1 = (x 1 : Fin 32) := Fin.ext (by show 0 + 1 * (x 1).val = (x 1).val; omega)
      have e2 : (Rect.unit (s := S4x32x800) ![B.val, 0, 0] S1x32x800.size inb).emb x 2 = (x 2 : Fin 800) := Fin.ext (by show 0 + 1 * (x 2).val = (x 2).val; omega)
      rw [e0, e1, e2]
      conv_lhs => rw [hx]
      exact (shapeCast_ab_1ab_apply v _ (x 0) (x 1) (x 2)).trans (hv (x 1) (x 2))
    rcases hp with rfl | rfl | rfl | rfl
    · exact fun x => key 3 inb_S4x32x800_S1x32x800_3_0_0 _ (tokRow3 acc qs len hq) x
    · exact fun x => key 2 inb_S4x32x800_S1x32x800_2_0_0 _ (tokRow2 acc qs len hq) x
    · exact fun x => key 1 inb_S4x32x800_S1x32x800_1_0_0 _ (tokRow1 acc qs len hq) x
    · exact fun x => key 0 inb_S4x32x800_S1x32x800_0_0_0 _ (tokRow0 acc qs len hq) x

omit hq in
/-- A column's sum over the tokens of a query. -/
theorem colSum (v : FVec Ideal S32x800 .f32) (j : Fin 800) :
    shapeCast S1x800 (multiReduction .add [0] S800 v 0x00000000#32 reduces_S32x800_S800 (.inl rfl) rfl) shapeCasts_S800_S1x800 (ix2 (0 : Fin 1) j)
      = ∑ r : Fin 32, v (ix2 r j) := by
  rw [shapeCast_a_1a_apply]
  refine (Ideal.multiReduction_add_single v _ _ _ _ (ix1 j)).trans (Finset.sum_congr rfl fun r _ => congrArg v ?_)
  funext a; apply Fin.ext
  match a with
  | ⟨0, _⟩ => rfl
  | ⟨1, _⟩ => rfl

/-- The scores: the maxima summed over the query's tokens. -/
theorem scoresV_apply (b : Fin 4) (j : Fin 800) : scoresV acc qs len (ix2 b j) = ∑ r : Fin 32, tokE acc qs len b r j := by
  let f : Fin 4 → S1x800.Idx → EReal := fun b =>
    shapeCast S1x800 (multiReduction .add [0] S800 (![k0_pay21 acc len qs, k0_pay24 acc len qs,
      k0_pay28 (k0_pay20 len) (k0_pay27 acc qs) (Ideal.ofBits .f32 0xFF800000#32 : Ideal .f32), k0_pay30 acc (k0_pay19 qs) (k0_pay20 len)] b : FVec Ideal S32x800 .f32)
      0x00000000#32 reduces_S32x800_S800 (.inl rfl) rfl) shapeCasts_S800_S1x800
  have hc : scoresV acc qs len (ix2 b j) = f b (ix2 (0 : Fin 1) j) :=
    concatenate_ofFn_unit_apply (t := S4x800) (s₁ := S1x800) 0 f concatenates_S1x800_S1x800_S1x800_S1x800_S4x800_d0 rfl rfl (ix2 b j) b rfl
      (ix2 (0 : Fin 1) j) (fun a ha => by
        match a with
        | ⟨0, _⟩ => exact absurd rfl ha
        | ⟨1, _⟩ => rfl)
  rw [hc]
  refine (colSum _ j).trans (Finset.sum_congr rfl fun r _ => ?_)
  match b with
  | 0 => exact tokRow0 acc qs len hq r j
  | 1 => exact tokRow1 acc qs len hq r j
  | 2 => exact tokRow2 acc qs len hq r j
  | 3 => exact tokRow3 acc qs len hq r j

end Cert.KernelIdeal.Gen
-- ==== Proof.Spec.lean ====
/- The loss in plain extended reals: row maxima, the log of a sum of exponentials, the log-softmax and the
   divergence, with the sums and maxima over one query's own documents. -/
module

public import Idealize.ShloMosaic.Lib.ValueLayout
public import Idealize.ShloMosaic.Lib.MatmulPlain

@[expose] public section

noncomputable section

namespace Cert.Spec

open Idealize.ShloMosaic

/-- The maximum of a row. -/
def rowMax {n : Nat} (f : Fin n → EReal) : EReal := (Finset.univ : Finset (Fin n)).fold max ⊥ f

/-- The number itself if it is finite, zero otherwise. -/
def finE (m : EReal) : EReal := if max m (-m) < ⊤ then m else 0

/-- The log of the sum of a row's exponentials. -/
def lseE {n : Nat} (f : Fin n → EReal) : EReal :=
  Ideal.log (∑ j, Ideal.exp (f j - finE (rowMax f))) + finE (rowMax f)

/-- The log-softmax of a row. -/
def lsmE {n : Nat} (f : Fin n → EReal) (j : Fin n) : EReal :=
  (f j - rowMax f) - Ideal.log (∑ i, Ideal.exp (f i - rowMax f))

/-- The divergence of the softmax of `f` from that of `g`. -/
def klE {n : Nat} (f g : Fin n → EReal) : EReal := ∑ j, Ideal.exp (lsmE g j) * (lsmE g j - lsmE f j)

/-- Query `b`'s own document number `i`. -/
def own (b : Fin 4) (i : Fin 200) : Fin 800 := ⟨200 * b.val + i.val, by omega⟩

/-- Document `j` is one of query `b`'s own. -/
def isOwn (b : Fin 4) (j : Fin 800) : Prop := 200 * b.val ≤ j.val ∧ j.val < 200 * b.val + 200

instance (b : Fin 4) (j : Fin 800) : Decidable (isOwn b j) := by unfold isOwn; infer_instance

theorem isOwn_own (b : Fin 4) (i : Fin 200) : isOwn b (own b i) := by
  unfold isOwn own; dsimp only; omega

theorem exists_own {b : Fin 4} {j : Fin 800} (h : isOwn b j) : ∃ i, own b i = j :=
  ⟨⟨j.val - 200 * b.val, by have h2 := h.2; have h1 := h.1; omega⟩, Fin.ext (by
    have h1 := h.1
    show 200 * b.val + (j.val - 200 * b.val) = j.val
    omega)⟩

theorem own_inj (b : Fin 4) (i i' : Fin 200) (h : own b i = own b i') : i = i' := by
  have h' : 200 * b.val + i.val = 200 * b.val + i'.val := congrArg Fin.val h
  exact Fin.ext (by omega)

/-- A sum that takes only the own documents is the sum over them. -/
theorem sum_own (b : Fin 4) (f : Fin 800 → EReal) :
    (∑ j, if isOwn b j then f j else 0) = ∑ i, f (own b i) := by
  refine (Finset.sum_of_injOn (own b) (fun i _ i' _ h => own_inj b i i' h) (fun i _ => Finset.mem_coe.mpr (Finset.mem_univ _)) ?_ ?_).symm
  · intro j _ hj
    refine if_neg fun h => hj ?_
    obtain ⟨i, hi⟩ := exists_own h
    exact ⟨i, Finset.mem_coe.mpr (Finset.mem_univ _), hi⟩
  · intro i _
    exact (if_pos (isOwn_own b i)).symm

theorem le_rowMax {n : Nat} (f : Fin n → EReal) (j : Fin n) : f j ≤ rowMax f :=
  (Finset.le_fold_max (f j)).mpr (.inr ⟨j, Finset.mem_univ _, le_rfl⟩)

theorem rowMax_le {n : Nat} {f : Fin n → EReal} {c : EReal} (h : ∀ j, f j ≤ c) : rowMax f ≤ c :=
  (Finset.fold_max_le c).mpr ⟨bot_le, fun j _ => h j⟩

/-- A maximum that takes only the own documents is the maximum over them. -/
theorem max_own (b : Fin 4) (f : Fin 800 → EReal) :
    rowMax (fun j => if isOwn b j then f j else ⊥) = rowMax (fun i => f (own b i)) := by
  refine le_antisymm (rowMax_le fun j => ?_) (rowMax_le fun i => ?_)
  · by_cases h : isOwn b j
    · obtain ⟨i, hi⟩ := exists_own h
      show (if isOwn b j then f j else ⊥) ≤ _
      rw [if_pos h, ← hi]
      exact le_rowMax (fun i => f (own b i)) i
    · show (if isOwn b j then f j else ⊥) ≤ _
      rw [if_neg h]
      exact bot_le
  · have h := le_rowMax (fun j => if isOwn b j then f j else ⊥) (own b i)
    rw [if_pos (isOwn_own b i)] at h
    exact h

/-- A sum that takes the one document whose number is the word `p` is that document's term. -/
theorem sum_at (p : BitVec 32) (j : Fin 800) (hp : p = BitVec.ofNat 32 j.val) (f : Fin 800 → EReal) :
    (∑ k : Fin 800, if BitVec.ofNat 32 k.val = p then f k else 0) = f j := by
  refine (Finset.sum_eq_single j (fun k _ hk => if_neg fun h => hk ?_) (fun h => absurd (Finset.mem_univ _) h)).trans (if_pos hp.symm)
  have h' := congrArg BitVec.toNat (h.trans hp)
  rw [BitVec.toNat_ofNat, BitVec.toNat_ofNat] at h'
  exact Fin.ext (by have := j.isLt; have := k.isLt; omega)

end Cert.Spec
-- ==== Proof.IdealFinish.lean ====
/- The losses and divergences read entry by entry: the log of the sum of exponentials less the positive's score, and the
   divergence over the query's own documents. -/
module

public import proofs.«01_k».proof.Proof.IdealTok
public import proofs.«01_k».proof.Proof.Spec
public import Idealize.ShloMosaic.Lib.ValueLayoutCasts

@[expose] public section

set_option maxRecDepth 16384

noncomputable section

namespace Cert.KernelIdeal.Gen

open Idealize.ShloMosaic Idealize.ShloMosaic.TcCoe Idealize.ShloMosaic.Tactic
open Idealize.ShloMosaic.Rounds Idealize.ShloMosaic.ValueIdx
open Cert.Spec

/-! ## Rows -/

theorem sum800 (v : FVec Ideal S4x800 .f32) (b : Fin 4) :
    shapeCast S4x1 (multiReduction .add [1] S4 v 0x00000000#32 reduces_S4x800_S4 (.inl rfl) rfl) shapeCasts_S4_S4x1 (ix2 b (0 : Fin 1))
      = ∑ j : Fin 800, v (ix2 b j) := by
  rw [shapeCast_a_a1_apply]
  refine (Ideal.multiReduction_add_single v _ _ _ _ (ix1 b)).trans (Finset.sum_congr rfl fun r _ => congrArg v ?_)
  funext a; apply Fin.ext
  match a with
  | ⟨0, _⟩ => rfl
  | ⟨1, _⟩ => rfl

theorem sum200 (v : FVec Ideal S4x200 .f32) (b : Fin 4) :
    shapeCast S4x1 (multiReduction .add [1] S4 v 0x00000000#32 reduces_S4x200_S4 (.inl rfl) rfl) shapeCasts_S4_S4x1 (ix2 b (0 : Fin 1))
      = ∑ j : Fin 200, v (ix2 b j) := by
  rw [shapeCast_a_a1_apply]
  refine (Ideal.multiReduction_add_single v _ _ _ _ (ix1 b)).trans (Finset.sum_congr rfl fun r _ => congrArg v ?_)
  funext a; apply Fin.ext
  match a with
  | ⟨0, _⟩ => rfl
  | ⟨1, _⟩ => rfl

theorem max800 (v : FVec Ideal S4x800 .f32) (b : Fin 4) :
    shapeCast S4x1 (multiReduction .maximumf [1] S4 v 0xFF800000#32 reduces_S4x800_S4 (.inl rfl) rfl) shapeCasts_S4_S4x1 (ix2 b (0 : Fin 1))
      = rowMax fun j : Fin 800 => v (ix2 b j) := by
  rw [shapeCast_a_a1_apply]
  refine (Ideal.multiReduction_maximumf_single v _ _ _ _ (ix1 b)).trans ?_
  refine congrArg₂ (fun z f => (Finset.univ : Finset (Fin 800)).fold max z f) bot_word (funext fun r => congrArg v ?_)
  funext a; apply Fin.ext
  match a with
  | ⟨0, _⟩ => rfl
  | ⟨1, _⟩ => rfl

theorem max200 (v : FVec Ideal S4x200 .f32) (b : Fin 4) :
    shapeCast S4x1 (multiReduction .maximumf [1] S4 v 0xFF800000#32 reduces_S4x200_S4 (.inl rfl) rfl) shapeCasts_S4_S4x1 (ix2 b (0 : Fin 1))
      = rowMax fun j : Fin 200 => v (ix2 b j) := by
  rw [shapeCast_a_a1_apply]
  refine (Ideal.multiReduction_maximumf_single v _ _ _ _ (ix1 b)).trans ?_
  refine congrArg₂ (fun z f => (Finset.univ : Finset (Fin 200)).fold max z f) bot_word (funext fun r => congrArg v ?_)
  funext a; apply Fin.ext
  match a with
  | ⟨0, _⟩ => rfl
  | ⟨1, _⟩ => rfl

theorem wide800 {α : Type} (v : S4x1.Idx → α) (b : Fin 4) (j : Fin 800) :
    broadcastTo S4x800 v broadcasts_S4x1_S4x800 (ix2 b j) = v (ix2 b (0 : Fin 1)) := by
  refine broadcastTo_apply v broadcasts_S4x1_S4x800 (ix2 b j) (ix2 b (0 : Fin 1)) fun a => ?_
  match a with
  | ⟨0, _⟩ => rfl
  | ⟨1, _⟩ => rfl

theorem wide200 {α : Type} (v : S4x1.Idx → α) (b : Fin 4) (j : Fin 200) :
    broadcastTo S4x200 v broadcasts_S4x1_S4x200 (ix2 b j) = v (ix2 b (0 : Fin 1)) := by
  refine broadcastTo_apply v broadcasts_S4x1_S4x200 (ix2 b j) (ix2 b (0 : Fin 1)) fun a => ?_
  match a with
  | ⟨0, _⟩ => rfl
  | ⟨1, _⟩ => rfl

/-- A choice by a decided bit. -/
theorem select_decide {s : Shape} {α : Type} (c : IVec s 1) (v w : s.Idx → α) (i : s.Idx) (P : Prop) [Decidable P]
    (h : c i = BitVec.ofBool (decide P)) : select c v w i = if P then v i else w i := by
  rw [select_apply, h, select_ofBool]
  by_cases hp : P
  · rw [decide_eq_true hp, if_pos rfl, if_pos hp]
  · rw [decide_eq_false hp, if_neg (by decide), if_neg hp]

theorem zero_word : (Ideal.ofBits .f32 0x00000000#32 : EReal) = 0 := Ideal.ofBits_zero_f32

theorem select_zero {s : Shape} (c : IVec s 1) (v : FVec Ideal s .f32) (i : s.Idx) (P : Prop) [Decidable P]
    (h : c i = BitVec.ofBool (decide P)) :
    select c v (broadcast s (Scalar.ofBits .f32 0x00000000#32 : Ideal .f32)) i = if P then (v i : EReal) else 0 := by
  rw [select_decide c _ _ i P h, ← zero_word]
  rfl

theorem select_bot {s : Shape} (c : IVec s 1) (v : FVec Ideal s .f32) (i : s.Idx) (P : Prop) [Decidable P]
    (h : c i = BitVec.ofBool (decide P)) :
    select c v (broadcast s (Scalar.ofBits .f32 0xFF800000#32 : Ideal .f32)) i = if P then (v i : EReal) else ⊥ := by
  rw [select_decide c _ _ i P h, ← bot_word]
  rfl

theorem lessLog800 (w v : FVec Ideal S4x800 .f32) (b : Fin 4) (j : Fin 800) :
    subf w (broadcastTo S4x800 (log (shapeCast S4x1 (multiReduction .add [1] S4 v 0x00000000#32 reduces_S4x800_S4 (.inl rfl) rfl)
      shapeCasts_S4_S4x1)) broadcasts_S4x1_S4x800) (ix2 b j) = (w (ix2 b j) : EReal) - Ideal.log (∑ k : Fin 800, v (ix2 b k)) := by
  rw [← sum800]
  exact congrArg (fun x : EReal => (w (ix2 b j) : EReal) - x) (wide800 _ b j)

theorem lessLog200 (w : FVec Ideal S4x800 .f32) (v : FVec Ideal S4x200 .f32) (b : Fin 4) (j : Fin 800) :
    subf w (broadcastTo S4x800 (log (shapeCast S4x1 (multiReduction .add [1] S4 v 0x00000000#32 reduces_S4x200_S4 (.inl rfl) rfl)
      shapeCasts_S4_S4x1)) broadcasts_S4x1_S4x800) (ix2 b j) = (w (ix2 b j) : EReal) - Ideal.log (∑ k : Fin 200, v (ix2 b k)) := by
  rw [← sum200]
  exact congrArg (fun x : EReal => (w (ix2 b j) : EReal) - x) (wide800 _ b j)

/-! ## The cross entropy -/

/-- The positives' places as a column. -/
def placeV (p : Fin 4 → BitVec 32) : IVec S4x1 32 :=
  select (cmpi .eq (iota .tc S4x1 32 [0] iota_S4x1_d0_w32) (broadcast S4x1 3#32)) (broadcast S4x1 (p 3))
    (select (cmpi .eq (iota .tc S4x1 32 [0] iota_S4x1_d0_w32) (broadcast S4x1 2#32)) (broadcast S4x1 (p 2))
      (select (cmpi .eq (iota .tc S4x1 32 [0] iota_S4x1_d0_w32) (broadcast S4x1 1#32)) (broadcast S4x1 (p 1))
        (select k0_pay35 (broadcast S4x1 (p 0)) k0_pay34)))

theorem placeV_apply (p : Fin 4 → BitVec 32) (b : Fin 4) : placeV p (ix2 b (0 : Fin 1)) = p b := by
  unfold placeV k0_pay35 k0_pay34
  dsimp only
  simp only [select_apply]
  show Scalar.select (BitVec.ofBool (iota .tc S4x1 32 [0] iota_S4x1_d0_w32 (ix2 b (0 : Fin 1)) == 3#32)) (p 3)
    (Scalar.select (BitVec.ofBool (iota .tc S4x1 32 [0] iota_S4x1_d0_w32 (ix2 b (0 : Fin 1)) == 2#32)) (p 2)
      (Scalar.select (BitVec.ofBool (iota .tc S4x1 32 [0] iota_S4x1_d0_w32 (ix2 b (0 : Fin 1)) == 1#32)) (p 1)
        (Scalar.select (BitVec.ofBool (iota .tc S4x1 32 [0] iota_S4x1_d0_w32 (ix2 b (0 : Fin 1)) == 0#32)) (p 0) 0#32))) = p b
  rw [iota_single_apply]
  match b with
  | 0 => rfl
  | 1 => rfl
  | 2 => rfl
  | 3 => rfl

/-- The rows' maxima. -/
def topV (s : FVec Ideal S4x800 .f32) : FVec Ideal S4x1 .f32 :=
  shapeCast S4x1 (multiReduction .maximumf [1] S4 s 0xFF800000#32 reduces_S4x800_S4 (.inl rfl) rfl) shapeCasts_S4_S4x1

/-- The rows' maxima, zero where infinite. -/
def finV (s : FVec Ideal S4x800 .f32) : FVec Ideal S4x1 .f32 :=
  select (cmpf .olt (absf (topV s)) (broadcast S4x1 (Scalar.ofBits .f32 0x7F800000#32 : Ideal .f32))) (topV s)
    (broadcast S4x1 (Scalar.ofBits .f32 0x00000000#32 : Ideal .f32))

theorem finV_apply (s : FVec Ideal S4x800 .f32) (b : Fin 4) :
    finV s (ix2 b (0 : Fin 1)) = finE (rowMax fun j => s (ix2 b j)) := by
  have h : topV s (ix2 b (0 : Fin 1)) = rowMax fun j => s (ix2 b j) := max800 s b
  unfold finV finE
  rw [select_zero _ _ _ (max (topV s (ix2 b (0 : Fin 1)) : EReal) (-(topV s (ix2 b (0 : Fin 1)) : EReal)) < (Ideal.ofBits .f32 0x7F800000#32 : EReal)) rfl,
    top_word, h]

theorem ceV_eq (s : FVec Ideal S4x800 .f32) (p : Fin 4 → BitVec 32) :
    ceV s p = subf (addf (log (shapeCast S4x1 (multiReduction .add [1] S4 (exp (subf s (broadcastTo S4x800 (finV s) broadcasts_S4x1_S4x800)))
        0x00000000#32 reduces_S4x800_S4 (.inl rfl) rfl) shapeCasts_S4_S4x1)) (finV s))
      (shapeCast S4x1 (multiReduction .add [1] S4 (select (cmpi .eq (iota .tc S4x800 32 [1] iota_S4x800_d1_w32)
          (broadcastTo S4x800 (placeV p) broadcasts_S4x1_S4x800)) s (broadcast S4x800 (Scalar.ofBits .f32 0x00000000#32 : Ideal .f32)))
        0x00000000#32 reduces_S4x800_S4 (.inl rfl) rfl) shapeCasts_S4_S4x1) := rfl

theorem ceV_apply (s : FVec Ideal S4x800 .f32) (p : Fin 4 → BitVec 32) (b : Fin 4) :
    ceV s p (ix2 b (0 : Fin 1))
      = lseE (fun j => s (ix2 b j)) - ∑ j : Fin 800, if BitVec.ofNat 32 j.val = p b then s (ix2 b j) else 0 := by
  rw [ceV_eq]
  unfold lseE
  rw [← finV_apply]
  refine congrArg₂ (fun x y => (Ideal.log x + finV s (ix2 b (0 : Fin 1)) : EReal) - y)
    ((sum800 _ b).trans (Finset.sum_congr rfl fun j _ => ?_)) ((sum800 _ b).trans (Finset.sum_congr rfl fun j _ => ?_))
  · show Ideal.exp ((s (ix2 b j) : EReal) - (broadcastTo S4x800 (finV s) broadcasts_S4x1_S4x800 (ix2 b j) : EReal)) = _
    rw [wide800]
  · rw [select_zero _ _ _ (BitVec.ofNat 32 j.val = p b) (by
      show BitVec.ofBool (iota .tc S4x800 32 [1] iota_S4x800_d1_w32 (ix2 b j) == broadcastTo S4x800 (placeV p) broadcasts_S4x1_S4x800 (ix2 b j)) = _
      rw [wide800, placeV_apply, iota_single_apply]
      rfl)]

/-! ## The divergence -/

theorem own_mask (b : Fin 4) (j : Fin 800) : k0_pay33 (ix2 b j) = BitVec.ofBool (decide (isOwn b j)) := by
  unfold k0_pay33
  dsimp only
  show BitVec.ofBool ((iota .tc S4x800 32 [0] iota_S4x800_d0_w32 (ix2 b j) * 200#32).sle (iota .tc S4x800 32 [1] iota_S4x800_d1_w32 (ix2 b j)))
    &&& BitVec.ofBool ((iota .tc S4x800 32 [1] iota_S4x800_d1_w32 (ix2 b j)).slt (iota .tc S4x800 32 [0] iota_S4x800_d0_w32 (ix2 b j) * 200#32 + 200#32)) = _
  rw [iota_single_apply, iota_single_apply]
  show BitVec.ofBool ((BitVec.ofNat 32 b.val * 200#32).sle (BitVec.ofNat 32 j.val))
    &&& BitVec.ofBool ((BitVec.ofNat 32 j.val).slt (BitVec.ofNat 32 b.val * 200#32 + 200#32)) = _
  have hj : (BitVec.ofNat 32 j.val).toInt = j.val := by
    have := j.isLt
    rw [BitVec.toInt_eq_toNat_of_lt (by rw [BitVec.toNat_ofNat]; omega), BitVec.toNat_ofNat]
    omega
  have h1 : ∀ b : Fin 4, (BitVec.ofNat 32 b.val * 200#32).toInt = 200 * b.val := by decide
  have h2 : ∀ b : Fin 4, (BitVec.ofNat 32 b.val * 200#32 + 200#32).toInt = 200 * b.val + 200 := by decide
  rw [BitVec.sle_eq_decide, BitVec.slt_eq_decide, hj, h1, h2]
  by_cases p : 200 * b.val ≤ j.val <;> by_cases q : j.val < 200 * b.val + 200
  · rw [decide_eq_true (by omega), decide_eq_true (by omega), decide_eq_true (show isOwn b j from ⟨p, q⟩)]; rfl
  · rw [decide_eq_true (by omega), decide_eq_false (by omega), decide_eq_false (show ¬isOwn b j from fun h => q h.2)]; rfl
  · rw [decide_eq_false (by omega), decide_eq_true (by omega), decide_eq_false (show ¬isOwn b j from fun h => p h.1)]; rfl
  · rw [decide_eq_false (by omega), decide_eq_false (by omega), decide_eq_false (show ¬isOwn b j from fun h => p h.1)]; rfl

/-- The teacher's log-probabilities, repeated over all the documents. -/
def teachV (te : Vec Ideal S4x200 .f32) : FVec Ideal S4x800 .f32 :=
  subf (k0_pay38 te) (broadcastTo S4x800 (log (shapeCast S4x1 (multiReduction .add [1] S4
    (exp (subf te (broadcastTo S4x200 (k0_pay37 te) broadcasts_S4x1_S4x200)) : FVec Ideal S4x200 .f32) 0x00000000#32 reduces_S4x200_S4 (.inl rfl) rfl)
    shapeCasts_S4_S4x1)) broadcasts_S4x1_S4x800)

theorem teachMax (te : Vec Ideal S4x200 .f32) (b : Fin 4) :
    k0_pay37 te (ix2 b (0 : Fin 1)) = rowMax fun i => te (ix2 b i) := by
  unfold k0_pay37
  exact max200 te b

theorem teachV_own (te : Vec Ideal S4x200 .f32) (b : Fin 4) (i : Fin 200) :
    teachV te (ix2 b (own b i)) = lsmE (fun i => te (ix2 b i)) i := by
  unfold teachV
  rw [lessLog200]
  unfold lsmE
  refine congrArg₂ (fun x y => (x : EReal) - Ideal.log y) ?_ (Finset.sum_congr rfl fun k _ => ?_)
  · unfold k0_pay38
    dsimp only
    show (concatenate S4x800 1 _ _ (ix2 b (own b i)) : EReal) - (broadcastTo S4x800 (k0_pay37 te) broadcasts_S4x1_S4x800 (ix2 b (own b i)) : EReal) = _
    rw [wide800, teachMax]
    refine congrArg (fun x : EReal => x - rowMax fun i => te (ix2 b i)) ?_
    refine concatenate_replicate_apply (t := S4x800) (s₁ := S4x200) 1 4 te concatenates_S4x200_S4x200_S4x200_S4x200_S4x800_d1 rfl
      (ix2 b (own b i)) (ix2 b i) ?_ fun a ha => ?_
    · show i.val = (200 * b.val + i.val) % 200
      have := i.isLt
      omega
    · match a with
      | ⟨0, _⟩ => rfl
      | ⟨1, _⟩ => exact absurd rfl ha
  · show Ideal.exp ((te (ix2 b k) : EReal) - (broadcastTo S4x200 (k0_pay37 te) broadcasts_S4x1_S4x200 (ix2 b k) : EReal)) = _
    rw [wide200, teachMax]

/-- The scores less the maximum over the query's own documents. -/
def lessV (s : FVec Ideal S4x800 .f32) : FVec Ideal S4x800 .f32 :=
  subf s (broadcastTo S4x800 (shapeCast S4x1 (multiReduction .maximumf [1] S4
    (select k0_pay33 s (broadcast S4x800 (Scalar.ofBits .f32 0xFF800000#32 : Ideal .f32)) : FVec Ideal S4x800 .f32)
    0xFF800000#32 reduces_S4x800_S4 (.inl rfl) rfl) shapeCasts_S4_S4x1) broadcasts_S4x1_S4x800)

theorem lessV_apply (s : FVec Ideal S4x800 .f32) (b : Fin 4) (j : Fin 800) :
    lessV s (ix2 b j) = (s (ix2 b j) : EReal) - rowMax fun i => s (ix2 b (own b i)) := by
  unfold lessV
  show (s (ix2 b j) : EReal) - (broadcastTo S4x800 _ broadcasts_S4x1_S4x800 (ix2 b j) : EReal) = _
  rw [wide800, max800]
  refine congrArg (fun x : EReal => (s (ix2 b j) : EReal) - x) (Eq.trans ?_ (max_own b fun j => s (ix2 b j)))
  refine congrArg rowMax (funext fun k => ?_)
  rw [select_bot _ _ _ (isOwn b k) (own_mask b k)]

/-- The log-probabilities among the query's own documents. -/
def logV (s : FVec Ideal S4x800 .f32) : FVec Ideal S4x800 .f32 :=
  subf (lessV s) (broadcastTo S4x800 (log (shapeCast S4x1 (multiReduction .add [1] S4
    (exp (select k0_pay33 (lessV s) (broadcast S4x800 (Scalar.ofBits .f32 0xFF800000#32 : Ideal .f32))) : FVec Ideal S4x800 .f32)
    0x00000000#32 reduces_S4x800_S4 (.inl rfl) rfl) shapeCasts_S4_S4x1)) broadcasts_S4x1_S4x800)

theorem exp_bot : Ideal.exp (⊥ : EReal) = 0 := rfl

theorem logV_own (s : FVec Ideal S4x800 .f32) (b : Fin 4) (i : Fin 200) :
    logV s (ix2 b (own b i)) = lsmE (fun i => s (ix2 b (own b i))) i := by
  unfold logV
  rw [lessLog800, lessV_apply]
  unfold lsmE
  refine congrArg (fun y => ((s (ix2 b (own b i)) : EReal) - rowMax fun i => s (ix2 b (own b i))) - Ideal.log y) ?_
  refine Eq.trans (Finset.sum_congr rfl fun k _ => ?_) (sum_own b fun k => Ideal.exp ((s (ix2 b k) : EReal) - rowMax fun i => s (ix2 b (own b i))))
  refine (congrArg Ideal.exp (select_bot k0_pay33 (lessV s) (ix2 b k) (isOwn b k) (own_mask b k))).trans ?_
  rw [lessV_apply]
  by_cases h : isOwn b k
  · rw [if_pos h, if_pos h]
  · rw [if_neg h, if_neg h]
    exact exp_bot

theorem klV_eq (s : FVec Ideal S4x800 .f32) (te : Vec Ideal S4x200 .f32) :
    klV s te = shapeCast S4x1 (multiReduction .add [1] S4
      (select k0_pay33 (mulf (exp (teachV te)) (subf (teachV te) (logV s))) (broadcast S4x800 (Scalar.ofBits .f32 0x00000000#32 : Ideal .f32)) : FVec Ideal S4x800 .f32)
      0x00000000#32 reduces_S4x800_S4 (.inl rfl) rfl) shapeCasts_S4_S4x1 := rfl

theorem klV_apply (s : FVec Ideal S4x800 .f32) (te : Vec Ideal S4x200 .f32) (b : Fin 4) :
    klV s te (ix2 b (0 : Fin 1)) = klE (fun i => s (ix2 b (own b i))) fun i => te (ix2 b i) := by
  rw [klV_eq, sum800]
  refine Eq.trans (Finset.sum_congr rfl fun k _ => ?_) ((sum_own b fun k =>
    Ideal.exp (teachV te (ix2 b k)) * ((teachV te (ix2 b k) : EReal) - (logV s (ix2 b k) : EReal))).trans (Finset.sum_congr rfl fun i _ => ?_))
  · rw [select_zero _ _ _ (isOwn b k) (own_mask b k)]
    rfl
  · rw [teachV_own, logV_own]

theorem lossV_apply (s : FVec Ideal S4x800 .f32) (p : Fin 4 → BitVec 32) (te : Vec Ideal S4x200 .f32) (b : Fin 4) :
    lossV s p te (ix2 b (0 : Fin 1)) = (ceV s p (ix2 b (0 : Fin 1)) : EReal) + (klV s te (ix2 b (0 : Fin 1)) : EReal) := rfl

/-! ## The entries written out -/

theorem unit_sum (f : S1x1x1.Idx → EReal) : (∑ i : S1x1x1.Idx, f i) = f (ix3 (0 : Fin 1) (0 : Fin 1) (0 : Fin 1)) := by
  refine Finset.sum_eq_single _ (fun i _ hi => absurd ?_ hi) fun h => absurd (Finset.mem_univ _) h
  funext a
  match a with
  | ⟨0, _⟩ => exact Fin.ext (Nat.lt_one_iff.mp (i 0).isLt)
  | ⟨1, _⟩ => exact Fin.ext (Nat.lt_one_iff.mp (i 1).isLt)
  | ⟨2, _⟩ => exact Fin.ext (Nat.lt_one_iff.mp (i 2).isLt)

theorem pick (k : Fin 4) (v : FVec Ideal S4x1 .f32) (h : S4x1.Slices ![k.val, 0] S1x1) :
    extractAt ![0, 0, 0] (shapeCast S1x1x1 (multiReduction .add [1, 2] S1 (shapeCast S1x1x1 (extractStridedSlice S1x1 ![k.val, 0] v h) shapeCasts_S1x1_S1x1x1 : FVec Ideal S1x1x1 .f32)
      0x00000000#32 reduces_S1x1x1_S1 (.inl rfl) rfl) shapeCasts_S1_S1x1x1) inpos_S1x1x1_p0_0_0 = v (ix2 k (0 : Fin 1)) := by
  unfold extractAt
  refine (shapeCast_apply _ shapeCasts_S1_S1x1x1 _ (ix1 (0 : Fin 1)) rfl).trans ?_
  refine (Ideal.multiReduction_add_total _ _ _ (fun b => ?_) _ _ _).trans ?_
  · match b with
    | ⟨0, _⟩ => rfl
  · refine (unit_sum _).trans ?_
    refine (shapeCast_apply _ shapeCasts_S1x1_S1x1x1 _ (ix2 (0 : Fin 1) (0 : Fin 1)) rfl).trans ?_
    refine extractStridedSlice_apply _ _ _ _ _ fun a => ?_
    match a with
    | ⟨0, _⟩ => rfl
    | ⟨1, _⟩ => rfl

theorem outLoss_apply (acc : Vec Ideal S128x800 .f32) (x1 : Vec Ideal S4x32 .f32) (x4 : Vec Ideal S1x800 .i32) (x5 : Vec Ideal S4 .i32) (x6 : Vec Ideal S4x200 .f32) (b : Fin 4) :
    outLoss acc x1 x4 x5 x6 (ix1 b) = lossV (scoresV acc x1 x4) (posAt x5) x6 (ix2 b (0 : Fin 1)) := by
  unfold outLoss
  generalize scoresV acc x1 x4 = s
  generalize posAt x5 = p
  refine View.canon_apply_of_pieces (Val := Elt Ideal) (fun y : S4.Idx => (lossV s p x6 (ix2 (y 0) (0 : Fin 1)))) _ ?_ _ (lossPieces_cover _ _ _ _)
  intro q hq x
  unfold lossPieces at hq
  simp only [List.mem_cons, List.not_mem_nil, or_false] at hq
  rcases hq with rfl | rfl | rfl | rfl
  · refine Eq.trans (pick 3 (lossV s p x6) slices_S4x1_o3_0_S1x1) (congrArg (fun z => lossV s p x6 (ix2 z (0 : Fin 1))) (Fin.ext ?_))
    show 3 = 3 + 1 * (x 0).val
    rw [Nat.lt_one_iff.mp (x 0).isLt]
  · refine Eq.trans (pick 2 (lossV s p x6) slices_S4x1_o2_0_S1x1) (congrArg (fun z => lossV s p x6 (ix2 z (0 : Fin 1))) (Fin.ext ?_))
    show 2 = 2 + 1 * (x 0).val
    rw [Nat.lt_one_iff.mp (x 0).isLt]
  · refine Eq.trans (pick 1 (lossV s p x6) slices_S4x1_o1_0_S1x1) (congrArg (fun z => lossV s p x6 (ix2 z (0 : Fin 1))) (Fin.ext ?_))
    show 1 = 1 + 1 * (x 0).val
    rw [Nat.lt_one_iff.mp (x 0).isLt]
  · refine Eq.trans (pick 0 (lossV s p x6) slices_S4x1_o0_0_S1x1) (congrArg (fun z => lossV s p x6 (ix2 z (0 : Fin 1))) (Fin.ext ?_))
    show 0 = 0 + 1 * (x 0).val
    rw [Nat.lt_one_iff.mp (x 0).isLt]

theorem outKl_apply (acc : Vec Ideal S128x800 .f32) (x1 : Vec Ideal S4x32 .f32) (x4 : Vec Ideal S1x800 .i32) (x6 : Vec Ideal S4x200 .f32) (b : Fin 4) :
    outKl acc x1 x4 x6 (ix1 b) = klV (scoresV acc x1 x4) x6 (ix2 b (0 : Fin 1)) := by
  unfold outKl
  generalize scoresV acc x1 x4 = s
  refine View.canon_apply_of_pieces (Val := Elt Ideal) (fun y : S4.Idx => (klV s x6 (ix2 (y 0) (0 : Fin 1)))) _ ?_ _ (klPieces_cover _ _ _)
  intro q hq x
  unfold klPieces at hq
  simp only [List.mem_cons, List.not_mem_nil, or_false] at hq
  rcases hq with rfl | rfl | rfl | rfl
  · refine Eq.trans (pick 3 (klV s x6) slices_S4x1_o3_0_S1x1) (congrArg (fun z => klV s x6 (ix2 z (0 : Fin 1))) (Fin.ext ?_))
    show 3 = 3 + 1 * (x 0).val
    rw [Nat.lt_one_iff.mp (x 0).isLt]
  · refine Eq.trans (pick 2 (klV s x6) slices_S4x1_o2_0_S1x1) (congrArg (fun z => klV s x6 (ix2 z (0 : Fin 1))) (Fin.ext ?_))
    show 2 = 2 + 1 * (x 0).val
    rw [Nat.lt_one_iff.mp (x 0).isLt]
  · refine Eq.trans (pick 1 (klV s x6) slices_S4x1_o1_0_S1x1) (congrArg (fun z => klV s x6 (ix2 z (0 : Fin 1))) (Fin.ext ?_))
    show 1 = 1 + 1 * (x 0).val
    rw [Nat.lt_one_iff.mp (x 0).isLt]
  · refine Eq.trans (pick 0 (klV s x6) slices_S4x1_o0_0_S1x1) (congrArg (fun z => klV s x6 (ix2 z (0 : Fin 1))) (Fin.ext ?_))
    show 0 = 0 + 1 * (x 0).val
    rw [Nat.lt_one_iff.mp (x 0).isLt]

theorem posAt_apply (x5 : Vec Ideal S4 .i32) (b : Fin 4) : posAt x5 b = x5 (ix1 b) := by
  match b with
  | 0 => exact congrArg x5 (funext fun a => match a with | ⟨0, _⟩ => rfl)
  | 1 => exact congrArg x5 (funext fun a => match a with | ⟨0, _⟩ => rfl)
  | 2 => exact congrArg x5 (funext fun a => match a with | ⟨0, _⟩ => rfl)
  | 3 => exact congrArg x5 (funext fun a => match a with | ⟨0, _⟩ => rfl)

end Cert.KernelIdeal.Gen
-- ==== Proof.IdealResult.lean ====
/- The result arrays after the whole run: the scores, the losses, the divergences and the maxima of the last point. -/
module

public import proofs.«01_k».proof.Proof.IdealFinish

@[expose] public section

set_option maxRecDepth 16384

noncomputable section

namespace Cert.KernelIdeal.Gen

open Idealize.ShloMosaic Idealize.ShloMosaic.TcCoe Idealize.ShloMosaic.Tactic
open Idealize.ShloMosaic.Pipeline
open Idealize.ShloMosaic.Rounds Idealize.ShloMosaic.ValueIdx

variable {F : FTy → Type} [FloatOps F]
variable (m : (ℓ : Loc nD τ sig) → Buf (Elt F) ℓ) (ρ : Dev nD → PrngReg)

/-- The last point. -/
def last : Fin cfg0.N := ⟨7, by decide⟩

theorem eq_last (t : Fin cfg0.N) (h : t.val % 8 = 7) : t = last := by
  rcases fin_N0 t with rfl | rfl | rfl | rfl | rfl | rfl | rfl | rfl <;> first | rfl | exact absurd h (by decide)

/-- The scores the run leaves. -/
def resScores (c : Dev nD) : Vec F S4x800 .f32 := outScores (accAt m c last.val last.isLt) (iblk m c 1 last) (iblk m c 4 last)
/-- The losses the run leaves. -/
def resLoss (c : Dev nD) : Vec F S4 .f32 :=
  outLoss (accAt m c last.val last.isLt) (iblk m c 1 last) (iblk m c 4 last) (iblk m c 5 last) (iblk m c 6 last)
/-- The divergences the run leaves. -/
def resKl (c : Dev nD) : Vec F S4 .f32 := outKl (accAt m c last.val last.isLt) (iblk m c 1 last) (iblk m c 4 last) (iblk m c 6 last)
/-- The maxima the run leaves, tokens before documents. -/
def resTok (c : Dev nD) : Vec F S4x32x800 .f32 := outTok (accAt m c last.val last.isLt) (iblk m c 1 last) (iblk m c 4 last)

/-! ## The scores -/

theorem whole7 (t : Fin cfg0.N) : ∀ a, win0_7.index t a * win0_7.size a = 0 := by
  rcases fin_N0 t with rfl | rfl | rfl | rfl | rfl | rfl | rfl | rfl <;> decide

theorem flushed7 (c : Dev nD) (t : Fin cfg0.N) (ht : (cfg0.win 7).flush t = true) :
    (dats m 0 c).flushed 7 t = (win0_7.blk t).view.read (Elt F) (resScores m c : Buf (Elt F) ((c : Thread nD τ).loc (Pipeline.arrRef spec0 7))) := by
  obtain rfl := eq_last t ((flush0_7 t).mp ht)
  show (cfg0.win 7).cut (grid0.coords last) ((dats m 0 c).after 7 last) = _
  rw [show (dats m 0 c).after 7 last = resScores m c from after0_7 m c last]
  generalize resScores m c = G
  refine funext fun y => ?_
  show G _ = G _
  refine congrArg G (funext fun a => Fin.ext ?_)
  show (y a).val = win0_7.index last a * win0_7.size a + 1 * (y a).val
  rw [whole7 last a]; omega

theorem cover7 (i : S4x800.Idx) :
    ∃ t : Fin cfg0.N, (cfg0.win 7).flush t = true ∧ i ∈ ((cfg0.win 7).blk t).view.set := by
  refine ⟨last, (flush0_7 last).mpr rfl, ?_⟩
  show i ∈ ((View.whole (Pipeline.arrRef spec0 7)).slice (win0_7.rect last)).set
  rw [View.set_slice_whole, Rect.mem_set_unit]
  intro a
  show win0_7.index last a * win0_7.size a ≤ (i a : Nat) ∧ (i a : Nat) < win0_7.index last a * win0_7.size a + win0_7.xsize (grid0.coords last) a
  rw [whole7 last a]
  have e : ∀ a, win0_7.xsize (grid0.coords last) a = S4x800.size a := by decide
  rw [e a]
  have := (i a).isLt
  omega

theorem final7 (c : Dev nD) : (dats m 0 c).arrAt 7 cfg0.N = resScores m c :=
  (dats m 0 c).arrAt_eq_of_cover 7 (resScores m c) (fun t ht => flushed7 m c t ht) cover7

/-! ## The losses -/

theorem whole8 (t : Fin cfg0.N) : ∀ a, win0_8.index t a * win0_8.size a = 0 := by
  rcases fin_N0 t with rfl | rfl | rfl | rfl | rfl | rfl | rfl | rfl <;> decide

theorem flushed8 (c : Dev nD) (t : Fin cfg0.N) (ht : (cfg0.win 8).flush t = true) :
    (dats m 0 c).flushed 8 t = (win0_8.blk t).view.read (Elt F) (resLoss m c : Buf (Elt F) ((c : Thread nD τ).loc (Pipeline.arrRef spec0 8))) := by
  obtain rfl := eq_last t ((flush0_8 t).mp ht)
  show (cfg0.win 8).cut (grid0.coords last) ((dats m 0 c).after 8 last) = _
  rw [show (dats m 0 c).after 8 last = resLoss m c from after0_8 m c last]
  generalize resLoss m c = G
  refine funext fun y => ?_
  show G _ = G _
  refine congrArg G (funext fun a => Fin.ext ?_)
  show (y a).val = win0_8.index last a * win0_8.size a + 1 * (y a).val
  rw [whole8 last a]; omega

theorem cover8 (i : S4.Idx) :
    ∃ t : Fin cfg0.N, (cfg0.win 8).flush t = true ∧ i ∈ ((cfg0.win 8).blk t).view.set := by
  refine ⟨last, (flush0_8 last).mpr rfl, ?_⟩
  show i ∈ ((View.whole (Pipeline.arrRef spec0 8)).slice (win0_8.rect last)).set
  rw [View.set_slice_whole, Rect.mem_set_unit]
  intro a
  show win0_8.index last a * win0_8.size a ≤ (i a : Nat) ∧ (i a : Nat) < win0_8.index last a * win0_8.size a + win0_8.xsize (grid0.coords last) a
  rw [whole8 last a]
  have e : ∀ a, win0_8.xsize (grid0.coords last) a = S4.size a := by decide
  rw [e a]
  have := (i a).isLt
  omega

theorem final8 (c : Dev nD) : (dats m 0 c).arrAt 8 cfg0.N = resLoss m c :=
  (dats m 0 c).arrAt_eq_of_cover 8 (resLoss m c) (fun t ht => flushed8 m c t ht) cover8

/-! ## The divergences -/

theorem whole9 (t : Fin cfg0.N) : ∀ a, win0_9.index t a * win0_9.size a = 0 := by
  rcases fin_N0 t with rfl | rfl | rfl | rfl | rfl | rfl | rfl | rfl <;> decide

theorem flushed9 (c : Dev nD) (t : Fin cfg0.N) (ht : (cfg0.win 9).flush t = true) :
    (dats m 0 c).flushed 9 t = (win0_9.blk t).view.read (Elt F) (resKl m c : Buf (Elt F) ((c : Thread nD τ).loc (Pipeline.arrRef spec0 9))) := by
  obtain rfl := eq_last t ((flush0_9 t).mp ht)
  show (cfg0.win 9).cut (grid0.coords last) ((dats m 0 c).after 9 last) = _
  rw [show (dats m 0 c).after 9 last = resKl m c from after0_9 m c last]
  generalize resKl m c = G
  refine funext fun y => ?_
  show G _ = G _
  refine congrArg G (funext fun a => Fin.ext ?_)
  show (y a).val = win0_9.index last a * win0_9.size a + 1 * (y a).val
  rw [whole9 last a]; omega

theorem cover9 (i : S4.Idx) :
    ∃ t : Fin cfg0.N, (cfg0.win 9).flush t = true ∧ i ∈ ((cfg0.win 9).blk t).view.set := by
  refine ⟨last, (flush0_9 last).mpr rfl, ?_⟩
  show i ∈ ((View.whole (Pipeline.arrRef spec0 9)).slice (win0_9.rect last)).set
  rw [View.set_slice_whole, Rect.mem_set_unit]
  intro a
  show win0_9.index last a * win0_9.size a ≤ (i a : Nat) ∧ (i a : Nat) < win0_9.index last a * win0_9.size a + win0_9.xsize (grid0.coords last) a
  rw [whole9 last a]
  have e : ∀ a, win0_9.xsize (grid0.coords last) a = S4.size a := by decide
  rw [e a]
  have := (i a).isLt
  omega

theorem final9 (c : Dev nD) : (dats m 0 c).arrAt 9 cfg0.N = resKl m c :=
  (dats m 0 c).arrAt_eq_of_cover 9 (resKl m c) (fun t ht => flushed9 m c t ht) cover9

/-! ## The maxima -/

theorem whole10 (t : Fin cfg0.N) : ∀ a, win0_10.index t a * win0_10.size a = 0 := by
  rcases fin_N0 t with rfl | rfl | rfl | rfl | rfl | rfl | rfl | rfl <;> decide

theorem flushed10 (c : Dev nD) (t : Fin cfg0.N) (ht : (cfg0.win 10).flush t = true) :
    (dats m 0 c).flushed 10 t = (win0_10.blk t).view.read (Elt F) (resTok m c : Buf (Elt F) ((c : Thread nD τ).loc (Pipeline.arrRef spec0 10))) := by
  obtain rfl := eq_last t ((flush0_10 t).mp ht)
  show (cfg0.win 10).cut (grid0.coords last) ((dats m 0 c).after 10 last) = _
  rw [show (dats m 0 c).after 10 last = resTok m c from after0_10 m c last]
  generalize resTok m c = G
  refine funext fun y => ?_
  show G _ = G _
  refine congrArg G (funext fun a => Fin.ext ?_)
  show (y a).val = win0_10.index last a * win0_10.size a + 1 * (y a).val
  rw [whole10 last a]; omega

theorem cover10 (i : S4x32x800.Idx) :
    ∃ t : Fin cfg0.N, (cfg0.win 10).flush t = true ∧ i ∈ ((cfg0.win 10).blk t).view.set := by
  refine ⟨last, (flush0_10 last).mpr rfl, ?_⟩
  show i ∈ ((View.whole (Pipeline.arrRef spec0 10)).slice (win0_10.rect last)).set
  rw [View.set_slice_whole, Rect.mem_set_unit]
  intro a
  show win0_10.index last a * win0_10.size a ≤ (i a : Nat) ∧ (i a : Nat) < win0_10.index last a * win0_10.size a + win0_10.xsize (grid0.coords last) a
  rw [whole10 last a]
  have e : ∀ a, win0_10.xsize (grid0.coords last) a = S4x32x800.size a := by decide
  rw [e a]
  have := (i a).isLt
  omega

theorem final10 (c : Dev nD) : (dats m 0 c).arrAt 10 cfg0.N = resTok m c :=
  (dats m 0 c).arrAt_eq_of_cover 10 (resTok m c) (fun t ht => flushed10 m c t ht) cover10

/-- The maxima, documents before tokens: the transpose after the last point. -/
def resTokT (c : Dev nD) : Vec F S4x800x32 .f32 := transpose S4x800x32 [0, 2, 1] (resTok m c) transposes_S4x32x800_S4x800x32_0_2_1

theorem tail_tok (c : Dev nD) :
    Pipeline.afterTail₀ cfgs (dats m) 0 (V0 m) [hostOps1] c main_v4 = resTokT m c := by
  unfold resTokT
  rw [← final10]
  refine Eq.trans ?_ (congrArg (fun v : Vec F S4x32x800 .f32 => transpose S4x800x32 [0, 2, 1] v transposes_S4x32x800_S4x800x32_0_2_1)
    (Pipeline.withArrays_arr spec0 launch0.win.arr_inj c (V0 m c) (fun w => (dats m 0 c).arrAt w cfg0.N) 10))
  rfl

/-- The run: the four results, the arguments unchanged. -/
theorem run_value : θ_run defs (onTc (τ := τ) (main (F := F))) ⟨m, fun _ => 0, ρ⟩ (fun r => ∀ c : Dev nD,
      r.2.mem ((c.tc : Thread nD τ).loc main_v3_0) = resScores m c
      ∧ r.2.mem ((c.tc : Thread nD τ).loc main_v3_1) = resLoss m c
      ∧ r.2.mem ((c.tc : Thread nD τ).loc main_v3_2) = resKl m c
      ∧ r.2.mem ((c.tc : Thread nD τ).loc main_v4) = resTokT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final7 m c), ((h c).1 8).trans (final8 m c), ((h c).1 9).trans (final9 m c),
      ((h c).2 main_v4 (Pipeline.mem_restRefs_of main_v4 (by decide) (by decide))).trans (tail_tok m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩) (run_main m ρ)

end Cert.KernelIdeal.Gen
-- ==== Proof.RefRead.lean ====
/- The reference's results read entry by entry: the maxima over the tokens, the scores, the losses and the divergences. -/
module

public import proofs.«01_k».proof.Proof.Gen.ReferenceIdeal.Read
public import proofs.«01_k».proof.Proof.Spec
public import Idealize.ShloMosaic.Lib.KernelVsHost
public import Idealize.ShloMosaic.Lib.ValueLayoutCasts
public import Idealize.ShloMosaic.Lib.ValueIdxCore
public import Idealize.ShloMosaic.Lib.ReduceAll

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Idealize.ShloMosaic.ValueIdx
open Cert.Spec

theorem minus_word : (FloatOps.ofBits .f32 0xFF800000#32 : Ideal .f32) = (⊥ : EReal) := by decide
theorem plus_word : (FloatOps.ofBits .f32 0x7F800000#32 : Ideal .f32) = (⊤ : EReal) := by decide
theorem nought_word : (FloatOps.ofBits .f32 0x00000000#32 : Ideal .f32) = (0 : EReal) := Ideal.ofBits_zero_f32

/-- A choice by a decided bit. -/
theorem choose {α : Type} (P : Prop) [Decidable P] (a b : α) : Scalar.select (BitVec.ofBool (decide P)) a b = if P then a else b := by
  by_cases h : P
  · rw [decide_eq_true h, if_pos h]; rfl
  · rw [decide_eq_false h, if_neg h]; rfl

/-! ## Row maxima -/

theorem max_tokens (v : FVec Ideal S800x300x4x32 .f32) (n : Fin 800) (b : Fin 4) (r : Fin 32) :
    Host.reduce FloatOps.maximumf v (constant S_ .f32 0xFF800000#32) reducesTo_S800x300x4x32_S800x4x32_d1 h_S_ (ix3 n b r)
      = rowMax fun s : Fin 300 => v (ix4 n s b r) := by
  rw [hostReduce_maximumf_eq_multiReduction v 0xFF800000#32 reducesTo_S800x300x4x32_S800x4x32_d1 h_S_ (by decide) (.inl rfl) rfl]
  refine (Ideal.multiReduction_maximumf_single v _ _ _ _ (ix3 n b r)).trans ?_
  refine congrArg₂ (fun z f => (Finset.univ : Finset (Fin 300)).fold max z f) minus_word (funext fun s => congrArg v ?_)
  funext a; apply Fin.ext
  match a with
  | ⟨0, _⟩ => rfl
  | ⟨1, _⟩ => rfl
  | ⟨2, _⟩ => rfl
  | ⟨3, _⟩ => rfl

theorem max_docs (v : FVec Ideal S4x800 .f32) (b : Fin 4) :
    Host.reduce FloatOps.maximumf v (constant S_ .f32 0xFF800000#32) reducesTo_S4x800_S4_d1 h_S_ (ix1 b)
      = rowMax fun j : Fin 800 => v (ix2 b j) := by
  rw [hostReduce_maximumf_eq_multiReduction v 0xFF800000#32 reducesTo_S4x800_S4_d1 h_S_ (by decide) (.inl rfl) rfl]
  refine (Ideal.multiReduction_maximumf_single v _ _ _ _ (ix1 b)).trans ?_
  refine congrArg₂ (fun z f => (Finset.univ : Finset (Fin 800)).fold max z f) minus_word (funext fun s => congrArg v ?_)
  funext a; apply Fin.ext
  match a with
  | ⟨0, _⟩ => rfl
  | ⟨1, _⟩ => rfl

theorem max_own_docs (v : FVec Ideal S4x200 .f32) (b : Fin 4) :
    Host.reduce FloatOps.maximumf v (constant S_ .f32 0xFF800000#32) reducesTo_S4x200_S4_d1 h_S_ (ix1 b)
      = rowMax fun j : Fin 200 => v (ix2 b j) := by
  rw [hostReduce_maximumf_eq_multiReduction v 0xFF800000#32 reducesTo_S4x200_S4_d1 h_S_ (by decide) (.inl rfl) rfl]
  refine (Ideal.multiReduction_maximumf_single v _ _ _ _ (ix1 b)).trans ?_
  refine congrArg₂ (fun z f => (Finset.univ : Finset (Fin 200)).fold max z f) minus_word (funext fun s => congrArg v ?_)
  funext a; apply Fin.ext
  match a with
  | ⟨0, _⟩ => rfl
  | ⟨1, _⟩ => rfl

/-! ## Reading the two gathers -/

/-- The gather of one score per query. -/
theorem gather_pos (x : FVec Ideal S4x800 .f32) (idx : IVec S4x1x1 32) (b : Fin 4) :
    Host.gather gather_S4x800_S4x1x1_S4x1_n_1_0_0_1_2_11 x idx (ix2 b (0 : Fin 1))
      = x (ix2 b ⟨min (idx (ix3 b (0 : Fin 1) (0 : Fin 1))).toInt.toNat 799, by omega⟩) := by
  unfold Host.gather
  congr 1
  funext a
  refine Fin.ext ?_
  show gather_S4x800_S4x1x1_S4x1_n_1_0_0_1_2_11.start (ix2 b (0 : Fin 1)) idx a + gather_S4x800_S4x1x1_S4x1_n_1_0_0_1_2_11.batchCoord (ix2 b (0 : Fin 1)) a
      + gather_S4x800_S4x1x1_S4x1_n_1_0_0_1_2_11.offCoord (ix2 b (0 : Fin 1)) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S4x800_S4x1x1_S4x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4x800_S4x1x1_S4x1_n_1_0_0_1_2_11.startIndexMap from List.mem_singleton.mpr rfl)]
    have hsi : gather_S4x800_S4x1x1_S4x1_n_1_0_0_1_2_11.siIdx (ix2 b (0 : Fin 1)) ⟨List.idxOf (1 : Fin 2) gather_S4x800_S4x1x1_S4x1_n_1_0_0_1_2_11.startIndexMap,
        List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-- The gather of each query's own block of scores. -/
theorem gather_own (x : FVec Ideal S4x4x200 .f32) (idx : IVec S4x2 32) (b : Fin 4) (i : Fin 200) :
    Host.gather gather_S4x4x200_S4x2_S4x200_1_01_n_n_01_1_11200 x idx (ix2 b i)
      = x (ix3 (⟨min (idx (ix2 b (0 : Fin 2))).toInt.toNat 3, by omega⟩ : Fin 4) (⟨min (idx (ix2 b (1 : Fin 2))).toInt.toNat 3, by omega⟩ : Fin 4) i) := by
  unfold Host.gather
  congr 1
  funext a
  refine Fin.ext ?_
  show gather_S4x4x200_S4x2_S4x200_1_01_n_n_01_1_11200.start (ix2 b i) idx a + gather_S4x4x200_S4x2_S4x200_1_01_n_n_01_1_11200.batchCoord (ix2 b i) a
      + gather_S4x4x200_S4x2_S4x200_1_01_n_n_01_1_11200.offCoord (ix2 b i) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (by decide))]
    simp only [Nat.add_zero]
    unfold GatherDims.start
    rw [dif_pos (show (0 : Fin 3) ∈ gather_S4x4x200_S4x2_S4x200_1_01_n_n_01_1_11200.startIndexMap by decide)]
    have hsi : gather_S4x4x200_S4x2_S4x200_1_01_n_n_01_1_11200.siIdx (ix2 b i) ⟨List.idxOf (0 : Fin 3) gather_S4x4x200_S4x2_S4x200_1_01_n_n_01_1_11200.startIndexMap,
        List.idxOf_lt_length_iff.2 (by decide)⟩ = ix2 b (0 : Fin 2) := by
      funext c; refine Fin.ext ?_
      match c with
      | ⟨0, _⟩ => rfl
      | ⟨1, _⟩ => rfl
    rw [hsi]
    rfl
  · rw [GatherDims.offCoord_eq_zero _ _ _ (fun h => ((GatherDims.mem_sKept _ _).mp h).1 (by decide))]
    simp only [Nat.add_zero]
    unfold GatherDims.start
    rw [dif_pos (show (1 : Fin 3) ∈ gather_S4x4x200_S4x2_S4x200_1_01_n_n_01_1_11200.startIndexMap by decide)]
    have hsi : gather_S4x4x200_S4x2_S4x200_1_01_n_n_01_1_11200.siIdx (ix2 b i) ⟨List.idxOf (1 : Fin 3) gather_S4x4x200_S4x2_S4x200_1_01_n_n_01_1_11200.startIndexMap,
        List.idxOf_lt_length_iff.2 (by decide)⟩ = ix2 b (1 : Fin 2) := by
      funext c; refine Fin.ext ?_
      match c with
      | ⟨0, _⟩ => rfl
      | ⟨1, _⟩ => rfl
    rw [hsi]
    rfl
  · unfold GatherDims.start
    rw [dif_neg (show ¬(2 : Fin 3) ∈ gather_S4x4x200_S4x2_S4x200_1_01_n_n_01_1_11200.startIndexMap by decide)]
    simp only [Nat.zero_add, Nat.add_zero]
    unfold GatherDims.offCoord
    rw [dif_pos (show (2 : Fin 3) ∈ gather_S4x4x200_S4x2_S4x200_1_01_n_n_01_1_11200.sKept by decide)]
    rfl

section
variable (x1 : (⟨S4x32, .f32⟩ : BufTy).Contents (Elt Ideal)) (x3 : (⟨S800x300, .f32⟩ : BufTy).Contents (Elt Ideal))
  (x4 : (⟨S800, .i32⟩ : BufTy).Contents (Elt Ideal)) (x5 : (⟨S4, .i32⟩ : BufTy).Contents (Elt Ideal)) (x6 : (⟨S4x200, .f32⟩ : BufTy).Contents (Elt Ideal))
  (r0 : (⟨S4x32x96, .f32⟩ : BufTy).Contents (Elt Ideal)) (r1 : (⟨S800x300x96, .f32⟩ : BufTy).Contents (Elt Ideal))

/-! ## The maxima and the scores -/

/-- A document's token counted when it is below the document's length. -/
theorem masked (n : Fin 800) (s : Fin 300) (b : Fin 4) (r : Fin 32) :
    val_main_call0_v1 (F := Ideal) x4 (ix4 n s b r) = BitVec.ofBool (decide ((s.val : ℤ) < (x4 (ix1 n)).toInt)) := by
  rw [val_main_call0_v1_apply, val_main_v7_apply, val_main_v6_apply, val_main_v4_apply, val_main_v2_apply, val_main_v1_apply, val_main_v5_apply, val_main_v3_apply]
  show BitVec.ofBool ((BitVec.ofNat 32 s.val).slt (x4 _)) = _
  rw [BitVec.slt_eq_decide]
  have hs : (BitVec.ofNat 32 s.val).toInt = s.val := by
    have := s.isLt
    rw [BitVec.toInt_eq_toNat_of_lt (by rw [BitVec.toNat_ofNat]; omega), BitVec.toNat_ofNat]
    omega
  rw [hs]
  refine congrArg (fun z => BitVec.ofBool (decide ((s.val : ℤ) < (x4 z).toInt))) ?_
  funext a
  match a with
  | ⟨0, _⟩ => rfl

theorem term (n : Fin 800) (s : Fin 300) (b : Fin 4) (r : Fin 32) :
    val_main_v14 (F := Ideal) x1 x3 r0 r1 (ix4 n s b r)
      = ((∑ k : Fin 96, (r1 (ix3 n s k) : EReal) * (r0 (ix3 b r k) : EReal)) * (x1 (ix2 b r) : EReal)) * (x3 (ix2 n s) : EReal) := by
  rw [val_main_v14_apply, val_main_v11_apply, val_main_v8_apply, val_main_v10_apply, val_main_v9_apply, val_main_v13_apply, val_main_v12_apply]
  refine congrArg₂ (fun x y : EReal => x * y) (congrArg₂ (fun x y : EReal => x * y) (Finset.sum_congr rfl fun k _ => congrArg₂ (fun x y : EReal => x * y) (congrArg r1 ?_) (congrArg r0 ?_)) (congrArg x1 ?_)) (congrArg x3 ?_)
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl
  · funext a
    match a with
    | ⟨0, _⟩ => rfl
    | ⟨1, _⟩ => rfl
  · funext a
    match a with
    | ⟨0, _⟩ => rfl
    | ⟨1, _⟩ => rfl

/-- A token's maximum over a document's tokens. -/
theorem tok_apply (b : Fin 4) (n : Fin 800) (r : Fin 32) :
    val_main_v17 (F := Ideal) x1 x3 x4 r0 r1 (ix3 b n r)
      = rowMax fun s : Fin 300 => if (s.val : ℤ) < (x4 (ix1 n)).toInt then
          ((∑ k : Fin 96, (r1 (ix3 n s k) : EReal) * (r0 (ix3 b r k) : EReal)) * (x1 (ix2 b r) : EReal)) * (x3 (ix2 n s) : EReal) else ⊥ := by
  rw [val_main_v17_apply]
  have h : idx_main_v17 (ix3 b n r) = ix3 n b r := funext fun a => match a with
    | ⟨0, _⟩ => rfl
    | ⟨1, _⟩ => rfl
    | ⟨2, _⟩ => rfl
  rw [h]
  unfold val_main_v16 val_main_cst_0
  rw [max_tokens]
  refine congrArg rowMax (funext fun s => ?_)
  rw [val_main_v15_apply, masked, choose, term, val_main_call0_v2_apply, val_main_call0_v0_apply, val_main_cst_apply]
  exact congrArg (fun z => ite _ _ z) minus_word

/-- A score is the sum of the maxima. -/
theorem score_apply (b : Fin 4) (n : Fin 800) :
    val_main_v18 (F := Ideal) x1 x3 x4 r0 r1 (ix2 b n) = ∑ r : Fin 32, (val_main_v17 (F := Ideal) x1 x3 x4 r0 r1 (ix3 b n r) : EReal) := by
  rw [val_main_v18_apply, val_main_cst_1_apply]
  refine (congrArg (fun z : EReal => z + _) nought_word).trans ((zero_add _).trans (Finset.sum_congr rfl fun r _ => congrArg (val_main_v17 (F := Ideal) x1 x3 x4 r0 r1) ?_))
  funext a
  match a with
  | ⟨0, _⟩ => rfl
  | ⟨1, _⟩ => rfl
  | ⟨2, _⟩ => rfl

/-! ## The cross entropy -/

theorem rowTop (b : Fin 4) : val_main_v20 (F := Ideal) x1 x3 x4 r0 r1 (ix2 b (0 : Fin 1))
    = rowMax fun j => val_main_v18 (F := Ideal) x1 x3 x4 r0 r1 (ix2 b j) := by
  rw [val_main_v20_apply]
  have h : idx_main_v20 (ix2 b (0 : Fin 1)) = ix1 b := funext fun a => match a with
    | ⟨0, _⟩ => rfl
  rw [h]
  unfold val_main_v19 val_main_cst_2
  exact max_docs _ b

theorem rowFin (b : Fin 4) : val_main_v24 (F := Ideal) x1 x3 x4 r0 r1 (ix2 b (0 : Fin 1))
    = finE (rowMax fun j => val_main_v18 (F := Ideal) x1 x3 x4 r0 r1 (ix2 b j)) := by
  rw [val_main_v24_apply, val_main_v23_apply, val_main_v21_apply, val_main_v22_apply, val_main_cst_3_apply, val_main_call1_v1_apply,
    val_main_call1_v0_apply, val_main_cst_4_apply, rowTop]
  unfold finE
  generalize (rowMax fun j => val_main_v18 (F := Ideal) x1 x3 x4 r0 r1 (ix2 b j)) = M
  refine Eq.trans (choose (max M (-M) < (FloatOps.ofBits .f32 0x7F800000#32 : Ideal .f32)) M (FloatOps.ofBits .f32 0x00000000#32 : Ideal .f32)) ?_
  rw [plus_word, nought_word]

theorem lse_apply (b : Fin 4) : val_main_v31 (F := Ideal) x1 x3 x4 r0 r1 (ix1 b)
    = lseE fun j => val_main_v18 (F := Ideal) x1 x3 x4 r0 r1 (ix2 b j) := by
  have h25 : ∀ j : Fin 800, idx_main_v25 (ix2 b j) = ix2 b (0 : Fin 1) := fun j => funext fun a => match a with
    | ⟨0, _⟩ => rfl
    | ⟨1, _⟩ => rfl
  have h28 : ∀ j : Fin 800, idx_main_v28 (ix1 b) j = ix2 b j := fun j => funext fun a => match a with
    | ⟨0, _⟩ => rfl
    | ⟨1, _⟩ => rfl
  have h30 : idx_main_v30 (ix1 b) = ix2 b (0 : Fin 1) := funext fun a => match a with
    | ⟨0, _⟩ => Fin.ext (Nat.div_one _)
    | ⟨1, _⟩ => rfl
  rw [val_main_v31_apply, val_main_v29_apply, val_main_v28_apply, val_main_cst_5_apply, val_main_v30_apply, h30, rowFin]
  unfold lseE
  refine congrArg (fun z : EReal => Ideal.log z + _) ((congrArg (fun z : EReal => z + _) nought_word).trans ((zero_add _).trans (Finset.sum_congr rfl fun j _ => ?_)))
  rw [h28, val_main_v27_apply, val_main_v26_apply, val_main_v25_apply, h25, rowFin]
  rfl

/-- The positives' places are among the documents. -/
def InRange : Prop := ∀ b : Fin 4, ∃ j : Fin 800, x5 (ix1 b) = BitVec.ofNat 32 j.val

theorem place_word (hp : InRange x5) (b : Fin 4) : val_main_call2_v4 (F := Ideal) x5 (ix2 b (0 : Fin 1)) = x5 (ix1 b) := by
  have h : idx_main_v32 (ix2 b (0 : Fin 1)) = ix1 b := funext fun a => match a with
    | ⟨0, _⟩ => rfl
  rw [val_main_call2_v4_apply, val_main_call2_v1_apply, val_main_call2_v3_apply, val_main_v32_apply, val_main_call2_v0_apply, val_main_call2_c_apply, h]
  obtain ⟨j, hj⟩ := hp b
  rw [hj]
  show Scalar.select (BitVec.ofBool ((BitVec.ofNat 32 j.val).slt 0#32)) _ _ = _
  have hs : (BitVec.ofNat 32 j.val).toInt = j.val := by
    have := j.isLt
    rw [BitVec.toInt_eq_toNat_of_lt (by rw [BitVec.toNat_ofNat]; omega), BitVec.toNat_ofNat]
    omega
  rw [BitVec.slt_eq_decide, hs, choose, if_neg]
  exact fun h => absurd (show ((j.val : ℕ) : ℤ) < 0 from h) (by omega)

theorem place_word3 (hp : InRange x5) (b : Fin 4) : val_main_call2_v5 (F := Ideal) x5 (ix3 b (0 : Fin 1) (0 : Fin 1)) = x5 (ix1 b) := by
  unfold val_main_call2_v5
  refine (shapeCast_apply _ shapeCasts_S4x1_S4x1x1 _ (ix2 b (0 : Fin 1)) ?_).trans (place_word x5 hp b)
  rw [Shape.rowMajor_val_two, Shape.rowMajor_val_three]
  show b.val * 1 + 0 = (b.val * 1 + 0) * 1 + 0
  omega

theorem place_ok (hp : InRange x5) (b : Fin 4) : val_main_call2_v12 (F := Ideal) x5 (ix2 b (0 : Fin 1)) = 1#1 := by
  unfold val_main_call2_v12
  have key : ∀ q : Fin 4, val_main_call2_v11 (F := Ideal) x5 (ix3 q (0 : Fin 1) (0 : Fin 1)) = 1#1 := fun q => by
    rw [val_main_call2_v11_apply, val_main_call2_v7_apply, val_main_call2_v10_apply, val_main_call2_v6_apply, val_main_call2_c_2_apply,
      val_main_call2_v9_apply, val_main_call2_v8_apply, val_main_call2_c_1_apply, place_word3 x5 hp]
    obtain ⟨j, hj⟩ := hp q
    rw [hj]
    have hs : (BitVec.ofNat 32 j.val).toInt = j.val := by
      have := j.isLt
      rw [BitVec.toInt_eq_toNat_of_lt (by rw [BitVec.toNat_ofNat]; omega), BitVec.toNat_ofNat]
      omega
    show BitVec.ofBool ((0#32).sle (BitVec.ofNat 32 j.val)) &&& BitVec.ofBool ((BitVec.ofNat 32 j.val).sle 799#32) = 1#1
    rw [BitVec.sle_eq_decide, BitVec.sle_eq_decide, hs, decide_eq_true (show (0#32).toInt ≤ (j.val : ℤ) from (by show (0 : ℤ) ≤ _; omega)),
      decide_eq_true (show (j.val : ℤ) ≤ (799#32).toInt from (by show (j.val : ℤ) ≤ (799 : ℤ); have := j.isLt; omega))]
    rfl
  refine Host.reduce_andi_one _ _ _ _ _ (val_main_call2_c_3_apply _) fun i => ?_
  have hi : i = ix3 (i 0 : Fin 4) (0 : Fin 1) (0 : Fin 1) := funext fun a => match a with
    | ⟨0, _⟩ => rfl
    | ⟨1, _⟩ => Fin.ext (Nat.lt_one_iff.mp (i 1).isLt)
    | ⟨2, _⟩ => Fin.ext (Nat.lt_one_iff.mp (i 2).isLt)
  exact (congrArg (val_main_call2_v11 (F := Ideal) x5) hi).trans (key (i 0))

/-- The positive's score. -/
theorem pos_apply (hp : InRange x5) (b : Fin 4) (j : Fin 800) (hj : x5 (ix1 b) = BitVec.ofNat 32 j.val) :
    val_main_v34 (F := Ideal) x1 x3 x4 x5 r0 r1 (ix1 b) = val_main_v18 (F := Ideal) x1 x3 x4 r0 r1 (ix2 b j) := by
  unfold val_main_v34
  refine (shapeCast_apply _ shapeCasts_S4x1_S4 _ (ix2 b (0 : Fin 1)) ?_).trans ?_
  · rw [Shape.rowMajor_val_two, Shape.rowMajor_val_one]
    show b.val * 1 + 0 = b.val
    omega
  · rw [val_main_v33_apply, place_ok x5 hp]
    refine Eq.trans (show Scalar.select 1#1 _ _ = val_main_call2_v13 (F := Ideal) x1 x3 x4 x5 r0 r1 (ix2 b (0 : Fin 1)) from rfl) ?_
    unfold val_main_call2_v13
    rw [gather_pos]
    refine congrArg (fun k => val_main_v18 (F := Ideal) x1 x3 x4 r0 r1 (ix2 b k)) (Fin.ext ?_)
    show min (val_main_call2_v5 (F := Ideal) x5 (ix3 b (0 : Fin 1) (0 : Fin 1))).toInt.toNat 799 = j.val
    have := j.isLt
    rw [place_word3 x5 hp, hj, BitVec.toInt_eq_toNat_of_lt (by rw [BitVec.toNat_ofNat]; omega), BitVec.toNat_ofNat]
    omega

/-! ## The divergence -/

theorem block_word (b : Fin 4) : val_main_v42 (F := Ideal) (ix1 b) = BitVec.ofNat 32 b.val ∧ val_main_v47 (F := Ideal) (ix1 b) = BitVec.ofNat 32 b.val := by
  constructor
  · rw [val_main_v42_apply, val_main_v39_apply, val_main_v36_apply, val_main_v38_apply, val_main_c_apply]
    match b with
    | 0 => rfl
    | 1 => rfl
    | 2 => rfl
    | 3 => rfl
  · rw [val_main_v47_apply, val_main_v44_apply, val_main_v36_apply, val_main_v43_apply, val_main_c_7_apply]
    match b with
    | 0 => rfl
    | 1 => rfl
    | 2 => rfl
    | 3 => rfl

theorem block_pair (b : Fin 4) (k : Fin 2) : val_main_v50 (F := Ideal) (ix2 b k) = BitVec.ofNat 32 b.val := by
  let f : Fin 2 → S4x1.Idx → BitVec 32 := ![val_main_v48 (F := Ideal), val_main_v49 (F := Ideal)]
  have hc : val_main_v50 (F := Ideal) (ix2 b k) = f k (ix2 b (0 : Fin 1)) :=
    concatenate_ofFn_unit_apply (t := S4x2) (s₁ := S4x1) 1 f concatenates_S4x1_S4x1_S4x2_d1 rfl rfl (ix2 b k) k rfl
      (ix2 b (0 : Fin 1)) (fun a ha => by
        match a with
        | ⟨0, _⟩ => rfl
        | ⟨1, _⟩ => exact absurd rfl ha)
  have h48 : idx_main_v48 (ix2 b (0 : Fin 1)) = ix1 b := funext fun a => match a with
    | ⟨0, _⟩ => rfl
  have h49 : idx_main_v49 (ix2 b (0 : Fin 1)) = ix1 b := funext fun a => match a with
    | ⟨0, _⟩ => rfl
  rw [hc]
  match k with
  | 0 =>
    show val_main_v48 (F := Ideal) (ix2 b (0 : Fin 1)) = _
    rw [val_main_v48_apply, h48]
    exact (block_word b).1
  | 1 =>
    show val_main_v49 (F := Ideal) (ix2 b (0 : Fin 1)) = _
    rw [val_main_v49_apply, h49]
    exact (block_word b).2

/-- The scores of a query's own documents. -/
theorem own_apply (b : Fin 4) (i : Fin 200) :
    val_main_v51 (F := Ideal) x1 x3 x4 r0 r1 (ix2 b i) = val_main_v18 (F := Ideal) x1 x3 x4 r0 r1 (ix2 b (own b i)) := by
  unfold val_main_v51
  rw [gather_own]
  have hb : ∀ (k : Fin 2) (h : min (val_main_v50 (F := Ideal) (ix2 b k)).toInt.toNat 3 < 4),
      (⟨min (val_main_v50 (F := Ideal) (ix2 b k)).toInt.toNat 3, h⟩ : Fin 4) = b := fun k h => Fin.ext (by
    show min (val_main_v50 (F := Ideal) (ix2 b k)).toInt.toNat 3 = b.val
    rw [block_pair]
    match b with
    | 0 => rfl
    | 1 => rfl
    | 2 => rfl
    | 3 => rfl)
  rw [hb, hb]
  unfold val_main_v37
  refine shapeCast_apply _ shapeCasts_S4x800_S4x4x200 _ (ix2 b (own b i)) ?_
  rw [Shape.rowMajor_val_two, Shape.rowMajor_val_three]
  show b.val * 800 + (200 * b.val + i.val) = (b.val * 4 + b.val) * 200 + i.val
  omega

theorem maxBot (x : EReal) : max (FloatOps.ofBits .f32 0xFF800000#32 : Ideal .f32) x = x := by
  rw [minus_word]
  exact max_eq_right bot_le

theorem teacher_apply (b : Fin 4) (i : Fin 200) : val_main_v52 (F := Ideal) x6 (ix2 b i) = lsmE (fun k => x6 (ix2 b k)) i := by
  have h4 : ∀ k : Fin 200, idx_main_call3_v4 (ix2 b k) = ix2 b (0 : Fin 1) := fun k => funext fun a => match a with
    | ⟨0, _⟩ => rfl
    | ⟨1, _⟩ => rfl
  have h10 : idx_main_call3_v10 (ix2 b i) = ix2 b (0 : Fin 1) := funext fun a => match a with
    | ⟨0, _⟩ => rfl
    | ⟨1, _⟩ => rfl
  have h3 : idx_main_call3_v3 (ix2 b (0 : Fin 1)) = ix1 b := funext fun a => match a with
    | ⟨0, _⟩ => rfl
  have h8 : idx_main_call3_v8 (ix2 b (0 : Fin 1)) = ix1 b := funext fun a => match a with
    | ⟨0, _⟩ => rfl
  have h7 : ∀ k : Fin 200, idx_main_call3_v7 (ix1 b) k = ix2 b k := fun k => funext fun a => match a with
    | ⟨0, _⟩ => rfl
    | ⟨1, _⟩ => rfl
  have hm : val_main_call3_v2 (F := Ideal) x6 (ix1 b) = rowMax fun k => x6 (ix2 b k) := by
    rw [val_main_call3_v2_apply, val_main_call3_v1_apply, val_main_call3_cst_0_apply]
    refine (maxBot _).trans ?_
    unfold val_main_call3_v0 val_main_call3_cst
    exact max_own_docs _ b
  have h5 : ∀ k : Fin 200, val_main_call3_v5 (F := Ideal) x6 (ix2 b k) = (x6 (ix2 b k) : EReal) - rowMax fun k => x6 (ix2 b k) := fun k => by
    rw [val_main_call3_v5_apply, val_main_call3_v4_apply, h4, val_main_call3_v3_apply, h3, hm]
    rfl
  rw [val_main_v52_apply, h5, val_main_call3_v10_apply, h10, val_main_call3_v9_apply, val_main_call3_v8_apply, h8, val_main_call3_v7_apply, val_main_call3_cst_1_apply]
  unfold lsmE
  refine congrArg (fun z : EReal => ((x6 (ix2 b i) : EReal) - rowMax fun k => x6 (ix2 b k)) - Ideal.log z) ((congrArg (fun z : EReal => z + _) nought_word).trans ((zero_add _).trans (Finset.sum_congr rfl fun k _ => ?_)))
  rw [h7, val_main_call3_v6_apply, h5]
  rfl

theorem student_apply (b : Fin 4) (i : Fin 200) : val_main_v53 (F := Ideal) x1 x3 x4 r0 r1 (ix2 b i)
    = lsmE (fun k => val_main_v18 (F := Ideal) x1 x3 x4 r0 r1 (ix2 b (own b k))) i := by
  have h4 : ∀ k : Fin 200, idx_main_call4_v4 (ix2 b k) = ix2 b (0 : Fin 1) := fun k => funext fun a => match a with
    | ⟨0, _⟩ => rfl
    | ⟨1, _⟩ => rfl
  have h10 : idx_main_call4_v10 (ix2 b i) = ix2 b (0 : Fin 1) := funext fun a => match a with
    | ⟨0, _⟩ => rfl
    | ⟨1, _⟩ => rfl
  have h3 : idx_main_call4_v3 (ix2 b (0 : Fin 1)) = ix1 b := funext fun a => match a with
    | ⟨0, _⟩ => rfl
  have h8 : idx_main_call4_v8 (ix2 b (0 : Fin 1)) = ix1 b := funext fun a => match a with
    | ⟨0, _⟩ => rfl
  have h7 : ∀ k : Fin 200, idx_main_call4_v7 (ix1 b) k = ix2 b k := fun k => funext fun a => match a with
    | ⟨0, _⟩ => rfl
    | ⟨1, _⟩ => rfl
  have hm : val_main_call4_v2 (F := Ideal) x1 x3 x4 r0 r1 (ix1 b) = rowMax fun k => val_main_v18 (F := Ideal) x1 x3 x4 r0 r1 (ix2 b (own b k)) := by
    rw [val_main_call4_v2_apply, val_main_call4_v1_apply, val_main_call4_cst_0_apply]
    refine (maxBot _).trans ?_
    unfold val_main_call4_v0 val_main_call4_cst
    exact (max_own_docs _ b).trans (congrArg rowMax (funext fun k => own_apply x1 x3 x4 r0 r1 b k))
  have h5 : ∀ k : Fin 200, val_main_call4_v5 (F := Ideal) x1 x3 x4 r0 r1 (ix2 b k) = (val_main_v18 (F := Ideal) x1 x3 x4 r0 r1 (ix2 b (own b k)) : EReal)
      - rowMax fun k => val_main_v18 (F := Ideal) x1 x3 x4 r0 r1 (ix2 b (own b k)) := fun k => by
    rw [val_main_call4_v5_apply, val_main_call4_v4_apply, h4, val_main_call4_v3_apply, h3, hm, own_apply]
    rfl
  rw [val_main_v53_apply, h5, val_main_call4_v10_apply, h10, val_main_call4_v9_apply, val_main_call4_v8_apply, h8, val_main_call4_v7_apply, val_main_call4_cst_1_apply]
  unfold lsmE
  refine congrArg (fun z : EReal => ((val_main_v18 (F := Ideal) x1 x3 x4 r0 r1 (ix2 b (own b i)) : EReal) - rowMax fun k => val_main_v18 (F := Ideal) x1 x3 x4 r0 r1 (ix2 b (own b k))) - Ideal.log z)
    ((congrArg (fun z : EReal => z + _) nought_word).trans ((zero_add _).trans (Finset.sum_congr rfl fun k _ => ?_)))
  rw [h7, val_main_call4_v6_apply, h5]
  rfl

/-- The divergence. -/
theorem kl_apply (b : Fin 4) : val_main_v57 (F := Ideal) x1 x3 x4 x6 r0 r1 (ix1 b)
    = klE (fun i => val_main_v18 (F := Ideal) x1 x3 x4 r0 r1 (ix2 b (own b i))) fun i => x6 (ix2 b i) := by
  have h57 : ∀ k : Fin 200, idx_main_v57 (ix1 b) k = ix2 b k := fun k => funext fun a => match a with
    | ⟨0, _⟩ => rfl
    | ⟨1, _⟩ => rfl
  rw [val_main_v57_apply, val_main_cst_9_apply]
  unfold klE
  refine (congrArg (fun z : EReal => z + _) nought_word).trans ((zero_add _).trans (Finset.sum_congr rfl fun k _ => ?_))
  rw [h57, val_main_v56_apply, val_main_v54_apply, val_main_v55_apply, teacher_apply, student_apply]
  rfl

/-- The loss. -/
theorem loss_apply (hp : InRange x5) (b : Fin 4) (j : Fin 800) (hj : x5 (ix1 b) = BitVec.ofNat 32 j.val) :
    val_main_v58 (F := Ideal) x1 x3 x4 x5 x6 r0 r1 (ix1 b)
      = ((lseE fun j => val_main_v18 (F := Ideal) x1 x3 x4 r0 r1 (ix2 b j)) - (val_main_v18 (F := Ideal) x1 x3 x4 r0 r1 (ix2 b j) : EReal))
        + klE (fun i => val_main_v18 (F := Ideal) x1 x3 x4 r0 r1 (ix2 b (own b i))) fun i => x6 (ix2 b i) := by
  rw [val_main_v58_apply, val_main_v35_apply, lse_apply, pos_apply x1 x3 x4 x5 r0 r1 hp b j hj, kl_apply]
  rfl

end

end Cert.ReferenceIdeal.Read
-- ==== Proof.RefRegion.lean ====
/- The reference's arrays of codes as its region leaves them, and its run over the arguments. -/
module

public import proofs.«01_k».proof.Proof.RefRead

@[expose] public section

set_option maxRecDepth 16384

noncomputable section

namespace Cert.ReferenceIdeal.Read

open Cert.ReferenceIdeal Cert.ReferenceIdeal.Gen Cert.ReferenceIdeal.Value Idealize.ShloMosaic Idealize.ShloMosaic.TcCoe Idealize.ShloMosaic.Tactic
open Idealize.ShloMosaic.Pipeline Idealize.ShloMosaic.Rounds Idealize.ShloMosaic.ValueIdx

variable (m : (ℓ : Loc nD τ sig) → Buf (Elt Ideal) ℓ) (ρ : Dev nD → PrngReg)

/-- The queries' codes. -/
abbrev bQ (c : Dev nD) : S4x32x96.Idx → EReal := m ((c.tc : Thread nD τ).loc main_arg0)
/-- The documents' codes. -/
abbrev bD (c : Dev nD) : S800x300x96.Idx → EReal := m ((c.tc : Thread nD τ).loc main_arg2)

theorem off3 : (![0, 0, 0] : Fin 3 → ℕ) = fun _ => 0 := funext (by decide)

/-! ## The queries' codes -/

theorem iblk0 (c : Dev nD) (t : Fin cfg0.N) : iblk m c 0 t = (bQ m c : Vec Ideal S4x32x96 .fp8e4m3) := by
  refine Eq.trans (funext fun y => ?_) (V_main_arg0 m c)
  refine congrArg (V m c main_arg0) (funext fun a => Fin.ext ?_)
  show win0_0.index t a * win0_0.size a + 1 * (y a).val = (y a).val
  rw [show win0_0.index t a * win0_0.size a = 0 from Nat.zero_mul _]; omega

theorem out2 (x0 : Vec Ideal S4x32x96 .fp8e4m3) (x1 : Vec Ideal S800x300x96 .fp8e4m3) :
    (out0_2 x0 x1 : Vec Ideal S4x32x96 .f32) = (x0 : S4x32x96.Idx → EReal) := by
  unfold out0_2
  rw [View.canon_unit_zero off3, View.ld_unit_zero off3]
  rfl

theorem flushed2 (c : Dev nD) (t : Fin cfg0.N) :
    (dats m 0 c).flushed 2 t = (win0_2.blk t).view.read (Elt Ideal) (bQ m c : Buf (Elt Ideal) ((c : Thread nD τ).loc (Pipeline.arrRef spec0 2))) := by
  show (cfg0.win 2).cut (grid0.coords t) ((dats m 0 c).after 2 t) = _
  rw [(after0_2 m c t).trans ((out2 _ _).trans (iblk0 m c t))]
  generalize bQ m c = G
  refine funext fun y => ?_
  show G _ = G _
  refine congrArg G (funext fun a => Fin.ext ?_)
  show (y a).val = win0_2.index t a * win0_2.size a + 1 * (y a).val
  rw [show win0_2.index t a * win0_2.size a = 0 from Nat.zero_mul _]; omega

theorem cover2 (i : S4x32x96.Idx) :
    ∃ t : Fin cfg0.N, (cfg0.win 2).flush t = true ∧ i ∈ ((cfg0.win 2).blk t).view.set := by
  refine ⟨t0_0, flush0_2 t0_0, ?_⟩
  show i ∈ ((View.whole (Pipeline.arrRef spec0 2)).slice (win0_2.rect t0_0)).set
  rw [View.set_slice_whole, Rect.mem_set_unit]
  intro a
  show win0_2.index t0_0 a * win0_2.size a ≤ (i a : Nat) ∧ (i a : Nat) < win0_2.index t0_0 a * win0_2.size a + win0_2.xsize (grid0.coords t0_0) a
  rw [show win0_2.index t0_0 a * win0_2.size a = 0 from Nat.zero_mul _]
  have e : ∀ a, win0_2.xsize (grid0.coords t0_0) a = S4x32x96.size a := by decide
  rw [e a]
  have := (i a).isLt
  omega

/-- The region leaves the queries' codes, as numbers. -/
theorem reg_bQ (c : Dev nD) : reg_main_v0_0 m c = bQ m c :=
  (dats m 0 c).arrAt_eq_of_cover 2 (bQ m c) (fun t ht => flushed2 m c t) cover2

/-! ## The documents' codes -/

theorem iblk1 (c : Dev nD) (t : Fin cfg0.N) : iblk m c 1 t = (bD m c : Vec Ideal S800x300x96 .fp8e4m3) := by
  refine Eq.trans (funext fun y => ?_) (V_main_arg2 m c)
  refine congrArg (V m c main_arg2) (funext fun a => Fin.ext ?_)
  show win0_1.index t a * win0_1.size a + 1 * (y a).val = (y a).val
  rw [show win0_1.index t a * win0_1.size a = 0 from Nat.zero_mul _]; omega

theorem out3 (x0 : Vec Ideal S4x32x96 .fp8e4m3) (x1 : Vec Ideal S800x300x96 .fp8e4m3) :
    (out0_3 x0 x1 : Vec Ideal S800x300x96 .f32) = (x1 : S800x300x96.Idx → EReal) := by
  unfold out0_3
  rw [View.canon_unit_zero off3, View.ld_unit_zero off3]
  rfl

theorem flushed3 (c : Dev nD) (t : Fin cfg0.N) :
    (dats m 0 c).flushed 3 t = (win0_3.blk t).view.read (Elt Ideal) (bD m c : Buf (Elt Ideal) ((c : Thread nD τ).loc (Pipeline.arrRef spec0 3))) := by
  show (cfg0.win 3).cut (grid0.coords t) ((dats m 0 c).after 3 t) = _
  rw [(after0_3 m c t).trans ((out3 _ _).trans (iblk1 m c t))]
  generalize bD m c = G
  refine funext fun y => ?_
  show G _ = G _
  refine congrArg G (funext fun a => Fin.ext ?_)
  show (y a).val = win0_3.index t a * win0_3.size a + 1 * (y a).val
  rw [show win0_3.index t a * win0_3.size a = 0 from Nat.zero_mul _]; omega

theorem cover3 (i : S800x300x96.Idx) :
    ∃ t : Fin cfg0.N, (cfg0.win 3).flush t = true ∧ i ∈ ((cfg0.win 3).blk t).view.set := by
  refine ⟨t0_0, flush0_3 t0_0, ?_⟩
  show i ∈ ((View.whole (Pipeline.arrRef spec0 3)).slice (win0_3.rect t0_0)).set
  rw [View.set_slice_whole, Rect.mem_set_unit]
  intro a
  show win0_3.index t0_0 a * win0_3.size a ≤ (i a : Nat) ∧ (i a : Nat) < win0_3.index t0_0 a * win0_3.size a + win0_3.xsize (grid0.coords t0_0) a
  rw [show win0_3.index t0_0 a * win0_3.size a = 0 from Nat.zero_mul _]
  have e : ∀ a, win0_3.xsize (grid0.coords t0_0) a = S800x300x96.size a := by decide
  rw [e a]
  have := (i a).isLt
  omega

/-- The region leaves the documents' codes, as numbers. -/
theorem reg_bD (c : Dev nD) : reg_main_v0_1 m c = bD m c :=
  (dats m 0 c).arrAt_eq_of_cover 3 (bD m c) (fun t ht => flushed3 m c t) cover3

/-! ## The run -/

/-- The scores. -/
abbrev refScores (c : Dev nD) : FVec Ideal S4x800 .f32 :=
  val_main_v18 (F := Ideal) (m ((c.tc : Thread nD τ).loc main_arg1)) (m ((c.tc : Thread nD τ).loc main_arg3)) (m ((c.tc : Thread nD τ).loc main_arg4)) (bQ m c) (bD m c)
/-- The losses. -/
abbrev refLoss (c : Dev nD) : FVec Ideal S4 .f32 :=
  val_main_v58 (F := Ideal) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (bQ m c) (bD m c)
/-- The divergences. -/
abbrev refKl (c : Dev nD) : FVec Ideal S4 .f32 :=
  val_main_v57 (F := Ideal) (m ((c.tc : Thread nD τ).loc main_arg1)) (m ((c.tc : Thread nD τ).loc main_arg3)) (m ((c.tc : Thread nD τ).loc main_arg4)) (m ((c.tc : Thread nD τ).loc main_arg6)) (bQ m c) (bD m c)
/-- The maxima. -/
abbrev refTok (c : Dev nD) : FVec Ideal S4x800x32 .f32 :=
  val_main_v17 (F := Ideal) (m ((c.tc : Thread nD τ).loc main_arg1)) (m ((c.tc : Thread nD τ).loc main_arg3)) (m ((c.tc : Thread nD τ).loc main_arg4)) (bQ m c) (bD m c)

theorem exit_bQ (c : Dev nD) : exitV m c (Proc.devRef .tc main_v0_0) = bQ m c := (exit_main_v0_0 m c).trans (reg_bQ m c)
theorem exit_bD (c : Dev nD) : exitV m c (Proc.devRef .tc main_v0_1) = bD m c := (exit_main_v0_1 m c).trans (reg_bD m c)

theorem scores_eq (c : Dev nD) : res_main_v18 (exitV m c) = refScores m c := by
  rw [val_main_v18_eq, exit_main_arg1, exit_main_arg3, exit_main_arg4, exit_bQ, exit_bD]

/-- The run: the four results, the arguments unchanged. -/
theorem run_value : θ_run defs (onTc (τ := τ) (main (F := Ideal))) ⟨m, fun _ => 0, ρ⟩ (fun r => ∀ c : Dev nD,
      r.2.mem ((c.tc : Thread nD τ).loc main_v18) = refScores m c
      ∧ r.2.mem ((c.tc : Thread nD τ).loc main_v58) = refLoss m c
      ∧ r.2.mem ((c.tc : Thread nD τ).loc main_v57) = refKl m c
      ∧ r.2.mem ((c.tc : Thread nD τ).loc main_v17) = refTok m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun _ h c => ?_) (Value.run m ρ)
  obtain ⟨h0, h1, h2, h3, h4⟩ := h c
  refine ⟨h0.trans (scores_eq m c), ?_, ?_, ?_, h4⟩
  · refine (h1.trans (val_main_v58_eq (exitV m c))).trans ?_
    rw [exit_main_arg1, exit_main_arg3, exit_main_arg4, exit_main_arg5, exit_main_arg6, exit_bQ, exit_bD]
  · refine (h2.trans (val_main_v57_eq (exitV m c))).trans ?_
    rw [exit_main_arg1, exit_main_arg3, exit_main_arg4, exit_main_arg6, exit_bQ, exit_bD]
  · refine (h3.trans (val_main_v17_eq (exitV m c))).trans ?_
    rw [exit_main_arg1, exit_main_arg3, exit_main_arg4, exit_bQ, exit_bD]

end Cert.ReferenceIdeal.Read
-- ==== Proof.Equal.lean ====
/- The results of the kernel and of the reference are equal, entry by entry. -/
module

public import proofs.«01_k».proof.Proof.IdealResult
public import proofs.«01_k».proof.Proof.RefRegion
public import proofs.«01_k».proof.Proof.Gen.Pre_in_range
public import proofs.«01_k».proof.Defs

@[expose] public section

set_option maxRecDepth 16384

noncomputable section

namespace Cert.Equal

open Idealize.ShloMosaic Idealize.ShloMosaic.TcCoe Idealize.ShloMosaic.Tactic
open Idealize.ShloMosaic.Rounds Idealize.ShloMosaic.ValueIdx
open Cert.Spec Cert.KernelIdeal.Gen Cert.KernelIdeal

/-! ## The preconditions -/

/-- A place from 0 to 799 is one of the documents'. -/
theorem place_of (p : BitVec 32) (h0 : (0#32).sle p = true) (h1 : p.slt 800#32 = true) : ∃ j : Fin 800, p = BitVec.ofNat 32 j.val := by
  rw [BitVec.sle_eq_decide, decide_eq_true_eq] at h0
  rw [BitVec.slt_eq_decide, decide_eq_true_eq] at h1
  have h0' : (0 : ℤ) ≤ p.toInt := h0
  have h1' : p.toInt < 800 := h1
  have e : p.toInt = p.toNat := by
    rw [BitVec.toInt_eq_toNat_cond] at h0' ⊢
    have := p.isLt
    split at h0' <;> split <;> omega
  refine ⟨⟨p.toNat, by omega⟩, ?_⟩
  exact (BitVec.ofNat_toNat 32 p).symm.trans rfl |>.trans rfl

variable (m : (ℓ : Loc nD τ sig) → Buf (Elt Ideal) ℓ)

theorem scales_nonneg (hp : Cert.Pre_KernelIdeal_in_range m) (c : Dev nD) (y : S4x32.Idx) : (0 : EReal) ≤ aQs m c y := by
  have h := congrFun (hp c).1 y
  have h' : BitVec.ofBool (decide ((Ideal.ofBits .f32 0x00000000#32 : EReal) ≤ aQs m c y)) = 1#1 := h
  rw [show (Ideal.ofBits .f32 0x00000000#32 : EReal) = 0 from Ideal.ofBits_zero_f32] at h'
  by_contra hn
  rw [decide_eq_false hn] at h'
  exact absurd h' (by decide)

theorem and_ones : ∀ a b : BitVec 1, a &&& b = 1#1 → a = 1#1 ∧ b = 1#1 := by decide

theorem places (hp : Cert.Pre_KernelIdeal_in_range m) (c : Dev nD) (b : Fin 4) : ∃ j : Fin 800, aPos m c (ix1 b) = BitVec.ofNat 32 j.val := by
  have h := congrFun (hp c).2 (ix1 b)
  have h' : BitVec.ofBool ((0#32).sle (aPos m c (ix1 b))) &&& BitVec.ofBool ((aPos m c (ix1 b)).slt 800#32) = 1#1 := h
  obtain ⟨ha, hb⟩ := and_ones _ _ h'
  refine place_of _ ?_ ?_
  · cases hs : (0#32).sle (aPos m c (ix1 b))
    · rw [hs] at ha; exact absurd ha (by decide)
    · rfl
  · cases hs : (aPos m c (ix1 b)).slt 800#32
    · rw [hs] at hb; exact absurd hb (by decide)
    · rfl

/-! ## The maxima -/

/-- What the reference maximises over the tokens of document `j`. -/
def refTerm (c : Dev nD) (b : Fin 4) (r : Fin 32) (j : Fin 800) (s : Fin 300) : EReal :=
  if (s.val : ℤ) < lenAt m c j then ((∑ k : Fin 96, aD m c (ix3 j s k) * aQ m c (ix3 b r k)) * aQs m c (ix2 b r)) * aDs m c (ix2 j s) else ⊥

theorem refTerm_eq (c : Dev nD) (b : Fin 4) (r : Fin 32) (j : Fin 800) (s : Fin 300) (h : (s.val : ℤ) < lenAt m c j) :
    refTerm m c b r j s = sim m c b r j s * aQs m c (ix2 b r) := by
  unfold refTerm sim
  rw [if_pos h, mul_right_comm]
  refine congrArg (fun x : EReal => x * aDs m c (ix2 j s) * aQs m c (ix2 b r)) (Finset.sum_congr rfl fun k _ => mul_comm _ _)

theorem tok_eq (c : Dev nD) (hq : ∀ y, (0 : EReal) ≤ aQs m c y) (b : Fin 4) (r : Fin 32) (j : Fin 800) :
    Cert.KernelIdeal.Gen.tokE (accAt m c last.val last.isLt) (iblk m c 1 last) (iblk m c 4 last) b r j = rowMax (refTerm m c b r j) := by
  unfold Cert.KernelIdeal.Gen.tokE
  rw [len_apply, iblk_qs]
  by_cases hl : (aLen m c (ix1 j)).toInt ≤ 0
  · rw [if_pos hl]
    refine le_antisymm bot_le (rowMax_le fun s => ?_)
    unfold refTerm
    rw [if_neg (fun h => by unfold lenAt at h; omega)]
  · rw [if_neg hl]
    obtain ⟨hu, s, hs, e⟩ := acc_max m c hq b r j last rfl (by unfold lenAt; omega)
    refine le_antisymm ?_ (rowMax_le fun s' => ?_)
    · rw [e, ← refTerm_eq m c b r j s hs]
      exact le_rowMax _ s
    · by_cases h : (s'.val : ℤ) < lenAt m c j
      · rw [refTerm_eq m c b r j s' h]
        exact mul_le_mul_of_nonneg_right (hu s' h) (hq _)
      · unfold refTerm
        rw [if_neg h]
        exact bot_le

/-! ## The results -/

section
variable (m' : (ℓ : Loc Cert.ReferenceIdeal.nD Cert.ReferenceIdeal.τ Cert.ReferenceIdeal.sig) → Buf (Elt Ideal) ℓ)

/-- The two programs have the same arguments. -/
def Agree : Prop := ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)

variable {m} {m'} (hm : Agree m m') (hp : Cert.Pre_KernelIdeal_in_range m)
include hm

theorem refTok_apply (c : Dev nD) (b : Fin 4) (n : Fin 800) (r : Fin 32) :
    Cert.ReferenceIdeal.Read.refTok m' c (ix3 b n r) = rowMax (refTerm m c b r n) := by
  obtain ⟨h0, h1, h2, h3, h4, h5, h6⟩ := hm c
  refine (Cert.ReferenceIdeal.Read.tok_apply _ _ _ _ _ b n r).trans ?_
  unfold Cert.ReferenceIdeal.Read.bQ Cert.ReferenceIdeal.Read.bD
  rw [h0, h1, h2, h3, h4]
  rfl

theorem refScores_apply (c : Dev nD) (b : Fin 4) (n : Fin 800) :
    Cert.ReferenceIdeal.Read.refScores m' c (ix2 b n) = ∑ r : Fin 32, rowMax (refTerm m c b r n) :=
  (Cert.ReferenceIdeal.Read.score_apply _ _ _ _ _ b n).trans (Finset.sum_congr rfl fun r _ => refTok_apply hm c b n r)

include hp

theorem tok (c : Dev nD) : resTokT m c = Cert.ReferenceIdeal.Read.refTok m' c := by
  have key : ∀ (b : Fin 4) (n : Fin 800) (r : Fin 32), resTokT m c (ix3 b n r) = Cert.ReferenceIdeal.Read.refTok m' c (ix3 b n r) := fun b n r => by
    rw [refTok_apply hm, ← tok_eq m c (scales_nonneg m hp c)]
    unfold resTokT resTok
    refine (transpose_apply _ _ _ _ (ix3 b r n) fun a => ?_).trans (outTok_apply _ _ _ (by rw [iblk_qs]; exact scales_nonneg m hp c) b r n)
    match a with
    | ⟨0, _⟩ => rfl
    | ⟨1, _⟩ => rfl
    | ⟨2, _⟩ => rfl
  funext i
  have hi : i = ix3 (i 0 : Fin 4) (i 1 : Fin 800) (i 2 : Fin 32) := funext fun a => match a with
    | ⟨0, _⟩ => rfl
    | ⟨1, _⟩ => rfl
    | ⟨2, _⟩ => rfl
  exact (congrArg (resTokT m c) hi).trans ((key (i 0) (i 1) (i 2)).trans (congrArg (Cert.ReferenceIdeal.Read.refTok m' c) hi.symm))

theorem score_apply (c : Dev nD) (b : Fin 4) (n : Fin 800) :
    scoresV (accAt m c last.val last.isLt) (iblk m c 1 last) (iblk m c 4 last) (ix2 b n) = Cert.ReferenceIdeal.Read.refScores m' c (ix2 b n) := by
  rw [refScores_apply hm, scoresV_apply _ _ _ (by rw [iblk_qs]; exact scales_nonneg m hp c)]
  exact Finset.sum_congr rfl fun r _ => tok_eq m c (scales_nonneg m hp c) b r n

theorem scores (c : Dev nD) : resScores m c = Cert.ReferenceIdeal.Read.refScores m' c := by
  funext i
  have hi : i = ix2 (i 0 : Fin 4) (i 1 : Fin 800) := funext fun a => match a with
    | ⟨0, _⟩ => rfl
    | ⟨1, _⟩ => rfl
  exact (congrArg (resScores m c) hi).trans ((score_apply hm hp c (i 0) (i 1)).trans (congrArg (Cert.ReferenceIdeal.Read.refScores m' c) hi.symm))

theorem kl_apply (c : Dev nD) (b : Fin 4) :
    klV (scoresV (accAt m c last.val last.isLt) (iblk m c 1 last) (iblk m c 4 last)) (iblk m c 6 last) (ix2 b (0 : Fin 1))
      = klE (fun i => Cert.ReferenceIdeal.Read.refScores m' c (ix2 b (own b i))) fun i => aTe m c (ix2 b i) := by
  rw [klV_apply, iblk_te]
  exact congrArg (fun f => klE f fun i => aTe m c (ix2 b i)) (funext fun i => score_apply hm hp c b (own b i))

theorem kl (c : Dev nD) : resKl m c = Cert.ReferenceIdeal.Read.refKl m' c := by
  have key : ∀ b : Fin 4, resKl m c (ix1 b) = Cert.ReferenceIdeal.Read.refKl m' c (ix1 b) := fun b => by
    unfold resKl
    rw [outKl_apply, kl_apply hm hp]
    refine Eq.trans ?_ (Cert.ReferenceIdeal.Read.kl_apply _ _ _ _ _ _ b).symm
    rw [(hm c).2.2.2.2.2.2]
  funext i
  have hi : i = ix1 (i 0 : Fin 4) := funext fun a => match a with
    | ⟨0, _⟩ => rfl
  exact (congrArg (resKl m c) hi).trans ((key (i 0)).trans (congrArg (Cert.ReferenceIdeal.Read.refKl m' c) hi.symm))

theorem loss (c : Dev nD) : resLoss m c = Cert.ReferenceIdeal.Read.refLoss m' c := by
  have key : ∀ b : Fin 4, resLoss m c (ix1 b) = Cert.ReferenceIdeal.Read.refLoss m' c (ix1 b) := fun b => by
    obtain ⟨j, hj⟩ := places m hp c b
    have h5 := (hm c).2.2.2.2.2.1
    unfold resLoss
    rw [outLoss_apply, lossV_apply, kl_apply hm hp, ceV_apply, posAt_apply, iblk_pos]
    refine Eq.trans ?_ (Cert.ReferenceIdeal.Read.loss_apply _ _ _ _ _ _ _ (fun b => by rw [h5]; exact places m hp c b) b j (by rw [h5]; exact hj)).symm
    rw [(hm c).2.2.2.2.2.2]
    refine congrArg₂ (fun x y : EReal => x - y + _) (congrArg lseE (funext fun n => score_apply hm hp c b n)) ?_
    exact (sum_at _ j hj _).trans (score_apply hm hp c b j)
  funext i
  have hi : i = ix1 (i 0 : Fin 4) := funext fun a => match a with
    | ⟨0, _⟩ => rfl
  exact (congrArg (resLoss m c) hi).trans ((key (i 0)).trans (congrArg (Cert.ReferenceIdeal.Read.refLoss m' c) hi.symm))

end

end Cert.Equal
-- ==== Proof.lean ====
module

public import proofs.«01_k».proof.Proof.Gen.ReferenceIdeal.Run
public import proofs.«01_k».proof.Proof.Gen.ReferenceIdeal.Read
public import proofs.«01_k».proof.Proof.KernelFrame
public import proofs.«01_k».proof.Proof.IdealFrame
public import proofs.«01_k».proof.Proof.Equal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

/-- The kernel's four results are the reference's. -/
theorem algebraic : Cert.algebraic_KernelIdeal_ReferenceIdeal_pre_in_range := fun m g m' g' hp hm =>
  ⟨fun c => Cert.KernelIdeal.Gen.resScores m c, fun c => Cert.KernelIdeal.Gen.resLoss m c, fun c => Cert.KernelIdeal.Gen.resKl m c,
    fun c => Cert.KernelIdeal.Gen.resTokT m c, Cert.KernelIdeal.Gen.run_value m g,
    (θ_run Cert.ReferenceIdeal.defs _ _).mono (fun _ h c => by
      obtain ⟨h0, h1, h2, h3, h4⟩ := h c
      exact ⟨h0.trans (Cert.Equal.scores hm hp c).symm, h1.trans (Cert.Equal.loss hm hp c).symm,
        h2.trans (Cert.Equal.kl hm hp c).symm, h3.trans (Cert.Equal.tok hm hp c).symm, h4⟩) (Cert.ReferenceIdeal.Read.run_value m' g')⟩

theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
